-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def Pre_Ungate (m : (ℓ : Loc Cert.Ungate.nD Cert.Ungate.τ Cert.Ungate.sig) → Buf (Elt Bits) ℓ) : Prop :=
  True

def Pre_UngateIdeal (m : (ℓ : Loc Cert.UngateIdeal.nD Cert.UngateIdeal.τ Cert.UngateIdeal.sig) → Buf (Elt Ideal) ℓ) : Prop :=
  True

def Pre_UngateReferenceIdeal (m : (ℓ : Loc Cert.UngateReferenceIdeal.nD Cert.UngateReferenceIdeal.τ Cert.UngateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4))
      ∧ r.2.sem = fun _ => 0)

def quiescent_Ungate [hUngate : Cert.Ungate.Facts] : Prop :=
  ∀ (m : (ℓ : Loc Cert.Ungate.nD Cert.Ungate.τ Cert.Ungate.sig) → Buf (Elt Bits) ℓ) (g : Dev Cert.Ungate.nD → PrngReg), Pre_Ungate m →
    θ_run (Cert.Ungate.defs (F := Bits)) (onTc (τ := Cert.Ungate.τ) (Cert.Ungate.main (F := Bits))) ⟨m, fun _ => 0, g⟩ (fun r => (∀ c : Dev Cert.Ungate.nD,
      r.2.mem ((c.tc : Thread Cert.Ungate.nD Cert.Ungate.τ).loc Cert.Ungate.main_arg0) = m ((c.tc : Thread Cert.Ungate.nD Cert.Ungate.τ).loc Cert.Ungate.main_arg0)
      ∧ r.2.mem ((c.tc : Thread Cert.Ungate.nD Cert.Ungate.τ).loc Cert.Ungate.main_arg1) = m ((c.tc : Thread Cert.Ungate.nD Cert.Ungate.τ).loc Cert.Ungate.main_arg1)
      ∧ r.2.mem ((c.tc : Thread Cert.Ungate.nD Cert.Ungate.τ).loc Cert.Ungate.main_arg2) = m ((c.tc : Thread Cert.Ungate.nD Cert.Ungate.τ).loc Cert.Ungate.main_arg2)
      ∧ r.2.mem ((c.tc : Thread Cert.Ungate.nD Cert.Ungate.τ).loc Cert.Ungate.main_arg3) = m ((c.tc : Thread Cert.Ungate.nD Cert.Ungate.τ).loc Cert.Ungate.main_arg3)
      ∧ r.2.mem ((c.tc : Thread Cert.Ungate.nD Cert.Ungate.τ).loc Cert.Ungate.main_arg4) = m ((c.tc : Thread Cert.Ungate.nD Cert.Ungate.τ).loc Cert.Ungate.main_arg4)
      ∧ r.2.mem ((c.tc : Thread Cert.Ungate.nD Cert.Ungate.τ).loc Cert.Ungate.main_arg5) = m ((c.tc : Thread Cert.Ungate.nD Cert.Ungate.τ).loc Cert.Ungate.main_arg5))
      ∧ r.2.sem = fun _ => 0)

def quiescent_UngateIdeal [hUngateIdeal : Cert.UngateIdeal.Facts] : Prop :=
  ∀ (m : (ℓ : Loc Cert.UngateIdeal.nD Cert.UngateIdeal.τ Cert.UngateIdeal.sig) → Buf (Elt Ideal) ℓ) (g : Dev Cert.UngateIdeal.nD → PrngReg), Pre_UngateIdeal m →
    θ_run (Cert.UngateIdeal.defs (F := Ideal)) (onTc (τ := Cert.UngateIdeal.τ) (Cert.UngateIdeal.main (F := Ideal))) ⟨m, fun _ => 0, g⟩ (fun r => (∀ c : Dev Cert.UngateIdeal.nD,
      r.2.mem ((c.tc : Thread Cert.UngateIdeal.nD Cert.UngateIdeal.τ).loc Cert.UngateIdeal.main_arg0) = m ((c.tc : Thread Cert.UngateIdeal.nD Cert.UngateIdeal.τ).loc Cert.UngateIdeal.main_arg0)
      ∧ r.2.mem ((c.tc : Thread Cert.UngateIdeal.nD Cert.UngateIdeal.τ).loc Cert.UngateIdeal.main_arg1) = m ((c.tc : Thread Cert.UngateIdeal.nD Cert.UngateIdeal.τ).loc Cert.UngateIdeal.main_arg1)
      ∧ r.2.mem ((c.tc : Thread Cert.UngateIdeal.nD Cert.UngateIdeal.τ).loc Cert.UngateIdeal.main_arg2) = m ((c.tc : Thread Cert.UngateIdeal.nD Cert.UngateIdeal.τ).loc Cert.UngateIdeal.main_arg2)
      ∧ r.2.mem ((c.tc : Thread Cert.UngateIdeal.nD Cert.UngateIdeal.τ).loc Cert.UngateIdeal.main_arg3) = m ((c.tc : Thread Cert.UngateIdeal.nD Cert.UngateIdeal.τ).loc Cert.UngateIdeal.main_arg3)
      ∧ r.2.mem ((c.tc : Thread Cert.UngateIdeal.nD Cert.UngateIdeal.τ).loc Cert.UngateIdeal.main_arg4) = m ((c.tc : Thread Cert.UngateIdeal.nD Cert.UngateIdeal.τ).loc Cert.UngateIdeal.main_arg4)
      ∧ r.2.mem ((c.tc : Thread Cert.UngateIdeal.nD Cert.UngateIdeal.τ).loc Cert.UngateIdeal.main_arg5) = m ((c.tc : Thread Cert.UngateIdeal.nD Cert.UngateIdeal.τ).loc Cert.UngateIdeal.main_arg5))
      ∧ r.2.sem = fun _ => 0)

def quiescent_UngateReferenceIdeal [hUngateReferenceIdeal : Cert.UngateReferenceIdeal.Facts] : Prop :=
  ∀ (m : (ℓ : Loc Cert.UngateReferenceIdeal.nD Cert.UngateReferenceIdeal.τ Cert.UngateReferenceIdeal.sig) → Buf (Elt Ideal) ℓ) (g : Dev Cert.UngateReferenceIdeal.nD → PrngReg), Pre_UngateReferenceIdeal m →
    θ_run (Cert.UngateReferenceIdeal.defs (F := Ideal)) (onTc (τ := Cert.UngateReferenceIdeal.τ) (Cert.UngateReferenceIdeal.main (F := Ideal))) ⟨m, fun _ => 0, g⟩ (fun r => (∀ c : Dev Cert.UngateReferenceIdeal.nD,
      r.2.mem ((c.tc : Thread Cert.UngateReferenceIdeal.nD Cert.UngateReferenceIdeal.τ).loc Cert.UngateReferenceIdeal.main_arg0) = m ((c.tc : Thread Cert.UngateReferenceIdeal.nD Cert.UngateReferenceIdeal.τ).loc Cert.UngateReferenceIdeal.main_arg0)
      ∧ r.2.mem ((c.tc : Thread Cert.UngateReferenceIdeal.nD Cert.UngateReferenceIdeal.τ).loc Cert.UngateReferenceIdeal.main_arg1) = m ((c.tc : Thread Cert.UngateReferenceIdeal.nD Cert.UngateReferenceIdeal.τ).loc Cert.UngateReferenceIdeal.main_arg1)
      ∧ r.2.mem ((c.tc : Thread Cert.UngateReferenceIdeal.nD Cert.UngateReferenceIdeal.τ).loc Cert.UngateReferenceIdeal.main_arg2) = m ((c.tc : Thread Cert.UngateReferenceIdeal.nD Cert.UngateReferenceIdeal.τ).loc Cert.UngateReferenceIdeal.main_arg2)
      ∧ r.2.mem ((c.tc : Thread Cert.UngateReferenceIdeal.nD Cert.UngateReferenceIdeal.τ).loc Cert.UngateReferenceIdeal.main_arg3) = m ((c.tc : Thread Cert.UngateReferenceIdeal.nD Cert.UngateReferenceIdeal.τ).loc Cert.UngateReferenceIdeal.main_arg3)
      ∧ r.2.mem ((c.tc : Thread Cert.UngateReferenceIdeal.nD Cert.UngateReferenceIdeal.τ).loc Cert.UngateReferenceIdeal.main_arg4) = m ((c.tc : Thread Cert.UngateReferenceIdeal.nD Cert.UngateReferenceIdeal.τ).loc Cert.UngateReferenceIdeal.main_arg4)
      ∧ r.2.mem ((c.tc : Thread Cert.UngateReferenceIdeal.nD Cert.UngateReferenceIdeal.τ).loc Cert.UngateReferenceIdeal.main_arg5) = m ((c.tc : Thread Cert.UngateReferenceIdeal.nD Cert.UngateReferenceIdeal.τ).loc Cert.UngateReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 6656, 128]⟩ ⟨3, ![64, 6656, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![6656, 128]⟩ ⟨2, ![53248, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![6656, 128]⟩ ⟨2, ![53248, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![6656, 128]⟩ ⟨2, ![53248, 128]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v25)) (v2 : Buf (Elt Ideal) (((0 : Dev Cert.ReferenceIdeal.nD).tc : Thread Cert.ReferenceIdeal.nD Cert.ReferenceIdeal.τ).loc Cert.ReferenceIdeal.main_v6)) (v3 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![6656, 128]⟩ ⟨2, ![53248, 128]⟩ 0 8 c v0
          ∧ r.2.mem ((c.tc : Thread Cert.KernelIdeal.nD Cert.KernelIdeal.τ).loc Cert.KernelIdeal.main_v2_1) = Layout.block ⟨2, ![6656, 128]⟩ ⟨2, ![53248, 128]⟩ 0 8 c v1
          ∧ r.2.mem ((c.tc : Thread Cert.KernelIdeal.nD Cert.KernelIdeal.τ).loc Cert.KernelIdeal.main_v2_2) = Layout.block ⟨2, ![6656, 128]⟩ ⟨2, ![53248, 128]⟩ 0 8 c v2
          ∧ r.2.mem ((c.tc : Thread Cert.KernelIdeal.nD Cert.KernelIdeal.τ).loc Cert.KernelIdeal.main_v2_3) = Layout.block ⟨2, ![6656, 128]⟩ ⟨2, ![53248, 128]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v25) = v1
          ∧ r.2.mem (((0 : Dev Cert.ReferenceIdeal.nD).tc : Thread Cert.ReferenceIdeal.nD Cert.ReferenceIdeal.τ).loc Cert.ReferenceIdeal.main_v6) = v2
          ∧ r.2.mem (((0 : Dev Cert.ReferenceIdeal.nD).tc : Thread Cert.ReferenceIdeal.nD Cert.ReferenceIdeal.τ).loc Cert.ReferenceIdeal.main_v12) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![5920, 128]⟩ ⟨2, ![47360, 128]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![5920, 128]⟩ ⟨2, ![47360, 128]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)) (v5 : (c : Dev Cert.InprojIdeal.nD) → Buf (Elt Ideal) ((c.tc : Thread Cert.InprojIdeal.nD Cert.InprojIdeal.τ).loc Cert.InprojIdeal.main_v0_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_v0_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v61) = v0 c
          ∧ r.2.mem ((c.tc : Thread Cert.InprojReferenceIdeal.nD Cert.InprojReferenceIdeal.τ).loc Cert.InprojReferenceIdeal.main_v39) = v1 c
          ∧ r.2.mem ((c.tc : Thread Cert.InprojReferenceIdeal.nD Cert.InprojReferenceIdeal.τ).loc Cert.InprojReferenceIdeal.main_v35) = v2 c
          ∧ r.2.mem ((c.tc : Thread Cert.InprojReferenceIdeal.nD Cert.InprojReferenceIdeal.τ).loc Cert.InprojReferenceIdeal.main_v31) = v3 c
          ∧ r.2.mem ((c.tc : Thread Cert.InprojReferenceIdeal.nD Cert.InprojReferenceIdeal.τ).loc Cert.InprojReferenceIdeal.main_v28) = v4 c
          ∧ r.2.mem ((c.tc : Thread Cert.InprojReferenceIdeal.nD Cert.InprojReferenceIdeal.τ).loc Cert.InprojReferenceIdeal.main_v44) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v13) = v0 c
          ∧ r.2.mem ((c.tc : Thread Cert.ProjectReferenceIdeal.nD Cert.ProjectReferenceIdeal.τ).loc Cert.ProjectReferenceIdeal.main_v15) = v1 c
          ∧ r.2.mem ((c.tc : Thread Cert.ProjectReferenceIdeal.nD Cert.ProjectReferenceIdeal.τ).loc Cert.ProjectReferenceIdeal.main_v17) = v2 c
          ∧ r.2.mem ((c.tc : Thread Cert.ProjectReferenceIdeal.nD Cert.ProjectReferenceIdeal.τ).loc Cert.ProjectReferenceIdeal.main_v19) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v0)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v0) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v56) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4))

def preserves_Ungate_UngateIdeal : Prop :=
  True

def algebraic_UngateIdeal_UngateReferenceIdeal [hUngateIdeal : Cert.UngateIdeal.Facts] [hUngateReferenceIdeal : Cert.UngateReferenceIdeal.Facts] : Prop :=
  ∀ (m : (ℓ : Loc Cert.UngateIdeal.nD Cert.UngateIdeal.τ Cert.UngateIdeal.sig) → Buf (Elt Ideal) ℓ) (g : Dev Cert.UngateIdeal.nD → PrngReg)
    (m' : (ℓ : Loc Cert.UngateReferenceIdeal.nD Cert.UngateReferenceIdeal.τ Cert.UngateReferenceIdeal.sig) → Buf (Elt Ideal) ℓ) (g' : Dev Cert.UngateReferenceIdeal.nD → PrngReg), Pre_UngateIdeal m →
    (∀ c : Dev Cert.UngateIdeal.nD,
      m' ((c.tc : Thread Cert.UngateReferenceIdeal.nD Cert.UngateReferenceIdeal.τ).loc Cert.UngateReferenceIdeal.main_arg0) = m ((c.tc : Thread Cert.UngateIdeal.nD Cert.UngateIdeal.τ).loc Cert.UngateIdeal.main_arg0)
      ∧ m' ((c.tc : Thread Cert.UngateReferenceIdeal.nD Cert.UngateReferenceIdeal.τ).loc Cert.UngateReferenceIdeal.main_arg1) = m ((c.tc : Thread Cert.UngateIdeal.nD Cert.UngateIdeal.τ).loc Cert.UngateIdeal.main_arg1)
      ∧ m' ((c.tc : Thread Cert.UngateReferenceIdeal.nD Cert.UngateReferenceIdeal.τ).loc Cert.UngateReferenceIdeal.main_arg2) = m ((c.tc : Thread Cert.UngateIdeal.nD Cert.UngateIdeal.τ).loc Cert.UngateIdeal.main_arg2)
      ∧ m' ((c.tc : Thread Cert.UngateReferenceIdeal.nD Cert.UngateReferenceIdeal.τ).loc Cert.UngateReferenceIdeal.main_arg3) = m ((c.tc : Thread Cert.UngateIdeal.nD Cert.UngateIdeal.τ).loc Cert.UngateIdeal.main_arg3)
      ∧ m' ((c.tc : Thread Cert.UngateReferenceIdeal.nD Cert.UngateReferenceIdeal.τ).loc Cert.UngateReferenceIdeal.main_arg4) = m ((c.tc : Thread Cert.UngateIdeal.nD Cert.UngateIdeal.τ).loc Cert.UngateIdeal.main_arg4)
      ∧ m' ((c.tc : Thread Cert.UngateReferenceIdeal.nD Cert.UngateReferenceIdeal.τ).loc Cert.UngateReferenceIdeal.main_arg5) = m ((c.tc : Thread Cert.UngateIdeal.nD Cert.UngateIdeal.τ).loc Cert.UngateIdeal.main_arg5)) →
    ∃ (v0 : (c : Dev Cert.UngateIdeal.nD) → Buf (Elt Ideal) ((c.tc : Thread Cert.UngateIdeal.nD Cert.UngateIdeal.τ).loc Cert.UngateIdeal.main_v0_0)) (v1 : (c : Dev Cert.UngateIdeal.nD) → Buf (Elt Ideal) ((c.tc : Thread Cert.UngateIdeal.nD Cert.UngateIdeal.τ).loc Cert.UngateIdeal.main_v0_1)) (v2 : (c : Dev Cert.UngateIdeal.nD) → Buf (Elt Ideal) ((c.tc : Thread Cert.UngateIdeal.nD Cert.UngateIdeal.τ).loc Cert.UngateIdeal.main_v0_2)) (v3 : (c : Dev Cert.UngateIdeal.nD) → Buf (Elt Ideal) ((c.tc : Thread Cert.UngateIdeal.nD Cert.UngateIdeal.τ).loc Cert.UngateIdeal.main_v0_3)) (v4 : (c : Dev Cert.UngateIdeal.nD) → Buf (Elt Ideal) ((c.tc : Thread Cert.UngateIdeal.nD Cert.UngateIdeal.τ).loc Cert.UngateIdeal.main_v0_4)),
      θ_run (Cert.UngateIdeal.defs (F := Ideal)) (onTc (τ := Cert.UngateIdeal.τ) (Cert.UngateIdeal.main (F := Ideal))) ⟨m, fun _ => 0, g⟩ (fun r => ∀ c : Dev Cert.UngateIdeal.nD,
          r.2.mem ((c.tc : Thread Cert.UngateIdeal.nD Cert.UngateIdeal.τ).loc Cert.UngateIdeal.main_v0_0) = v0 c
          ∧ r.2.mem ((c.tc : Thread Cert.UngateIdeal.nD Cert.UngateIdeal.τ).loc Cert.UngateIdeal.main_v0_1) = v1 c
          ∧ r.2.mem ((c.tc : Thread Cert.UngateIdeal.nD Cert.UngateIdeal.τ).loc Cert.UngateIdeal.main_v0_2) = v2 c
          ∧ r.2.mem ((c.tc : Thread Cert.UngateIdeal.nD Cert.UngateIdeal.τ).loc Cert.UngateIdeal.main_v0_3) = v3 c
          ∧ r.2.mem ((c.tc : Thread Cert.UngateIdeal.nD Cert.UngateIdeal.τ).loc Cert.UngateIdeal.main_v0_4) = v4 c
          ∧ r.2.mem ((c.tc : Thread Cert.UngateIdeal.nD Cert.UngateIdeal.τ).loc Cert.UngateIdeal.main_arg0) = m ((c.tc : Thread Cert.UngateIdeal.nD Cert.UngateIdeal.τ).loc Cert.UngateIdeal.main_arg0)
          ∧ r.2.mem ((c.tc : Thread Cert.UngateIdeal.nD Cert.UngateIdeal.τ).loc Cert.UngateIdeal.main_arg1) = m ((c.tc : Thread Cert.UngateIdeal.nD Cert.UngateIdeal.τ).loc Cert.UngateIdeal.main_arg1)
          ∧ r.2.mem ((c.tc : Thread Cert.UngateIdeal.nD Cert.UngateIdeal.τ).loc Cert.UngateIdeal.main_arg2) = m ((c.tc : Thread Cert.UngateIdeal.nD Cert.UngateIdeal.τ).loc Cert.UngateIdeal.main_arg2)
          ∧ r.2.mem ((c.tc : Thread Cert.UngateIdeal.nD Cert.UngateIdeal.τ).loc Cert.UngateIdeal.main_arg3) = m ((c.tc : Thread Cert.UngateIdeal.nD Cert.UngateIdeal.τ).loc Cert.UngateIdeal.main_arg3)
          ∧ r.2.mem ((c.tc : Thread Cert.UngateIdeal.nD Cert.UngateIdeal.τ).loc Cert.UngateIdeal.main_arg4) = m ((c.tc : Thread Cert.UngateIdeal.nD Cert.UngateIdeal.τ).loc Cert.UngateIdeal.main_arg4)
          ∧ r.2.mem ((c.tc : Thread Cert.UngateIdeal.nD Cert.UngateIdeal.τ).loc Cert.UngateIdeal.main_arg5) = m ((c.tc : Thread Cert.UngateIdeal.nD Cert.UngateIdeal.τ).loc Cert.UngateIdeal.main_arg5))
      ∧ θ_run (Cert.UngateReferenceIdeal.defs (F := Ideal)) (onTc (τ := Cert.UngateReferenceIdeal.τ) (Cert.UngateReferenceIdeal.main (F := Ideal))) ⟨m', fun _ => 0, g'⟩ (fun r => ∀ c : Dev Cert.UngateReferenceIdeal.nD,
          r.2.mem ((c.tc : Thread Cert.UngateReferenceIdeal.nD Cert.UngateReferenceIdeal.τ).loc Cert.UngateReferenceIdeal.main_v137) = v0 c
          ∧ r.2.mem ((c.tc : Thread Cert.UngateReferenceIdeal.nD Cert.UngateReferenceIdeal.τ).loc Cert.UngateReferenceIdeal.main_v102) = v1 c
          ∧ r.2.mem ((c.tc : Thread Cert.UngateReferenceIdeal.nD Cert.UngateReferenceIdeal.τ).loc Cert.UngateReferenceIdeal.main_v95) = v2 c
          ∧ r.2.mem ((c.tc : Thread Cert.UngateReferenceIdeal.nD Cert.UngateReferenceIdeal.τ).loc Cert.UngateReferenceIdeal.main_v91) = v3 c
          ∧ r.2.mem ((c.tc : Thread Cert.UngateReferenceIdeal.nD Cert.UngateReferenceIdeal.τ).loc Cert.UngateReferenceIdeal.main_v86) = v4 c
          ∧ r.2.mem ((c.tc : Thread Cert.UngateReferenceIdeal.nD Cert.UngateReferenceIdeal.τ).loc Cert.UngateReferenceIdeal.main_arg0) = m' ((c.tc : Thread Cert.UngateReferenceIdeal.nD Cert.UngateReferenceIdeal.τ).loc Cert.UngateReferenceIdeal.main_arg0)
          ∧ r.2.mem ((c.tc : Thread Cert.UngateReferenceIdeal.nD Cert.UngateReferenceIdeal.τ).loc Cert.UngateReferenceIdeal.main_arg1) = m' ((c.tc : Thread Cert.UngateReferenceIdeal.nD Cert.UngateReferenceIdeal.τ).loc Cert.UngateReferenceIdeal.main_arg1)
          ∧ r.2.mem ((c.tc : Thread Cert.UngateReferenceIdeal.nD Cert.UngateReferenceIdeal.τ).loc Cert.UngateReferenceIdeal.main_arg2) = m' ((c.tc : Thread Cert.UngateReferenceIdeal.nD Cert.UngateReferenceIdeal.τ).loc Cert.UngateReferenceIdeal.main_arg2)
          ∧ r.2.mem ((c.tc : Thread Cert.UngateReferenceIdeal.nD Cert.UngateReferenceIdeal.τ).loc Cert.UngateReferenceIdeal.main_arg3) = m' ((c.tc : Thread Cert.UngateReferenceIdeal.nD Cert.UngateReferenceIdeal.τ).loc Cert.UngateReferenceIdeal.main_arg3)
          ∧ r.2.mem ((c.tc : Thread Cert.UngateReferenceIdeal.nD Cert.UngateReferenceIdeal.τ).loc Cert.UngateReferenceIdeal.main_arg4) = m' ((c.tc : Thread Cert.UngateReferenceIdeal.nD Cert.UngateReferenceIdeal.τ).loc Cert.UngateReferenceIdeal.main_arg4)
          ∧ r.2.mem ((c.tc : Thread Cert.UngateReferenceIdeal.nD Cert.UngateReferenceIdeal.τ).loc Cert.UngateReferenceIdeal.main_arg5) = m' ((c.tc : Thread Cert.UngateReferenceIdeal.nD Cert.UngateReferenceIdeal.τ).loc Cert.UngateReferenceIdeal.main_arg5))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hInproj : Cert.Inproj.Facts) (hInprojIdeal : Cert.InprojIdeal.Facts) (hInprojReferenceIdeal : Cert.InprojReferenceIdeal.Facts) (hProject : Cert.Project.Facts) (hProjectIdeal : Cert.ProjectIdeal.Facts) (hProjectReferenceIdeal : Cert.ProjectReferenceIdeal.Facts) (hGating : Cert.Gating.Facts) (hGatingIdeal : Cert.GatingIdeal.Facts) (hGatingReferenceIdeal : Cert.GatingReferenceIdeal.Facts) (hUngate : Cert.Ungate.Facts) (hUngateIdeal : Cert.UngateIdeal.Facts) (hUngateReferenceIdeal : Cert.UngateReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Gating (hGating := hGating)
    ∧ quiescent_GatingIdeal (hGatingIdeal := hGatingIdeal)
    ∧ quiescent_GatingReferenceIdeal (hGatingReferenceIdeal := hGatingReferenceIdeal)
    ∧ quiescent_Ungate (hUngate := hUngate)
    ∧ quiescent_UngateIdeal (hUngateIdeal := hUngateIdeal)
    ∧ quiescent_UngateReferenceIdeal (hUngateReferenceIdeal := hUngateReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Inproj_InprojIdeal
    ∧ algebraic_InprojIdeal_InprojReferenceIdeal (hInprojIdeal := hInprojIdeal) (hInprojReferenceIdeal := hInprojReferenceIdeal)
    ∧ preserves_Project_ProjectIdeal
    ∧ algebraic_ProjectIdeal_ProjectReferenceIdeal (hProjectIdeal := hProjectIdeal) (hProjectReferenceIdeal := hProjectReferenceIdeal)
    ∧ preserves_Gating_GatingIdeal
    ∧ algebraic_GatingIdeal_GatingReferenceIdeal (hGatingIdeal := hGatingIdeal) (hGatingReferenceIdeal := hGatingReferenceIdeal)
    ∧ preserves_Ungate_UngateIdeal
    ∧ algebraic_UngateIdeal_UngateReferenceIdeal (hUngateIdeal := hUngateIdeal) (hUngateReferenceIdeal := hUngateReferenceIdeal)
-- ==== Kernel.lean ====
abbrev S8x6656x128 : Shape := ⟨3, ![8, 6656, 128]⟩
abbrev S6656x128 : Shape := ⟨2, ![6656, 128]⟩
abbrev S7 : Shape := ⟨1, ![7]⟩
abbrev S_ : Shape := ⟨0, ![]⟩
abbrev S1x6656x128 : Shape := ⟨3, ![1, 6656, 128]⟩
abbrev S1 : Shape := ⟨1, ![1]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 9
  | .vmem => 16
  | .smem => 0
  | _ => 0

abbrev bufTy : (tb : Table) → Fin (tcTables nBuf tb) → BufTy
  | .hbm, ⟨0, _⟩ => ⟨S8x6656x128, .f32⟩
  | .hbm, ⟨1, _⟩ => ⟨S6656x128, .f32⟩
  | .hbm, ⟨2, _⟩ => ⟨S6656x128, .f32⟩
  | .hbm, ⟨3, _⟩ => ⟨S6656x128, .f32⟩
  | .hbm, ⟨4, _⟩ => ⟨S8x6656x128, .f32⟩
  | .hbm, ⟨5, _⟩ => ⟨S6656x128, .f32⟩
  | .hbm, ⟨6, _⟩ => ⟨S6656x128, .f32⟩
  | .hbm, ⟨7, _⟩ => ⟨S6656x128, .f32⟩
  | .hbm, ⟨8, _⟩ => ⟨S6656x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x6656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32 : BitVec 32 := 0#32
  let c0_i32_5 : BitVec 32 := 0#32
  ![v12.toNat, 0, 0]
def k0_off2 (d0 : Dev nD) : Fin 3 → Nat :=
  let c4_i32_15 : BitVec 32 := 4#32
  let v17 : BitVec 32 := Dev.word d0
  let c4_i32_9 : BitVec 32 := 4#32
  let v18 : BitVec 32 := Scalar.divsi v17 c4_i32_9
  let c2_i32_8 : BitVec 32 := 2#32
  let v19 : BitVec 32 := Scalar.remsi v18 c2_i32_8
  let v27 : BitVec 32 := Scalar.muli c4_i32_15 v19
  let c2_i32_16 : BitVec 32 := 2#32
  let v20 : BitVec 32 := Dev.word d0
  let c2_i32_11 : BitVec 32 := 2#32
  let v21 : BitVec 32 := Scalar.divsi v20 c2_i32_11
  let c2_i32_10 : BitVec 32 := 2#32
  let v22 : BitVec 32 := Scalar.remsi v21 c2_i32_10
  let v28 : BitVec 32 := Scalar.muli c2_i32_16 v22
  let v29 : BitVec 32 := Scalar.addi v27 v28
  let c1_i32_14 : BitVec 32 := 1#32
  let v23 : BitVec 32 := Dev.word d0
  let c1_i32_13 : BitVec 32 := 1#32
  let v24 : BitVec 32 := Scalar.divsi v23 c1_i32_13
  let c2_i32_12 : BitVec 32 := 2#32
  let v25 : BitVec 32 := Scalar.remsi v24 c2_i32_12
  let v26 : BitVec 32 := Scalar.subi c1_i32_14 v25
  let v30 : BitVec 32 := Scalar.addi v29 v26
  let c0_i32_25 : BitVec 32 := 0#32
  let c0_i32_26 : BitVec 32 := 0#32
  ![v30.toNat, 0, 0]
def k0_dev1 (d0 : Dev nD) : Nat :=
  let c0_i32_20 : BitVec 32 := 0#32
  let v17 : BitVec 32 := Dev.word d0
  let c4_i32_9 : BitVec 32 := 4#32
  let v18 : BitVec 32 := Scalar.divsi v17 c4_i32_9
  let c2_i32_8 : BitVec 32 := 2#32
  let v19 : BitVec 32 := Scalar.remsi v18 c2_i32_8
  let c4_i32_19 : BitVec 32 := 4#32
  let v31 : BitVec 32 := Scalar.muli v19 c4_i32_19
  let v32 : BitVec 32 := Scalar.addi c0_i32_20 v31
  let v20 : BitVec 32 := Dev.word d0
  let c2_i32_11 : BitVec 32 := 2#32
  let v21 : BitVec 32 := Scalar.divsi v20 c2_i32_11
  let c2_i32_10 : BitVec 32 := 2#32
  let v22 : BitVec 32 := Scalar.remsi v21 c2_i32_10
  let c2_i32_21 : BitVec 32 := 2#32
  let v33 : BitVec 32 := Scalar.muli v22 c2_i32_21
  let v34 : BitVec 32 := Scalar.addi v32 v33
  let c1_i32_14 : BitVec 32 := 1#32
  let v23 : BitVec 32 := Dev.word d0
  let c1_i32_13 : BitVec 32 := 1#32
  let v24 : BitVec 32 := Scalar.divsi v23 c1_i32_13
  let c2_i32_12 : BitVec 32 := 2#32
  let v25 : BitVec 32 := Scalar.remsi v24 c2_i32_12
  let v26 : BitVec 32 := Scalar.subi c1_i32_14 v25
  let c1_i32_22 : BitVec 32 := 1#32
  let v35 : BitVec 32 := Scalar.muli v26 c1_i32_22
  let v36 : BitVec 32 := Scalar.addi v34 v35
  v36.toNat
def k0_off3 (d0 : Dev nD) : Fin 3 → Nat :=
  let c4_i32_34 : BitVec 32 := 4#32
  let v45 : BitVec 32 := Dev.word d0
  let c4_i32_28 : BitVec 32 := 4#32
  let v46 : BitVec 32 := Scalar.divsi v45 c4_i32_28
  let c2_i32_27 : BitVec 32 := 2#32
  let v47 : BitVec 32 := Scalar.remsi v46 c2_i32_27
  let v55 : BitVec 32 := Scalar.muli c4_i32_34 v47
  let c2_i32_35 : BitVec 32 := 2#32
  let c1_i32_33 : BitVec 32 := 1#32
  let v48 : BitVec 32 := Dev.word d0
  let c2_i32_30 : BitVec 32 := 2#32
  let v49 : BitVec 32 := Scalar.divsi v48 c2_i32_30
  let c2_i32_29 : BitVec 32 := 2#32
  let v50 : BitVec 32 := Scalar.remsi v49 c2_i32_29
  let v54 : BitVec 32 := Scalar.subi c1_i32_33 v50
  let v56 : BitVec 32 := Scalar.muli c2_i32_35 v54
  let v57 : BitVec 32 := Scalar.addi v55 v56
  let v51 : BitVec 32 := Dev.word d0
  let c1_i32_32 : BitVec 32 := 1#32
  let v52 : BitVec 32 := Scalar.divsi v51 c1_i32_32
  let c2_i32_31 : BitVec 32 := 2#32
  let v53 : BitVec 32 := Scalar.remsi v52 c2_i32_31
  let v58 : BitVec 32 := Scalar.addi v57 v53
  let c0_i32_44 : BitVec 32 := 0#32
  let c0_i32_45 : BitVec 32 := 0#32
  ![v58.toNat, 0, 0]
def k0_dev2 (d0 : Dev nD) : Nat :=
  let c0_i32_39 : BitVec 32 := 0#32
  let v45 : BitVec 32 := Dev.word d0
  let c4_i32_28 : BitVec 32 := 4#32
  let v46 : BitVec 32 := Scalar.divsi v45 c4_i32_28
  let c2_i32_27 : BitVec 32 := 2#32
  let v47 : BitVec 32 := Scalar.remsi v46 c2_i32_27
  let c4_i32_38 : BitVec 32 := 4#32
  let v59 : BitVec 32 := Scalar.muli v47 c4_i32_38
  let v60 : BitVec 32 := Scalar.addi c0_i32_39 v59
  let c1_i32_33 : BitVec 32 := 1#32
  let v48 : BitVec 32 := Dev.word d0
  let c2_i32_30 : BitVec 32 := 2#32
  let v49 : BitVec 32 := Scalar.divsi v48 c2_i32_30
  let c2_i32_29 : BitVec 32 := 2#32
  let v50 : BitVec 32 := Scalar.remsi v49 c2_i32_29
  let v54 : BitVec 32 := Scalar.subi c1_i32_33 v50
  let c2_i32_40 : BitVec 32 := 2#32
  let v61 : BitVec 32 := Scalar.muli v54 c2_i32_40
  let v62 : BitVec 32 := Scalar.addi v60 v61
  let v51 : BitVec 32 := Dev.word d0
  let c1_i32_32 : BitVec 32 := 1#32
  let v52 : BitVec 32 := Scalar.divsi v51 c1_i32_32
  let c2_i32_31 : BitVec 32 := 2#32
  let v53 : BitVec 32 := Scalar.remsi v52 c2_i32_31
  let c1_i32_41 : BitVec 32 := 1#32
  let v63 : BitVec 32 := Scalar.muli v53 c1_i32_41
  let v64 : BitVec 32 := Scalar.addi v62 v63
  v64.toNat
def k0_off4 (d0 : Dev nD) : Fin 3 → Nat :=
  let c4_i32_54 : BitVec 32 := 4#32
  let v73 : BitVec 32 := Dev.word d0
  let c4_i32_47 : BitVec 32 := 4#32
  let v74 : BitVec 32 := Scalar.divsi v73 c4_i32_47
  let c2_i32_46 : BitVec 32 := 2#32
  let v75 : BitVec 32 := Scalar.remsi v74 c2_i32_46
  let v84 : BitVec 32 := Scalar.muli c4_i32_54 v75
  let c2_i32_55 : BitVec 32 := 2#32
  let c1_i32_52 : BitVec 32 := 1#32
  let v76 : BitVec 32 := Dev.word d0
  let c2_i32_49 : BitVec 32 := 2#32
  let v77 : BitVec 32 := Scalar.divsi v76 c2_i32_49
  let c2_i32_48 : BitVec 32 := 2#32
  let v78 : BitVec 32 := Scalar.remsi v77 c2_i32_48
  let v82 : BitVec 32 := Scalar.subi c1_i32_52 v78
  let v85 : BitVec 32 := Scalar.muli c2_i32_55 v82
  let v86 : BitVec 32 := Scalar.addi v84 v85
  let c1_i32_53 : BitVec 32 := 1#32
  let v79 : BitVec 32 := Dev.word d0
  let c1_i32_51 : BitVec 32 := 1#32
  let v80 : BitVec 32 := Scalar.divsi v79 c1_i32_51
  let c2_i32_50 : BitVec 32 := 2#32
  let v81 : BitVec 32 := Scalar.remsi v80 c2_i32_50
  let v83 : BitVec 32 := Scalar.subi c1_i32_53 v81
  let v87 : BitVec 32 := Scalar.addi v86 v83
  let c0_i32_64 : BitVec 32 := 0#32
  let c0_i32_65 : BitVec 32 := 0#32
  ![v87.toNat, 0, 0]
def k0_dev3 (d0 : Dev nD) : Nat :=
  let c0_i32_59 : BitVec 32 := 0#32
  let v73 : BitVec 32 := Dev.word d0
  let c4_i32_47 : BitVec 32 := 4#32
  let v74 : BitVec 32 := Scalar.divsi v73 c4_i32_47
  let c2_i32_46 : BitVec 32 := 2#32
  let v75 : BitVec 32 := Scalar.remsi v74 c2_i32_46
  let c4_i32_58 : BitVec 32 := 4#32
  let v88 : BitVec 32 := Scalar.muli v75 c4_i32_58
  let v89 : BitVec 32 := Scalar.addi c0_i32_59 v88
  let c1_i32_52 : BitVec 32 := 1#32
  let v76 : BitVec 32 := Dev.word d0
  let c2_i32_49 : BitVec 32 := 2#32
  let v77 : BitVec 32 := Scalar.divsi v76 c2_i32_49
  let c2_i32_48 : BitVec 32 := 2#32
  let v78 : BitVec 32 := Scalar.remsi v77 c2_i32_48
  let v82 : BitVec 32 := Scalar.subi c1_i32_52 v78
  let c2_i32_60 : BitVec 32 := 2#32
  let v90 : BitVec 32 := Scalar.muli v82 c2_i32_60
  let v91 : BitVec 32 := Scalar.addi v89 v90
  let c1_i32_53 : BitVec 32 := 1#32
  let v79 : BitVec 32 := Dev.word d0
  let c1_i32_51 : BitVec 32 := 1#32
  let v80 : BitVec 32 := Scalar.divsi v79 c1_i32_51
  let c2_i32_50 : BitVec 32 := 2#32
  let v81 : BitVec 32 := Scalar.remsi v80 c2_i32_50
  let v83 : BitVec 32 := Scalar.subi c1_i32_53 v81
  let c1_i32_61 : BitVec 32 := 1#32
  let v92 : BitVec 32 := Scalar.muli v83 c1_i32_61
  let v93 : BitVec 32 := Scalar.addi v91 v92
  v93.toNat
def k0_off5 (d0 : Dev nD) : Fin 3 → Nat :=
  let c4_i32_73 : BitVec 32 := 4#32
  let c1_i32_72 : BitVec 32 := 1#32
  let v102 : BitVec 32 := Dev.word d0
  let c4_i32_67 : BitVec 32 := 4#32
  let v103 : BitVec 32 := Scalar.divsi v102 c4_i32_67
  let c2_i32_66 : BitVec 32 := 2#32
  let v104 : BitVec 32 := Scalar.remsi v103 c2_i32_66
  let v111 : BitVec 32 := Scalar.subi c1_i32_72 v104
  let v112 : BitVec 32 := Scalar.muli c4_i32_73 v111
  let c2_i32_74 : BitVec 32 := 2#32
  let v105 : BitVec 32 := Dev.word d0
  let c2_i32_69 : BitVec 32 := 2#32
  let v106 : BitVec 32 := Scalar.divsi v105 c2_i32_69
  let c2_i32_68 : BitVec 32 := 2#32
  let v107 : BitVec 32 := Scalar.remsi v106 c2_i32_68
  let v113 : BitVec 32 := Scalar.muli c2_i32_74 v107
  let v114 : BitVec 32 := Scalar.addi v112 v113
  let v108 : BitVec 32 := Dev.word d0
  let c1_i32_71 : BitVec 32 := 1#32
  let v109 : BitVec 32 := Scalar.divsi v108 c1_i32_71
  let c2_i32_70 : BitVec 32 := 2#32
  let v110 : BitVec 32 := Scalar.remsi v109 c2_i32_70
  let v115 : BitVec 32 := Scalar.addi v114 v110
  let c0_i32_82 : BitVec 32 := 0#32
  let c0_i32_83 : BitVec 32 := 0#32
  ![v115.toNat, 0, 0]
def k0_dev4 (d0 : Dev nD) : Nat :=
  let c0_i32_77 : BitVec 32 := 0#32
  let c1_i32_72 : BitVec 32 := 1#32
  let v102 : BitVec 32 := Dev.word d0
  let c4_i32_67 : BitVec 32 := 4#32
  let v103 : BitVec 32 := Scalar.divsi v102 c4_i32_67
  let c2_i32_66 : BitVec 32 := 2#32
  let v104 : BitVec 32 := Scalar.remsi v103 c2_i32_66
  let v111 : BitVec 32 := Scalar.subi c1_i32_72 v104
  let c4_i32_76 : BitVec 32 := 4#32
  let v116 : BitVec 32 := Scalar.muli v111 c4_i32_76
  let v117 : BitVec 32 := Scalar.addi c0_i32_77 v116
  let v105 : BitVec 32 := Dev.word d0
  let c2_i32_69 : BitVec 32 := 2#32
  let v106 : BitVec 32 := Scalar.divsi v105 c2_i32_69
  let c2_i32_68 : BitVec 32 := 2#32
  let v107 : BitVec 32 := Scalar.remsi v106 c2_i32_68
  let c2_i32_78 : BitVec 32 := 2#32
  let v118 : BitVec 32 := Scalar.muli v107 c2_i32_78
  let v119 : BitVec 32 := Scalar.addi v117 v118
  let v108 : BitVec 32 := Dev.word d0
  let c1_i32_71 : BitVec 32 := 1#32
  let v109 : BitVec 32 := Scalar.divsi v108 c1_i32_71
  let c2_i32_70 : BitVec 32 := 2#32
  let v110 : BitVec 32 := Scalar.remsi v109 c2_i32_70
  let c1_i32_79 : BitVec 32 := 1#32
  let v120 : BitVec 32 := Scalar.muli v110 c1_i32_79
  let v121 : BitVec 32 := Scalar.addi v119 v120
  v121.toNat
def k0_off6 (d0 : Dev nD) : Fin 3 → Nat :=
  let c4_i32_92 : BitVec 32 := 4#32
  let c1_i32_90 : BitVec 32 := 1#32
  let v130 : BitVec 32 := Dev.word d0
  let c4_i32_85 : BitVec 32 := 4#32
  let v131 : BitVec 32 := Scalar.divsi v130 c4_i32_85
  let c2_i32_84 : BitVec 32 := 2#32
  let v132 : BitVec 32 := Scalar.remsi v131 c2_i32_84
  let v139 : BitVec 32 := Scalar.subi c1_i32_90 v132
  let v141 : BitVec 32 := Scalar.muli c4_i32_92 v139
  let c2_i32_93 : BitVec 32 := 2#32
  let v133 : BitVec 32 := Dev.word d0
  let c2_i32_87 : BitVec 32 := 2#32
  let v134 : BitVec 32 := Scalar.divsi v133 c2_i32_87
  let c2_i32_86 : BitVec 32 := 2#32
  let v135 : BitVec 32 := Scalar.remsi v134 c2_i32_86
  let v142 : BitVec 32 := Scalar.muli c2_i32_93 v135
  let v143 : BitVec 32 := Scalar.addi v141 v142
  let c1_i32_91 : BitVec 32 := 1#32
  let v136 : BitVec 32 := Dev.word d0
  let c1_i32_89 : BitVec 32 := 1#32
  let v137 : BitVec 32 := Scalar.divsi v136 c1_i32_89
  let c2_i32_88 : BitVec 32 := 2#32
  let v138 : BitVec 32 := Scalar.remsi v137 c2_i32_88
  let v140 : BitVec 32 := Scalar.subi c1_i32_91 v138
  let v144 : BitVec 32 := Scalar.addi v143 v140
  let c0_i32_102 : BitVec 32 := 0#32
  let c0_i32_103 : BitVec 32 := 0#32
  ![v144.toNat, 0, 0]
def k0_dev5 (d0 : Dev nD) : Nat :=
  let c0_i32_97 : BitVec 32 := 0#32
  let c1_i32_90 : BitVec 32 := 1#32
  let v130 : BitVec 32 := Dev.word d0
  let c4_i32_85 : BitVec 32 := 4#32
  let v131 : BitVec 32 := Scalar.divsi v130 c4_i32_85
  let c2_i32_84 : BitVec 32 := 2#32
  let v132 : BitVec 32 := Scalar.remsi v131 c2_i32_84
  let v139 : BitVec 32 := Scalar.subi c1_i32_90 v132
  let c4_i32_96 : BitVec 32 := 4#32
  let v145 : BitVec 32 := Scalar.muli v139 c4_i32_96
  let v146 : BitVec 32 := Scalar.addi c0_i32_97 v145
  let v133 : BitVec 32 := Dev.word d0
  let c2_i32_87 : BitVec 32 := 2#32
  let v134 : BitVec 32 := Scalar.divsi v133 c2_i32_87
  let c2_i32_86 : BitVec 32 := 2#32
  let v135 : BitVec 32 := Scalar.remsi v134 c2_i32_86
  let c2_i32_98 : BitVec 32 := 2#32
  let v147 : BitVec 32 := Scalar.muli v135 c2_i32_98
  let v148 : BitVec 32 := Scalar.addi v146 v147
  let c1_i32_91 : BitVec 32 := 1#32
  let v136 : BitVec 32 := Dev.word d0
  let c1_i32_89 : BitVec 32 := 1#32
  let v137 : BitVec 32 := Scalar.divsi v136 c1_i32_89
  let c2_i32_88 : BitVec 32 := 2#32
  let v138 : BitVec 32 := Scalar.remsi v137 c2_i32_88
  let v140 : BitVec 32 := Scalar.subi c1_i32_91 v138
  let c1_i32_99 : BitVec 32 := 1#32
  let v149 : BitVec 32 := Scalar.muli v140 c1_i32_99
  let v150 : BitVec 32 := Scalar.addi v148 v149
  v150.toNat
def k0_off7 (d0 : Dev nD) : Fin 3 → Nat :=
  let c4_i32_112 : BitVec 32 := 4#32
  let c1_i32_110 : BitVec 32 := 1#32
  let v159 : BitVec 32 := Dev.word d0
  let c4_i32_105 : BitVec 32 := 4#32
  let v160 : BitVec 32 := Scalar.divsi v159 c4_i32_105
  let c2_i32_104 : BitVec 32 := 2#32
  let v161 : BitVec 32 := Scalar.remsi v160 c2_i32_104
  let v168 : BitVec 32 := Scalar.subi c1_i32_110 v161
  let v170 : BitVec 32 := Scalar.muli c4_i32_112 v168
  let c2_i32_113 : BitVec 32 := 2#32
  let c1_i32_111 : BitVec 32 := 1#32
  let v162 : BitVec 32 := Dev.word d0
  let c2_i32_107 : BitVec 32 := 2#32
  let v163 : BitVec 32 := Scalar.divsi v162 c2_i32_107
  let c2_i32_106 : BitVec 32 := 2#32
  let v164 : BitVec 32 := Scalar.remsi v163 c2_i32_106
  let v169 : BitVec 32 := Scalar.subi c1_i32_111 v164
  let v171 : BitVec 32 := Scalar.muli c2_i32_113 v169
  let v172 : BitVec 32 := Scalar.addi v170 v171
  let v165 : BitVec 32 := Dev.word d0
  let c1_i32_109 : BitVec 32 := 1#32
  let v166 : BitVec 32 := Scalar.divsi v165 c1_i32_109
  let c2_i32_108 : BitVec 32 := 2#32
  let v167 : BitVec 32 := Scalar.remsi v166 c2_i32_108
  let v173 : BitVec 32 := Scalar.addi v172 v167
  let c0_i32_121 : BitVec 32 := 0#32
  let c0_i32_122 : BitVec 32 := 0#32
  ![v173.toNat, 0, 0]
def k0_dev6 (d0 : Dev nD) : Nat :=
  let c0_i32_116 : BitVec 32 := 0#32
  let c1_i32_110 : BitVec 32 := 1#32
  let v159 : BitVec 32 := Dev.word d0
  let c4_i32_105 : BitVec 32 := 4#32
  let v160 : BitVec 32 := Scalar.divsi v159 c4_i32_105
  let c2_i32_104 : BitVec 32 := 2#32
  let v161 : BitVec 32 := Scalar.remsi v160 c2_i32_104
  let v168 : BitVec 32 := Scalar.subi c1_i32_110 v161
  let c4_i32_115 : BitVec 32 := 4#32
  let v174 : BitVec 32 := Scalar.muli v168 c4_i32_115
  let v175 : BitVec 32 := Scalar.addi c0_i32_116 v174
  let c1_i32_111 : BitVec 32 := 1#32
  let v162 : BitVec 32 := Dev.word d0
  let c2_i32_107 : BitVec 32 := 2#32
  let v163 : BitVec 32 := Scalar.divsi v162 c2_i32_107
  let c2_i32_106 : BitVec 32 := 2#32
  let v164 : BitVec 32 := Scalar.remsi v163 c2_i32_106
  let v169 : BitVec 32 := Scalar.subi c1_i32_111 v164
  let c2_i32_117 : BitVec 32 := 2#32
  let v176 : BitVec 32 := Scalar.muli v169 c2_i32_117
  let v177 : BitVec 32 := Scalar.addi v175 v176
  let v165 : BitVec 32 := Dev.word d0
  let c1_i32_109 : BitVec 32 := 1#32
  let v166 : BitVec 32 := Scalar.divsi v165 c1_i32_109
  let c2_i32_108 : BitVec 32 := 2#32
  let v167 : BitVec 32 := Scalar.remsi v166 c2_i32_108
  let c1_i32_118 : BitVec 32 := 1#32
  let v178 : BitVec 32 := Scalar.muli v167 c1_i32_118
  let v179 : BitVec 32 := Scalar.addi v177 v178
  v179.toNat
def k0_off8 (d0 : Dev nD) : Fin 3 → Nat :=
  let c4_i32_132 : BitVec 32 := 4#32
  let c1_i32_129 : BitVec 32 := 1#32
  let v188 : BitVec 32 := Dev.word d0
  let c4_i32_124 : BitVec 32 := 4#32
  let v189 : BitVec 32 := Scalar.divsi v188 c4_i32_124
  let c2_i32_123 : BitVec 32 := 2#32
  let v190 : BitVec 32 := Scalar.remsi v189 c2_i32_123
  let v197 : BitVec 32 := Scalar.subi c1_i32_129 v190
  let v200 : BitVec 32 := Scalar.muli c4_i32_132 v197
  let c2_i32_133 : BitVec 32 := 2#32
  let c1_i32_130 : BitVec 32 := 1#32
  let v191 : BitVec 32 := Dev.word d0
  let c2_i32_126 : BitVec 32 := 2#32
  let v192 : BitVec 32 := Scalar.divsi v191 c2_i32_126
  let c2_i32_125 : BitVec 32 := 2#32
  let v193 : BitVec 32 := Scalar.remsi v192 c2_i32_125
  let v198 : BitVec 32 := Scalar.subi c1_i32_130 v193
  let v201 : BitVec 32 := Scalar.muli c2_i32_133 v198
  let v202 : BitVec 32 := Scalar.addi v200 v201
  let c1_i32_131 : BitVec 32 := 1#32
  let v194 : BitVec 32 := Dev.word d0
  let c1_i32_128 : BitVec 32 := 1#32
  let v195 : BitVec 32 := Scalar.divsi v194 c1_i32_128
  let c2_i32_127 : BitVec 32 := 2#32
  let v196 : BitVec 32 := Scalar.remsi v195 c2_i32_127
  let v199 : BitVec 32 := Scalar.subi c1_i32_131 v196
  let v203 : BitVec 32 := Scalar.addi v202 v199
  let c0_i32_141 : BitVec 32 := 0#32
  let c0_i32_142 : BitVec 32 := 0#32
  ![v203.toNat, 0, 0]
def k0_dev7 (d0 : Dev nD) : Nat :=
  let c0_i32_136 : BitVec 32 := 0#32
  let c1_i32_129 : BitVec 32 := 1#32
  let v188 : BitVec 32 := Dev.word d0
  let c4_i32_124 : BitVec 32 := 4#32
  let v189 : BitVec 32 := Scalar.divsi v188 c4_i32_124
  let c2_i32_123 : BitVec 32 := 2#32
  let v190 : BitVec 32 := Scalar.remsi v189 c2_i32_123
  let v197 : BitVec 32 := Scalar.subi c1_i32_129 v190
  let c4_i32_135 : BitVec 32 := 4#32
  let v204 : BitVec 32 := Scalar.muli v197 c4_i32_135
  let v205 : BitVec 32 := Scalar.addi c0_i32_136 v204
  let c1_i32_130 : BitVec 32 := 1#32
  let v191 : BitVec 32 := Dev.word d0
  let c2_i32_126 : BitVec 32 := 2#32
  let v192 : BitVec 32 := Scalar.divsi v191 c2_i32_126
  let c2_i32_125 : BitVec 32 := 2#32
  let v193 : BitVec 32 := Scalar.remsi v192 c2_i32_125
  let v198 : BitVec 32 := Scalar.subi c1_i32_130 v193
  let c2_i32_137 : BitVec 32 := 2#32
  let v206 : BitVec 32 := Scalar.muli v198 c2_i32_137
  let v207 : BitVec 32 := Scalar.addi v205 v206
  let c1_i32_131 : BitVec 32 := 1#32
  let v194 : BitVec 32 := Dev.word d0
  let c1_i32_128 : BitVec 32 := 1#32
  let v195 : BitVec 32 := Scalar.divsi v194 c1_i32_128
  let c2_i32_127 : BitVec 32 := 2#32
  let v196 : BitVec 32 := Scalar.remsi v195 c2_i32_127
  let v199 : BitVec 32 := Scalar.subi c1_i32_131 v196
  let c1_i32_138 : BitVec 32 := 1#32
  let v208 : BitVec 32 := Scalar.muli v199 c1_i32_138
  let v209 : BitVec 32 := Scalar.addi v207 v208
  v209.toNat
abbrev grid1 : Pipeline.Grid := ⟨1, ![13], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S64x6656x128 : Shape := ⟨3, ![64, 6656, 128]⟩
abbrev S53248x128 : Shape := ⟨2, ![53248, 128]⟩
abbrev S8x53248x128 : Shape := ⟨3, ![8, 53248, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x6656x128, .f32⟩
  | .hbm, ⟨1, _⟩ => ⟨S53248x128, .f32⟩
  | .hbm, ⟨2, _⟩ => ⟨S53248x128, .f32⟩
  | .hbm, ⟨3, _⟩ => ⟨S53248x128, .f32⟩
  | .hbm, ⟨4, _⟩ => ⟨S8x53248x128, .f32⟩
  | .hbm, ⟨5, _⟩ => ⟨S_, .f32⟩
  | .hbm, ⟨6, _⟩ => ⟨S53248x128, .f32⟩
  | .hbm, ⟨7, _⟩ => ⟨S_, .f32⟩
  | .hbm, ⟨8, _⟩ => ⟨S53248x128, .f32⟩
  | .hbm, ⟨9, _⟩ => ⟨S53248x128, .f32⟩
  | .hbm, ⟨10, _⟩ => ⟨S_, .f32⟩
  | .hbm, ⟨11, _⟩ => ⟨S53248x128, .f32⟩
  | .hbm, ⟨12, _⟩ => ⟨S53248x128, .f32⟩
  | .hbm, ⟨13, _⟩ => ⟨S53248x128, .f32⟩
  | .hbm, ⟨14, _⟩ => ⟨S_, .f32⟩
  | .hbm, ⟨15, _⟩ => ⟨S53248x128, .f32⟩
  | .hbm, ⟨16, _⟩ => ⟨S53248x128, .f32⟩
  | .hbm, ⟨17, _⟩ => ⟨S53248x128, .f32⟩
  | .hbm, ⟨18, _⟩ => ⟨S_, .f32⟩
  | .hbm, ⟨19, _⟩ => ⟨S53248x128, .f32⟩
  | .hbm, ⟨20, _⟩ => ⟨S53248x128, .f32⟩
  | .hbm, ⟨21, _⟩ => ⟨S53248x128, .f32⟩
  | .hbm, ⟨22, _⟩ => ⟨S_, .f32⟩
  | .hbm, ⟨23, _⟩ => ⟨S53248x128, .f32⟩
  | .hbm, ⟨24, _⟩ => ⟨S53248x128, .f32⟩
  | .hbm, ⟨25, _⟩ => ⟨S_, .f32⟩
  | .hbm, ⟨26, _⟩ => ⟨S53248x128, .f32⟩
  | .hbm, ⟨27, _⟩ => ⟨S53248x128, .f32⟩
  | .hbm, ⟨28, _⟩ => ⟨S53248x128, .f32⟩
  | .hbm, ⟨29, _⟩ => ⟨S_, .f32⟩
  | .hbm, ⟨30, _⟩ => ⟨S53248x128, .f32⟩
  | .hbm, ⟨31, _⟩ => ⟨S53248x128, .f32⟩
  | .hbm, ⟨32, _⟩ => ⟨S53248x128, .f32⟩
  | .hbm, ⟨33, _⟩ => ⟨S_, .f32⟩
  | .hbm, ⟨34, _⟩ => ⟨S53248x128, .f32⟩
  | .hbm, ⟨35, _⟩ => ⟨S53248x128, .f32⟩
  | .hbm, ⟨36, _⟩ => ⟨S53248x128, .f32⟩
  | .hbm, ⟨37, _⟩ => ⟨S_, .f32⟩
  | .hbm, ⟨38, _⟩ => ⟨S53248x128, .f32⟩
  | .hbm, ⟨39, _⟩ => ⟨S53248x128, .f32⟩
  | _, _ => ⟨S64x6656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Gather.lean ====
abbrev S5920x128 : Shape := ⟨2, ![5920, 128]⟩
abbrev S8x5920x128 : Shape := ⟨3, ![8, 5920, 128]⟩
abbrev S7 : Shape := ⟨1, ![7]⟩
abbrev S_ : Shape := ⟨0, ![]⟩
abbrev S1x5920x128 : Shape := ⟨3, ![1, 5920, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S5920x128, .bf16⟩
  | .hbm, ⟨1, _⟩ => ⟨S8x5920x128, .bf16⟩
  | _, _ => ⟨S5920x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32 : BitVec 32 := 0#32
  let c0_i32_5 : BitVec 32 := 0#32
  ![v12.toNat, 0, 0]
def k0_dev1 (d0 : Dev nD) : Nat :=
  let c0_i32_16 : BitVec 32 := 0#32
  let v15 : BitVec 32 := Dev.word d0
  let c4_i32_7 : BitVec 32 := 4#32
  let v16 : BitVec 32 := Scalar.divsi v15 c4_i32_7
  let c2_i32_6 : BitVec 32 := 2#32
  let v17 : BitVec 32 := Scalar.remsi v16 c2_i32_6
  let c4_i32_15 : BitVec 32 := 4#32
  let v25 : BitVec 32 := Scalar.muli v17 c4_i32_15
  let v26 : BitVec 32 := Scalar.addi c0_i32_16 v25
  let v18 : BitVec 32 := Dev.word d0
  let c2_i32_9 : BitVec 32 := 2#32
  let v19 : BitVec 32 := Scalar.divsi v18 c2_i32_9
  let c2_i32_8 : BitVec 32 := 2#32
  let v20 : BitVec 32 := Scalar.remsi v19 c2_i32_8
  let c2_i32_17 : BitVec 32 := 2#32
  let v27 : BitVec 32 := Scalar.muli v20 c2_i32_17
  let v28 : BitVec 32 := Scalar.addi v26 v27
  let c1_i32_12 : BitVec 32 := 1#32
  let v21 : BitVec 32 := Dev.word d0
  let c1_i32_11 : BitVec 32 := 1#32
  let v22 : BitVec 32 := Scalar.divsi v21 c1_i32_11
  let c2_i32_10 : BitVec 32 := 2#32
  let v23 : BitVec 32 := Scalar.remsi v22 c2_i32_10
  let v24 : BitVec 32 := Scalar.subi c1_i32_12 v23
  let c1_i32_18 : BitVec 32 := 1#32
  let v29 : BitVec 32 := Scalar.muli v24 c1_i32_18
  let v30 : BitVec 32 := Scalar.addi v28 v29
  v30.toNat
def k0_dev2 (d0 : Dev nD) : Nat :=
  let c0_i32_31 : BitVec 32 := 0#32
  let v37 : BitVec 32 := Dev.word d0
  let c4_i32_22 : BitVec 32 := 4#32
  let v38 : BitVec 32 := Scalar.divsi v37 c4_i32_22
  let c2_i32_21 : BitVec 32 := 2#32
  let v39 : BitVec 32 := Scalar.remsi v38 c2_i32_21
  let c4_i32_30 : BitVec 32 := 4#32
  let v47 : BitVec 32 := Scalar.muli v39 c4_i32_30
  let v48 : BitVec 32 := Scalar.addi c0_i32_31 v47
  let c1_i32_27 : BitVec 32 := 1#32
  let v40 : BitVec 32 := Dev.word d0
  let c2_i32_24 : BitVec 32 := 2#32
  let v41 : BitVec 32 := Scalar.divsi v40 c2_i32_24
  let c2_i32_23 : BitVec 32 := 2#32
  let v42 : BitVec 32 := Scalar.remsi v41 c2_i32_23
  let v46 : BitVec 32 := Scalar.subi c1_i32_27 v42
  let c2_i32_32 : BitVec 32 := 2#32
  let v49 : BitVec 32 := Scalar.muli v46 c2_i32_32
  let v50 : BitVec 32 := Scalar.addi v48 v49
  let v43 : BitVec 32 := Dev.word d0
  let c1_i32_26 : BitVec 32 := 1#32
  let v44 : BitVec 32 := Scalar.divsi v43 c1_i32_26
  let c2_i32_25 : BitVec 32 := 2#32
  let v45 : BitVec 32 := Scalar.remsi v44 c2_i32_25
  let c1_i32_33 : BitVec 32 := 1#32
  let v51 : BitVec 32 := Scalar.muli v45 c1_i32_33
  let v52 : BitVec 32 := Scalar.addi v50 v51
  v52.toNat
def k0_dev3 (d0 : Dev nD) : Nat :=
  let c0_i32_47 : BitVec 32 := 0#32
  let v59 : BitVec 32 := Dev.word d0
  let c4_i32_37 : BitVec 32 := 4#32
  let v60 : BitVec 32 := Scalar.divsi v59 c4_i32_37
  let c2_i32_36 : BitVec 32 := 2#32
  let v61 : BitVec 32 := Scalar.remsi v60 c2_i32_36
  let c4_i32_46 : BitVec 32 := 4#32
  let v70 : BitVec 32 := Scalar.muli v61 c4_i32_46
  let v71 : BitVec 32 := Scalar.addi c0_i32_47 v70
  let c1_i32_42 : BitVec 32 := 1#32
  let v62 : BitVec 32 := Dev.word d0
  let c2_i32_39 : BitVec 32 := 2#32
  let v63 : BitVec 32 := Scalar.divsi v62 c2_i32_39
  let c2_i32_38 : BitVec 32 := 2#32
  let v64 : BitVec 32 := Scalar.remsi v63 c2_i32_38
  let v68 : BitVec 32 := Scalar.subi c1_i32_42 v64
  let c2_i32_48 : BitVec 32 := 2#32
  let v72 : BitVec 32 := Scalar.muli v68 c2_i32_48
  let v73 : BitVec 32 := Scalar.addi v71 v72
  let c1_i32_43 : BitVec 32 := 1#32
  let v65 : BitVec 32 := Dev.word d0
  let c1_i32_41 : BitVec 32 := 1#32
  let v66 : BitVec 32 := Scalar.divsi v65 c1_i32_41
  let c2_i32_40 : BitVec 32 := 2#32
  let v67 : BitVec 32 := Scalar.remsi v66 c2_i32_40
  let v69 : BitVec 32 := Scalar.subi c1_i32_43 v67
  let c1_i32_49 : BitVec 32 := 1#32
  let v74 : BitVec 32 := Scalar.muli v69 c1_i32_49
  let v75 : BitVec 32 := Scalar.addi v73 v74
  v75.toNat
def k0_dev4 (d0 : Dev nD) : Nat :=
  let c0_i32_61 : BitVec 32 := 0#32
  let c1_i32_58 : BitVec 32 := 1#32
  let v82 : BitVec 32 := Dev.word d0
  let c4_i32_53 : BitVec 32 := 4#32
  let v83 : BitVec 32 := Scalar.divsi v82 c4_i32_53
  let c2_i32_52 : BitVec 32 := 2#32
  let v84 : BitVec 32 := Scalar.remsi v83 c2_i32_52
  let v91 : BitVec 32 := Scalar.subi c1_i32_58 v84
  let c4_i32_60 : BitVec 32 := 4#32
  let v92 : BitVec 32 := Scalar.muli v91 c4_i32_60
  let v93 : BitVec 32 := Scalar.addi c0_i32_61 v92
  let v85 : BitVec 32 := Dev.word d0
  let c2_i32_55 : BitVec 32 := 2#32
  let v86 : BitVec 32 := Scalar.divsi v85 c2_i32_55
  let c2_i32_54 : BitVec 32 := 2#32
  let v87 : BitVec 32 := Scalar.remsi v86 c2_i32_54
  let c2_i32_62 : BitVec 32 := 2#32
  let v94 : BitVec 32 := Scalar.muli v87 c2_i32_62
  let v95 : BitVec 32 := Scalar.addi v93 v94
  let v88 : BitVec 32 := Dev.word d0
  let c1_i32_57 : BitVec 32 := 1#32
  let v89 : BitVec 32 := Scalar.divsi v88 c1_i32_57
  let c2_i32_56 : BitVec 32 := 2#32
  let v90 : BitVec 32 := Scalar.remsi v89 c2_i32_56
  let c1_i32_63 : BitVec 32 := 1#32
  let v96 : BitVec 32 := Scalar.muli v90 c1_i32_63
  let v97 : BitVec 32 := Scalar.addi v95 v96
  v97.toNat
def k0_dev5 (d0 : Dev nD) : Nat :=
  let c0_i32_77 : BitVec 32 := 0#32
  let c1_i32_72 : BitVec 32 := 1#32
  let v104 : BitVec 32 := Dev.word d0
  let c4_i32_67 : BitVec 32 := 4#32
  let v105 : BitVec 32 := Scalar.divsi v104 c4_i32_67
  let c2_i32_66 : BitVec 32 := 2#32
  let v106 : BitVec 32 := Scalar.remsi v105 c2_i32_66
  let v113 : BitVec 32 := Scalar.subi c1_i32_72 v106
  let c4_i32_76 : BitVec 32 := 4#32
  let v115 : BitVec 32 := Scalar.muli v113 c4_i32_76
  let v116 : BitVec 32 := Scalar.addi c0_i32_77 v115
  let v107 : BitVec 32 := Dev.word d0
  let c2_i32_69 : BitVec 32 := 2#32
  let v108 : BitVec 32 := Scalar.divsi v107 c2_i32_69
  let c2_i32_68 : BitVec 32 := 2#32
  let v109 : BitVec 32 := Scalar.remsi v108 c2_i32_68
  let c2_i32_78 : BitVec 32 := 2#32
  let v117 : BitVec 32 := Scalar.muli v109 c2_i32_78
  let v118 : BitVec 32 := Scalar.addi v116 v117
  let c1_i32_73 : BitVec 32 := 1#32
  let v110 : BitVec 32 := Dev.word d0
  let c1_i32_71 : BitVec 32 := 1#32
  let v111 : BitVec 32 := Scalar.divsi v110 c1_i32_71
  let c2_i32_70 : BitVec 32 := 2#32
  let v112 : BitVec 32 := Scalar.remsi v111 c2_i32_70
  let v114 : BitVec 32 := Scalar.subi c1_i32_73 v112
  let c1_i32_79 : BitVec 32 := 1#32
  let v119 : BitVec 32 := Scalar.muli v114 c1_i32_79
  let v120 : BitVec 32 := Scalar.addi v118 v119
  v120.toNat
def k0_dev6 (d0 : Dev nD) : Nat :=
  let c0_i32_92 : BitVec 32 := 0#32
  let c1_i32_88 : BitVec 32 := 1#32
  let v127 : BitVec 32 := Dev.word d0
  let c4_i32_83 : BitVec 32 := 4#32
  let v128 : BitVec 32 := Scalar.divsi v127 c4_i32_83
  let c2_i32_82 : BitVec 32 := 2#32
  let v129 : BitVec 32 := Scalar.remsi v128 c2_i32_82
  let v136 : BitVec 32 := Scalar.subi c1_i32_88 v129
  let c4_i32_91 : BitVec 32 := 4#32
  let v138 : BitVec 32 := Scalar.muli v136 c4_i32_91
  let v139 : BitVec 32 := Scalar.addi c0_i32_92 v138
  let c1_i32_89 : BitVec 32 := 1#32
  let v130 : BitVec 32 := Dev.word d0
  let c2_i32_85 : BitVec 32 := 2#32
  let v131 : BitVec 32 := Scalar.divsi v130 c2_i32_85
  let c2_i32_84 : BitVec 32 := 2#32
  let v132 : BitVec 32 := Scalar.remsi v131 c2_i32_84
  let v137 : BitVec 32 := Scalar.subi c1_i32_89 v132
  let c2_i32_93 : BitVec 32 := 2#32
  let v140 : BitVec 32 := Scalar.muli v137 c2_i32_93
  let v141 : BitVec 32 := Scalar.addi v139 v140
  let v133 : BitVec 32 := Dev.word d0
  let c1_i32_87 : BitVec 32 := 1#32
  let v134 : BitVec 32 := Scalar.divsi v133 c1_i32_87
  let c2_i32_86 : BitVec 32 := 2#32
  let v135 : BitVec 32 := Scalar.remsi v134 c2_i32_86
  let c1_i32_94 : BitVec 32 := 1#32
  let v142 : BitVec 32 := Scalar.muli v135 c1_i32_94
  let v143 : BitVec 32 := Scalar.addi v141 v142
  v143.toNat
def k0_dev7 (d0 : Dev nD) : Nat :=
  let c0_i32_108 : BitVec 32 := 0#32
  let c1_i32_103 : BitVec 32 := 1#32
  let v150 : BitVec 32 := Dev.word d0
  let c4_i32_98 : BitVec 32 := 4#32
  let v151 : BitVec 32 := Scalar.divsi v150 c4_i32_98
  let c2_i32_97 : BitVec 32 := 2#32
  let v152 : BitVec 32 := Scalar.remsi v151 c2_i32_97
  let v159 : BitVec 32 := Scalar.subi c1_i32_103 v152
  let c4_i32_107 : BitVec 32 := 4#32
  let v162 : BitVec 32 := Scalar.muli v159 c4_i32_107
  let v163 : BitVec 32 := Scalar.addi c0_i32_108 v162
  let c1_i32_104 : BitVec 32 := 1#32
  let v153 : BitVec 32 := Dev.word d0
  let c2_i32_100 : BitVec 32 := 2#32
  let v154 : BitVec 32 := Scalar.divsi v153 c2_i32_100
  let c2_i32_99 : BitVec 32 := 2#32
  let v155 : BitVec 32 := Scalar.remsi v154 c2_i32_99
  let v160 : BitVec 32 := Scalar.subi c1_i32_104 v155
  let c2_i32_109 : BitVec 32 := 2#32
  let v164 : BitVec 32 := Scalar.muli v160 c2_i32_109
  let v165 : BitVec 32 := Scalar.addi v163 v164
  let c1_i32_105 : BitVec 32 := 1#32
  let v156 : BitVec 32 := Dev.word d0
  let c1_i32_102 : BitVec 32 := 1#32
  let v157 : BitVec 32 := Scalar.divsi v156 c1_i32_102
  let c2_i32_101 : BitVec 32 := 2#32
  let v158 : BitVec 32 := Scalar.remsi v157 c2_i32_101
  let v161 : BitVec 32 := Scalar.subi c1_i32_105 v158
  let c1_i32_110 : BitVec 32 := 1#32
  let v166 : BitVec 32 := Scalar.muli v161 c1_i32_110
  let v167 : BitVec 32 := Scalar.addi v165 v166
  v167.toNat
def k0_off2 (d0 : Dev nD) : Fin 3 → Nat :=
  let c4_i32_120 : BitVec 32 := 4#32
  let v174 : BitVec 32 := Dev.word d0
  let c4_i32_114 : BitVec 32 := 4#32
  let v175 : BitVec 32 := Scalar.divsi v174 c4_i32_114
  let c2_i32_113 : BitVec 32 := 2#32
  let v176 : BitVec 32 := Scalar.remsi v175 c2_i32_113
  let v184 : BitVec 32 := Scalar.muli c4_i32_120 v176
  let c2_i32_121 : BitVec 32 := 2#32
  let v177 : BitVec 32 := Dev.word d0
  let c2_i32_116 : BitVec 32 := 2#32
  let v178 : BitVec 32 := Scalar.divsi v177 c2_i32_116
  let c2_i32_115 : BitVec 32 := 2#32
  let v179 : BitVec 32 := Scalar.remsi v178 c2_i32_115
  let v185 : BitVec 32 := Scalar.muli c2_i32_121 v179
  let v186 : BitVec 32 := Scalar.addi v184 v185
  let c1_i32_119 : BitVec 32 := 1#32
  let v180 : BitVec 32 := Dev.word d0
  let c1_i32_118 : BitVec 32 := 1#32
  let v181 : BitVec 32 := Scalar.divsi v180 c1_i32_118
  let c2_i32_117 : BitVec 32 := 2#32
  let v182 : BitVec 32 := Scalar.remsi v181 c2_i32_117
  let v183 : BitVec 32 := Scalar.subi c1_i32_119 v182
  let v187 : BitVec 32 := Scalar.addi v186 v183
  let c0_i32_128 : BitVec 32 := 0#32
  let c0_i32_129 : BitVec 32 := 0#32
  ![v187.toNat, 0, 0]
def k0_off3 (d0 : Dev nD) : Fin 3 → Nat :=
  let c4_i32_137 : BitVec 32 := 4#32
  let v198 : BitVec 32 := Dev.word d0
  let c4_i32_131 : BitVec 32 := 4#32
  let v199 : BitVec 32 := Scalar.divsi v198 c4_i32_131
  let c2_i32_130 : BitVec 32 := 2#32
  let v200 : BitVec 32 := Scalar.remsi v199 c2_i32_130
  let v208 : BitVec 32 := Scalar.muli c4_i32_137 v200
  let c2_i32_138 : BitVec 32 := 2#32
  let c1_i32_136 : BitVec 32 := 1#32
  let v201 : BitVec 32 := Dev.word d0
  let c2_i32_133 : BitVec 32 := 2#32
  let v202 : BitVec 32 := Scalar.divsi v201 c2_i32_133
  let c2_i32_132 : BitVec 32 := 2#32
  let v203 : BitVec 32 := Scalar.remsi v202 c2_i32_132
  let v207 : BitVec 32 := Scalar.subi c1_i32_136 v203
  let v209 : BitVec 32 := Scalar.muli c2_i32_138 v207
  let v210 : BitVec 32 := Scalar.addi v208 v209
  let v204 : BitVec 32 := Dev.word d0
  let c1_i32_135 : BitVec 32 := 1#32
  let v205 : BitVec 32 := Scalar.divsi v204 c1_i32_135
  let c2_i32_134 : BitVec 32 := 2#32
  let v206 : BitVec 32 := Scalar.remsi v205 c2_i32_134
  let v211 : BitVec 32 := Scalar.addi v210 v206
  let c0_i32_145 : BitVec 32 := 0#32
  let c0_i32_146 : BitVec 32 := 0#32
  ![v211.toNat, 0, 0]
def k0_off4 (d0 : Dev nD) : Fin 3 → Nat :=
  let c4_i32_155 : BitVec 32 := 4#32
  let v222 : BitVec 32 := Dev.word d0
  let c4_i32_148 : BitVec 32 := 4#32
  let v223 : BitVec 32 := Scalar.divsi v222 c4_i32_148
  let c2_i32_147 : BitVec 32 := 2#32
  let v224 : BitVec 32 := Scalar.remsi v223 c2_i32_147
  let v233 : BitVec 32 := Scalar.muli c4_i32_155 v224
  let c2_i32_156 : BitVec 32 := 2#32
  let c1_i32_153 : BitVec 32 := 1#32
  let v225 : BitVec 32 := Dev.word d0
  let c2_i32_150 : BitVec 32 := 2#32
  let v226 : BitVec 32 := Scalar.divsi v225 c2_i32_150
  let c2_i32_149 : BitVec 32 := 2#32
  let v227 : BitVec 32 := Scalar.remsi v226 c2_i32_149
  let v231 : BitVec 32 := Scalar.subi c1_i32_153 v227
  let v234 : BitVec 32 := Scalar.muli c2_i32_156 v231
  let v235 : BitVec 32 := Scalar.addi v233 v234
  let c1_i32_154 : BitVec 32 := 1#32
  let v228 : BitVec 32 := Dev.word d0
  let c1_i32_152 : BitVec 32 := 1#32
  let v229 : BitVec 32 := Scalar.divsi v228 c1_i32_152
  let c2_i32_151 : BitVec 32 := 2#32
  let v230 : BitVec 32 := Scalar.remsi v229 c2_i32_151
  let v232 : BitVec 32 := Scalar.subi c1_i32_154 v230
  let v236 : BitVec 32 := Scalar.addi v235 v232
  let c0_i32_163 : BitVec 32 := 0#32
  let c0_i32_164 : BitVec 32 := 0#32
  ![v236.toNat, 0, 0]
def k0_off5 (d0 : Dev nD) : Fin 3 → Nat :=
  let c4_i32_172 : BitVec 32 := 4#32
  let c1_i32_171 : BitVec 32 := 1#32
  let v247 : BitVec 32 := Dev.word d0
  let c4_i32_166 : BitVec 32 := 4#32
  let v248 : BitVec 32 := Scalar.divsi v247 c4_i32_166
  let c2_i32_165 : BitVec 32 := 2#32
  let v249 : BitVec 32 := Scalar.remsi v248 c2_i32_165
  let v256 : BitVec 32 := Scalar.subi c1_i32_171 v249
  let v257 : BitVec 32 := Scalar.muli c4_i32_172 v256
  let c2_i32_173 : BitVec 32 := 2#32
  let v250 : BitVec 32 := Dev.word d0
  let c2_i32_168 : BitVec 32 := 2#32
  let v251 : BitVec 32 := Scalar.divsi v250 c2_i32_168
  let c2_i32_167 : BitVec 32 := 2#32
  let v252 : BitVec 32 := Scalar.remsi v251 c2_i32_167
  let v258 : BitVec 32 := Scalar.muli c2_i32_173 v252
  let v259 : BitVec 32 := Scalar.addi v257 v258
  let v253 : BitVec 32 := Dev.word d0
  let c1_i32_170 : BitVec 32 := 1#32
  let v254 : BitVec 32 := Scalar.divsi v253 c1_i32_170
  let c2_i32_169 : BitVec 32 := 2#32
  let v255 : BitVec 32 := Scalar.remsi v254 c2_i32_169
  let v260 : BitVec 32 := Scalar.addi v259 v255
  let c0_i32_180 : BitVec 32 := 0#32
  let c0_i32_181 : BitVec 32 := 0#32
  ![v260.toNat, 0, 0]
def k0_off6 (d0 : Dev nD) : Fin 3 → Nat :=
  let c4_i32_190 : BitVec 32 := 4#32
  let c1_i32_188 : BitVec 32 := 1#32
  let v271 : BitVec 32 := Dev.word d0
  let c4_i32_183 : BitVec 32 := 4#32
  let v272 : BitVec 32 := Scalar.divsi v271 c4_i32_183
  let c2_i32_182 : BitVec 32 := 2#32
  let v273 : BitVec 32 := Scalar.remsi v272 c2_i32_182
  let v280 : BitVec 32 := Scalar.subi c1_i32_188 v273
  let v282 : BitVec 32 := Scalar.muli c4_i32_190 v280
  let c2_i32_191 : BitVec 32 := 2#32
  let v274 : BitVec 32 := Dev.word d0
  let c2_i32_185 : BitVec 32 := 2#32
  let v275 : BitVec 32 := Scalar.divsi v274 c2_i32_185
  let c2_i32_184 : BitVec 32 := 2#32
  let v276 : BitVec 32 := Scalar.remsi v275 c2_i32_184
  let v283 : BitVec 32 := Scalar.muli c2_i32_191 v276
  let v284 : BitVec 32 := Scalar.addi v282 v283
  let c1_i32_189 : BitVec 32 := 1#32
  let v277 : BitVec 32 := Dev.word d0
  let c1_i32_187 : BitVec 32 := 1#32
  let v278 : BitVec 32 := Scalar.divsi v277 c1_i32_187
  let c2_i32_186 : BitVec 32 := 2#32
  let v279 : BitVec 32 := Scalar.remsi v278 c2_i32_186
  let v281 : BitVec 32 := Scalar.subi c1_i32_189 v279
  let v285 : BitVec 32 := Scalar.addi v284 v281
  let c0_i32_198 : BitVec 32 := 0#32
  let c0_i32_199 : BitVec 32 := 0#32
  ![v285.toNat, 0, 0]
def k0_off7 (d0 : Dev nD) : Fin 3 → Nat :=
  let c4_i32_208 : BitVec 32 := 4#32
  let c1_i32_206 : BitVec 32 := 1#32
  let v296 : BitVec 32 := Dev.word d0
  let c4_i32_201 : BitVec 32 := 4#32
  let v297 : BitVec 32 := Scalar.divsi v296 c4_i32_201
  let c2_i32_200 : BitVec 32 := 2#32
  let v298 : BitVec 32 := Scalar.remsi v297 c2_i32_200
  let v305 : BitVec 32 := Scalar.subi c1_i32_206 v298
  let v307 : BitVec 32 := Scalar.muli c4_i32_208 v305
  let c2_i32_209 : BitVec 32 := 2#32
  let c1_i32_207 : BitVec 32 := 1#32
  let v299 : BitVec 32 := Dev.word d0
  let c2_i32_203 : BitVec 32 := 2#32
  let v300 : BitVec 32 := Scalar.divsi v299 c2_i32_203
  let c2_i32_202 : BitVec 32 := 2#32
  let v301 : BitVec 32 := Scalar.remsi v300 c2_i32_202
  let v306 : BitVec 32 := Scalar.subi c1_i32_207 v301
  let v308 : BitVec 32 := Scalar.muli c2_i32_209 v306
  let v309 : BitVec 32 := Scalar.addi v307 v308
  let v302 : BitVec 32 := Dev.word d0
  let c1_i32_205 : BitVec 32 := 1#32
  let v303 : BitVec 32 := Scalar.divsi v302 c1_i32_205
  let c2_i32_204 : BitVec 32 := 2#32
  let v304 : BitVec 32 := Scalar.remsi v303 c2_i32_204
  let v310 : BitVec 32 := Scalar.addi v309 v304
  let c0_i32_216 : BitVec 32 := 0#32
  let c0_i32_217 : BitVec 32 := 0#32
  ![v310.toNat, 0, 0]
def k0_off8 (d0 : Dev nD) : Fin 3 → Nat :=
  let c4_i32_227 : BitVec 32 := 4#32
  let c1_i32_224 : BitVec 32 := 1#32
  let v321 : BitVec 32 := Dev.word d0
  let c4_i32_219 : BitVec 32 := 4#32
  let v322 : BitVec 32 := Scalar.divsi v321 c4_i32_219
  let c2_i32_218 : BitVec 32 := 2#32
  let v323 : BitVec 32 := Scalar.remsi v322 c2_i32_218
  let v330 : BitVec 32 := Scalar.subi c1_i32_224 v323
  let v333 : BitVec 32 := Scalar.muli c4_i32_227 v330
  let c2_i32_228 : BitVec 32 := 2#32
  let c1_i32_225 : BitVec 32 := 1#32
  let v324 : BitVec 32 := Dev.word d0
  let c2_i32_221 : BitVec 32 := 2#32
  let v325 : BitVec 32 := Scalar.divsi v324 c2_i32_221
  let c2_i32_220 : BitVec 32 := 2#32
  let v326 : BitVec 32 := Scalar.remsi v325 c2_i32_220
  let v331 : BitVec 32 := Scalar.subi c1_i32_225 v326
  let v334 : BitVec 32 := Scalar.muli c2_i32_228 v331
  let v335 : BitVec 32 := Scalar.addi v333 v334
  let c1_i32_226 : BitVec 32 := 1#32
  let v327 : BitVec 32 := Dev.word d0
  let c1_i32_223 : BitVec 32 := 1#32
  let v328 : BitVec 32 := Scalar.divsi v327 c1_i32_223
  let c2_i32_222 : BitVec 32 := 2#32
  let v329 : BitVec 32 := Scalar.remsi v328 c2_i32_222
  let v332 : BitVec 32 := Scalar.subi c1_i32_226 v329
  let v336 : BitVec 32 := Scalar.addi v335 v332
  let c0_i32_235 : BitVec 32 := 0#32
  let c0_i32_236 : BitVec 32 := 0#32
  ![v336.toNat, 0, 0]
-- ==== GatherReference.lean ====
abbrev S47360x128 : Shape := ⟨2, ![47360, 128]⟩
abbrev S8x5920x128 : Shape := ⟨3, ![8, 5920, 128]⟩

abbrev nBuf : Space → Nat
  | .hbm => 2
  | .vmem => 0
  | .smem => 0
  | _ => 0

abbrev bufTy : (tb : Table) → Fin (tcTables nBuf tb) → BufTy
  | .hbm, ⟨0, _⟩ => ⟨S47360x128, .bf16⟩
  | .hbm, ⟨1, _⟩ => ⟨S8x5920x128, .bf16⟩
  | _, _ => ⟨S47360x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Inproj.lean ====
abbrev S8192x1024 : Shape := ⟨2, ![8192, 1024]⟩
abbrev S8192x1536 : Shape := ⟨2, ![8192, 1536]⟩
abbrev S8192x512 : Shape := ⟨2, ![8192, 512]⟩
abbrev S8192x128 : Shape := ⟨2, ![8192, 128]⟩
abbrev S1x1024 : Shape := ⟨2, ![1, 1024]⟩
abbrev S1536x1024 : Shape := ⟨2, ![1536, 1024]⟩
abbrev S512x1024 : Shape := ⟨2, ![512, 1024]⟩
abbrev S128x1024 : Shape := ⟨2, ![128, 1024]⟩
abbrev S1024x1536 : Shape := ⟨2, ![1024, 1536]⟩
abbrev S1024x512 : Shape := ⟨2, ![1024, 512]⟩
abbrev S1024x128 : Shape := ⟨2, ![1024, 128]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S_ : Shape := ⟨0, ![]⟩

abbrev nBuf : Space → Nat
  | .hbm => 17
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1536, .f32⟩
  | .hbm, ⟨3, _⟩ => ⟨S8192x1536, .f32⟩
  | .hbm, ⟨4, _⟩ => ⟨S8192x512, .f32⟩
  | .hbm, ⟨5, _⟩ => ⟨S8192x128, .f32⟩
  | .hbm, ⟨6, _⟩ => ⟨S1x1024, .f32⟩
  | .hbm, ⟨7, _⟩ => ⟨S1536x1024, .bf16⟩
  | .hbm, ⟨8, _⟩ => ⟨S1536x1024, .bf16⟩
  | .hbm, ⟨9, _⟩ => ⟨S512x1024, .bf16⟩
  | .hbm, ⟨10, _⟩ => ⟨S128x1024, .bf16⟩
  | .hbm, ⟨11, _⟩ => ⟨S8192x1024, .f32⟩
  | .hbm, ⟨12, _⟩ => ⟨S1024x1536, .f32⟩
  | .hbm, ⟨13, _⟩ => ⟨S1024x1536, .f32⟩
  | .hbm, ⟨14, _⟩ => ⟨S1024x512, .f32⟩
  | .hbm, ⟨15, _⟩ => ⟨S1024x128, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S1536x1024, .bf16⟩
  | .local _ .vmem, ⟨14, _⟩ => ⟨S1536x1024, .bf16⟩
  | .local _ .vmem, ⟨15, _⟩ => ⟨S512x1024, .bf16⟩
  | .local _ .vmem, ⟨16, _⟩ => ⟨S128x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1024x1536, .f32⟩
  | .local _ .vmem, ⟨21, _⟩ => ⟨S1024x1536, .f32⟩
  | .local _ .vmem, ⟨22, _⟩ => ⟨S1024x512, .f32⟩
  | .local _ .vmem, ⟨23, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InprojReferenceIdeal.lean ====
abbrev S8192x1024 : Shape := ⟨2, ![8192, 1024]⟩
abbrev S8192x1536 : Shape := ⟨2, ![8192, 1536]⟩
abbrev S8192x512 : Shape := ⟨2, ![8192, 512]⟩
abbrev S8192x128 : Shape := ⟨2, ![8192, 128]⟩
abbrev S1x1024 : Shape := ⟨2, ![1, 1024]⟩
abbrev S1536x1024 : Shape := ⟨2, ![1536, 1024]⟩
abbrev S512x1024 : Shape := ⟨2, ![512, 1024]⟩
abbrev S128x1024 : Shape := ⟨2, ![128, 1024]⟩
abbrev S1024x1536 : Shape := ⟨2, ![1024, 1536]⟩
abbrev S1024x512 : Shape := ⟨2, ![1024, 512]⟩
abbrev S1024x128 : Shape := ⟨2, ![1024, 128]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1536, .f32⟩
  | .hbm, ⟨3, _⟩ => ⟨S8192x1536, .f32⟩
  | .hbm, ⟨4, _⟩ => ⟨S8192x512, .f32⟩
  | .hbm, ⟨5, _⟩ => ⟨S8192x128, .f32⟩
  | .hbm, ⟨6, _⟩ => ⟨S1x1024, .f32⟩
  | .hbm, ⟨7, _⟩ => ⟨S1536x1024, .bf16⟩
  | .hbm, ⟨8, _⟩ => ⟨S1536x1024, .bf16⟩
  | .hbm, ⟨9, _⟩ => ⟨S512x1024, .bf16⟩
  | .hbm, ⟨10, _⟩ => ⟨S128x1024, .bf16⟩
  | .hbm, ⟨11, _⟩ => ⟨S1536x1024, .f32⟩
  | .hbm, ⟨12, _⟩ => ⟨S1024x1536, .f32⟩
  | .hbm, ⟨13, _⟩ => ⟨S1536x1024, .f32⟩
  | .hbm, ⟨14, _⟩ => ⟨S1024x1536, .f32⟩
  | .hbm, ⟨15, _⟩ => ⟨S512x1024, .f32⟩
  | .hbm, ⟨16, _⟩ => ⟨S1024x512, .f32⟩
  | .hbm, ⟨17, _⟩ => ⟨S128x1024, .f32⟩
  | .hbm, ⟨18, _⟩ => ⟨S1024x128, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1536, .f32⟩
  | .hbm, ⟨39, _⟩ => ⟨S8192x1536, .f32⟩
  | .hbm, ⟨40, _⟩ => ⟨S8192x512, .f32⟩
  | .hbm, ⟨41, _⟩ => ⟨S8192x128, .f32⟩
  | .hbm, ⟨42, _⟩ => ⟨S128x1024, .f32⟩
  | .hbm, ⟨43, _⟩ => ⟨S1024x128, .f32⟩
  | .hbm, ⟨44, _⟩ => ⟨S8192x1024, .f32⟩
  | .hbm, ⟨45, _⟩ => ⟨S512x1024, .f32⟩
  | .hbm, ⟨46, _⟩ => ⟨S1024x512, .f32⟩
  | .hbm, ⟨47, _⟩ => ⟨S8192x1024, .f32⟩
  | .hbm, ⟨48, _⟩ => ⟨S8192x1024, .f32⟩
  | .hbm, ⟨49, _⟩ => ⟨S1536x1024, .f32⟩
  | .hbm, ⟨50, _⟩ => ⟨S1024x1536, .f32⟩
  | .hbm, ⟨51, _⟩ => ⟨S8192x1024, .f32⟩
  | .hbm, ⟨52, _⟩ => ⟨S8192x1024, .f32⟩
  | .hbm, ⟨53, _⟩ => ⟨S1536x1024, .f32⟩
  | .hbm, ⟨54, _⟩ => ⟨S1024x1536, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Project.lean ====
abbrev S8192x1024 : Shape := ⟨2, ![8192, 1024]⟩
abbrev S1x1024 : Shape := ⟨2, ![1, 1024]⟩
abbrev S1024x1536 : Shape := ⟨2, ![1024, 1536]⟩
abbrev S1024x512 : Shape := ⟨2, ![1024, 512]⟩
abbrev S1024x128 : Shape := ⟨2, ![1024, 128]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S1024x1536, .bf16⟩
  | .hbm, ⟨4, _⟩ => ⟨S1024x512, .bf16⟩
  | .hbm, ⟨5, _⟩ => ⟨S1024x128, .bf16⟩
  | .hbm, ⟨6, _⟩ => ⟨S8192x1536, .f32⟩
  | .hbm, ⟨7, _⟩ => ⟨S8192x1536, .f32⟩
  | .hbm, ⟨8, _⟩ => ⟨S8192x512, .f32⟩
  | .hbm, ⟨9, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x512, .bf16⟩
  | .local _ .vmem, ⟨6, _⟩ => ⟨S1024x128, .bf16⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectReferenceIdeal.lean ====
abbrev S8192x1024 : Shape := ⟨2, ![8192, 1024]⟩
abbrev S1x1024 : Shape := ⟨2, ![1, 1024]⟩
abbrev S1024x1536 : Shape := ⟨2, ![1024, 1536]⟩
abbrev S1024x512 : Shape := ⟨2, ![1024, 512]⟩
abbrev S1024x128 : Shape := ⟨2, ![1024, 128]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x128 : Shape := ⟨2, ![8192, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S1024x1536, .bf16⟩
  | .hbm, ⟨4, _⟩ => ⟨S1024x512, .bf16⟩
  | .hbm, ⟨5, _⟩ => ⟨S1024x128, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1536, .f32⟩
  | .hbm, ⟨22, _⟩ => ⟨S8192x1536, .f32⟩
  | .hbm, ⟨23, _⟩ => ⟨S1024x1536, .f32⟩
  | .hbm, ⟨24, _⟩ => ⟨S8192x1536, .f32⟩
  | .hbm, ⟨25, _⟩ => ⟨S1024x512, .f32⟩
  | .hbm, ⟨26, _⟩ => ⟨S8192x512, .f32⟩
  | .hbm, ⟨27, _⟩ => ⟨S1024x128, .f32⟩
  | .hbm, ⟨28, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Gating.lean ====
abbrev S8192x1536 : Shape := ⟨2, ![8192, 1536]⟩
abbrev S1x512 : Shape := ⟨2, ![1, 512]⟩
abbrev S4x128x128 : Shape := ⟨3, ![4, 128, 128]⟩
abbrev S128x4 : Shape := ⟨2, ![128, 4]⟩
abbrev S8192x512 : Shape := ⟨2, ![8192, 512]⟩
abbrev S512x1536 : Shape := ⟨2, ![512, 1536]⟩
abbrev S512x512 : Shape := ⟨2, ![512, 512]⟩
abbrev S128x128 : Shape := ⟨2, ![128, 128]⟩
abbrev S1x4 : Shape := ⟨2, ![1, 4]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x4, .f32⟩
  | .hbm, ⟨5, _⟩ => ⟨S8192x512, .bf16⟩
  | .local _ .vmem, ⟨0, _⟩ => ⟨S512x1536, .f32⟩
  | .local _ .vmem, ⟨1, _⟩ => ⟨S512x1536, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x4, .f32⟩
  | .local _ .vmem, ⟨6, _⟩ => ⟨S512x512, .bf16⟩
  | .local _ .vmem, ⟨7, _⟩ => ⟨S512x512, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatingReferenceIdeal.lean ====
abbrev S8192x1536 : Shape := ⟨2, ![8192, 1536]⟩
abbrev S1x512 : Shape := ⟨2, ![1, 512]⟩
abbrev S4x128x128 : Shape := ⟨3, ![4, 128, 128]⟩
abbrev S128x4 : Shape := ⟨2, ![128, 4]⟩
abbrev S8192x512 : Shape := ⟨2, ![8192, 512]⟩
abbrev S_ : Shape := ⟨0, ![]⟩
abbrev S64x128x4x128 : Shape := ⟨4, ![64, 128, 4, 128]⟩
abbrev S64x128x4 : Shape := ⟨3, ![64, 128, 4]⟩
abbrev S64x128x4x1 : Shape := ⟨4, ![64, 128, 4, 1]⟩
abbrev S4x128 : Shape := ⟨2, ![4, 128]⟩
abbrev S1x1x4x128 : Shape := ⟨4, ![1, 1, 4, 128]⟩
abbrev S128x128 : Shape := ⟨2, ![128, 128]⟩
abbrev S4x64x128x128 : Shape := ⟨4, ![4, 64, 128, 128]⟩
abbrev S128x4x1 : Shape := ⟨3, ![128, 4, 1]⟩
abbrev S1x128x4x1 : Shape := ⟨4, ![1, 128, 4, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x4, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S64x128x4x128, .f32⟩
  | .hbm, ⟨18, _⟩ => ⟨S_, .f32⟩
  | .hbm, ⟨19, _⟩ => ⟨S64x128x4, .f32⟩
  | .hbm, ⟨20, _⟩ => ⟨S64x128x4x1, .f32⟩
  | .hbm, ⟨21, _⟩ => ⟨S_, .f32⟩
  | .hbm, ⟨22, _⟩ => ⟨S64x128x4x1, .f32⟩
  | .hbm, ⟨23, _⟩ => ⟨S64x128x4x1, .f32⟩
  | .hbm, ⟨24, _⟩ => ⟨S64x128x4x128, .f32⟩
  | .hbm, ⟨25, _⟩ => ⟨S64x128x4x128, .f32⟩
  | .hbm, ⟨26, _⟩ => ⟨S64x128x4x128, .f32⟩
  | .hbm, ⟨27, _⟩ => ⟨S_, .f32⟩
  | .hbm, ⟨28, _⟩ => ⟨S64x128x4, .f32⟩
  | .hbm, ⟨29, _⟩ => ⟨S64x128x4x1, .f32⟩
  | .hbm, ⟨30, _⟩ => ⟨S_, .f32⟩
  | .hbm, ⟨31, _⟩ => ⟨S64x128x4x1, .f32⟩
  | .hbm, ⟨32, _⟩ => ⟨S64x128x4x1, .f32⟩
  | .hbm, ⟨33, _⟩ => ⟨S_, .f32⟩
  | .hbm, ⟨34, _⟩ => ⟨S64x128x4x1, .f32⟩
  | .hbm, ⟨35, _⟩ => ⟨S64x128x4x1, .f32⟩
  | .hbm, ⟨36, _⟩ => ⟨S64x128x4x1, .f32⟩
  | .hbm, ⟨37, _⟩ => ⟨S64x128x4x128, .f32⟩
  | .hbm, ⟨38, _⟩ => ⟨S64x128x4x128, .f32⟩
  | .hbm, ⟨39, _⟩ => ⟨S4x128, .f32⟩
  | .hbm, ⟨40, _⟩ => ⟨S1x1x4x128, .f32⟩
  | .hbm, ⟨41, _⟩ => ⟨S64x128x4x128, .f32⟩
  | .hbm, ⟨42, _⟩ => ⟨S64x128x4x128, .f32⟩
  | .hbm, ⟨43, _⟩ => ⟨S4x128, .f32⟩
  | .hbm, ⟨44, _⟩ => ⟨S1x1x4x128, .f32⟩
  | .hbm, ⟨45, _⟩ => ⟨S64x128x4x128, .f32⟩
  | .hbm, ⟨46, _⟩ => ⟨S64x128x4x128, .f32⟩
  | .hbm, ⟨47, _⟩ => ⟨S_, .i1⟩
  | .hbm, ⟨48, _⟩ => ⟨S128x128, .i1⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .i1⟩
  | .hbm, ⟨56, _⟩ => ⟨S128x128, .i1⟩
  | .hbm, ⟨57, _⟩ => ⟨S128x128, .i1⟩
  | .hbm, ⟨58, _⟩ => ⟨S_, .f32⟩
  | .hbm, ⟨59, _⟩ => ⟨S4x128x128, .f32⟩
  | .hbm, ⟨60, _⟩ => ⟨S4x128x128, .i1⟩
  | .hbm, ⟨61, _⟩ => ⟨S4x128x128, .f32⟩
  | .hbm, ⟨62, _⟩ => ⟨S4x64x128x128, .f32⟩
  | .hbm, ⟨63, _⟩ => ⟨S64x128x4x128, .f32⟩
  | .hbm, ⟨64, _⟩ => ⟨S128x4x1, .f32⟩
  | .hbm, ⟨65, _⟩ => ⟨S1x128x4x1, .f32⟩
  | .hbm, ⟨66, _⟩ => ⟨S64x128x4x128, .f32⟩
  | .hbm, ⟨67, _⟩ => ⟨S64x128x4x128, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_0 : Ref sig .tc := ⟨.hbm, 55, rfl⟩
abbrev main_call0_v5 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== Ungate.lean ====
abbrev S8192x1536 : Shape := ⟨2, ![8192, 1536]⟩
abbrev S8192x512 : Shape := ⟨2, ![8192, 512]⟩
abbrev S1x512 : Shape := ⟨2, ![1, 512]⟩
abbrev S4x128x128 : Shape := ⟨3, ![4, 128, 128]⟩
abbrev S128x4 : Shape := ⟨2, ![128, 4]⟩
abbrev S512x1536 : Shape := ⟨2, ![512, 1536]⟩
abbrev S512x512 : Shape := ⟨2, ![512, 512]⟩
abbrev S128x128 : Shape := ⟨2, ![128, 128]⟩
abbrev S1x4 : Shape := ⟨2, ![1, 4]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 11
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S128x4, .f32⟩
  | .hbm, ⟨6, _⟩ => ⟨S8192x1536, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S128x4, .f32⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x1536, .f32⟩
  | .local _ .vmem, ⟨9, _⟩ => ⟨S512x1536, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S128x4, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== UngateReferenceIdeal.lean ====
abbrev S8192x1536 : Shape := ⟨2, ![8192, 1536]⟩
abbrev S8192x512 : Shape := ⟨2, ![8192, 512]⟩
abbrev S1x512 : Shape := ⟨2, ![1, 512]⟩
abbrev S4x128x128 : Shape := ⟨3, ![4, 128, 128]⟩
abbrev S128x4 : Shape := ⟨2, ![128, 4]⟩
abbrev S_ : Shape := ⟨0, ![]⟩
abbrev S64x128x4x128 : Shape := ⟨4, ![64, 128, 4, 128]⟩
abbrev S64x128x4 : Shape := ⟨3, ![64, 128, 4]⟩
abbrev S64x128x4x1 : Shape := ⟨4, ![64, 128, 4, 1]⟩
abbrev S4x128 : Shape := ⟨2, ![4, 128]⟩
abbrev S1x1x4x128 : Shape := ⟨4, ![1, 1, 4, 128]⟩
abbrev S128x128 : Shape := ⟨2, ![128, 128]⟩
abbrev S4x64x128x128 : Shape := ⟨4, ![4, 64, 128, 128]⟩
abbrev S128x4x1 : Shape := ⟨3, ![128, 4, 1]⟩
abbrev S1x128x4x1 : Shape := ⟨4, ![1, 128, 4, 1]⟩

abbrev nBuf : Space → Nat
  | .hbm => 203
  | .vmem => 0
  | .smem => 0
  | _ => 0

abbrev hbmTy0_0 (i : Nat) : BufTy := match i % 128 with
  | 0 => ⟨S8192x1536, .f32⟩
  | 1 => ⟨S8192x512, .f32⟩
  | 2 => ⟨S1x512, .f32⟩
  | 3 => ⟨S1x512, .f32⟩
  | 4 => ⟨S4x128x128, .f32⟩
  | 5 => ⟨S128x4, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S64x128x4x128, .f32⟩
  | 22 => ⟨S_, .f32⟩
  | 23 => ⟨S64x128x4, .f32⟩
  | 24 => ⟨S64x128x4x1, .f32⟩
  | 25 => ⟨S_, .f32⟩
  | 26 => ⟨S64x128x4x1, .f32⟩
  | 27 => ⟨S64x128x4x1, .f32⟩
  | 28 => ⟨S64x128x4x128, .f32⟩
  | 29 => ⟨S64x128x4x128, .f32⟩
  | 30 => ⟨S64x128x4x128, .f32⟩
  | 31 => ⟨S_, .f32⟩
  | 32 => ⟨S64x128x4, .f32⟩
  | 33 => ⟨S64x128x4x1, .f32⟩
  | 34 => ⟨S_, .f32⟩
  | 35 => ⟨S64x128x4x1, .f32⟩
  | 36 => ⟨S64x128x4x1, .f32⟩
  | 37 => ⟨S_, .f32⟩
  | 38 => ⟨S64x128x4x1, .f32⟩
  | 39 => ⟨S64x128x4x1, .f32⟩
  | 40 => ⟨S64x128x4x1, .f32⟩
  | 41 => ⟨S64x128x4x1, .f32⟩
  | 42 => ⟨S_, .f32⟩
  | 43 => ⟨S64x128x4x1, .f32⟩
  | 44 => ⟨S64x128x4x1, .f32⟩
  | 45 => ⟨S64x128x4x128, .f32⟩
  | 46 => ⟨S64x128x4x128, .f32⟩
  | 47 => ⟨S4x128, .f32⟩
  | 48 => ⟨S1x1x4x128, .f32⟩
  | 49 => ⟨S64x128x4x128, .f32⟩
  | 50 => ⟨S64x128x4x128, .f32⟩
  | 51 => ⟨S4x128, .f32⟩
  | 52 => ⟨S1x1x4x128, .f32⟩
  | 53 => ⟨S64x128x4x128, .f32⟩
  | 54 => ⟨S64x128x4x128, .f32⟩
  | 55 => ⟨S_, .i1⟩
  | 56 => ⟨S128x128, .i1⟩
  | 57 => ⟨S128x128, .i32⟩
  | 58 => ⟨S_, .i32⟩
  | 59 => ⟨S128x128, .i32⟩
  | 60 => ⟨S128x128, .i32⟩
  | 61 => ⟨S128x128, .i32⟩
  | 62 => ⟨S128x128, .i1⟩
  | 63 => ⟨S_, .i1⟩
  | 64 => ⟨S128x128, .i1⟩
  | 65 => ⟨S128x128, .i1⟩
  | 66 => ⟨S_, .f32⟩
  | 67 => ⟨S4x128x128, .f32⟩
  | 68 => ⟨S4x128x128, .i1⟩
  | 69 => ⟨S4x128x128, .f32⟩
  | 70 => ⟨S_, .f32⟩
  | 71 => ⟨S4x128x128, .f32⟩
  | 72 => ⟨S4x64x128x128, .f32⟩
  | 73 => ⟨S64x128x4x128, .f32⟩
  | 74 => ⟨S128x4x1, .f32⟩
  | 75 => ⟨S1x128x4x1, .f32⟩
  | 76 => ⟨S64x128x4x128, .f32⟩
  | 77 => ⟨S64x128x4x128, .f32⟩
  | 78 => ⟨S_, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S64x128x4x128, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x1536, .f32⟩

abbrev hbmTy0_1 (i : Nat) : BufTy := match i % 128 with
  | 0 => ⟨S8192x512, .f32⟩
  | 1 => ⟨S_, .f32⟩
  | 2 => ⟨S128x4, .f32⟩
  | 3 => ⟨S1x128x4x1, .f32⟩
  | 4 => ⟨S_, .f32⟩
  | 5 => ⟨S128x4, .f32⟩
  | 6 => ⟨S128x4x1, .f32⟩
  | 7 => ⟨S_, .f32⟩
  | 8 => ⟨S128x4, .f32⟩
  | 9 => ⟨S4x64x128x128, .f32⟩
  | 10 => ⟨S4x128x128, .f32⟩
  | 11 => ⟨S4x64x128x128, .f32⟩
  | 12 => ⟨S64x128x4x128, .f32⟩
  | 13 => ⟨S_, .f32⟩
  | 14 => ⟨S4x128x128, .f32⟩
  | 15 => ⟨S4x128x128, .f32⟩
  | 16 => ⟨S_, .f32⟩
  | 17 => ⟨S4x128, .f32⟩
  | 18 => ⟨S1x1x4x128, .f32⟩
  | 19 => ⟨S_, .f32⟩
  | 20 => ⟨S4x128, .f32⟩
  | 21 => ⟨S1x512, .f32⟩
  | 22 => ⟨S64x128x4x128, .f32⟩
  | 23 => ⟨S_, .f32⟩
  | 24 => ⟨S4x128, .f32⟩
  | 25 => ⟨S1x1x4x128, .f32⟩
  | 26 => ⟨S64x128x4x128, .f32⟩
  | 27 => ⟨S64x128x4x128, .f32⟩
  | 28 => ⟨S_, .f32⟩
  | 29 => ⟨S4x128, .f32⟩
  | 30 => ⟨S1x512, .f32⟩
  | 31 => ⟨S64x128x4x128, .f32⟩
  | 32 => ⟨S_, .f32⟩
  | 33 => ⟨S64x128x4, .f32⟩
  | 34 => ⟨S64x128x4x1, .f32⟩
  | 35 => ⟨S64x128x4x128, .f32⟩
  | 36 => ⟨S64x128x4x128, .f32⟩
  | 37 => ⟨S64x128x4x1, .f32⟩
  | 38 => ⟨S_, .f32⟩
  | 39 => ⟨S64x128x4x1, .f32⟩
  | 40 => ⟨S64x128x4x1, .f32⟩
  | 41 => ⟨S_, .f32⟩
  | 42 => ⟨S64x128x4, .f32⟩
  | 43 => ⟨S64x128x4x128, .f32⟩
  | 44 => ⟨S64x128x4x128, .f32⟩
  | 45 => ⟨S64x128x4x128, .f32⟩
  | 46 => ⟨S64x128x4x128, .f32⟩
  | 47 => ⟨S64x128x4x128, .f32⟩
  | 48 => ⟨S64x128x4x128, .f32⟩
  | 49 => ⟨S_, .f32⟩
  | 50 => ⟨S64x128x4, .f32⟩
  | 51 => ⟨S64x128x4x1, .f32⟩
  | 52 => ⟨S_, .f32⟩
  | 53 => ⟨S64x128x4x1, .f32⟩
  | 54 => ⟨S64x128x4x1, .f32⟩
  | 55 => ⟨S_, .f32⟩
  | 56 => ⟨S64x128x4, .f32⟩
  | 57 => ⟨S64x128x4x128, .f32⟩
  | 58 => ⟨S64x128x4x128, .f32⟩
  | 59 => ⟨S8192x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S8192x1536, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44_1 : Ref sig .tc := ⟨.hbm, 68, rfl⟩
abbrev main_v44_0 : Ref sig .tc := ⟨.hbm, 69, rfl⟩
abbrev main_call1_cst : Ref sig .tc := ⟨.hbm, 70, rfl⟩
abbrev main_v44_2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_v63_2 : Ref sig .tc := ⟨.hbm, 99, rfl⟩
abbrev main_call2_cst_1 : Ref sig .tc := ⟨.hbm, 100, rfl⟩
abbrev main_call2_v6 : Ref sig .tc := ⟨.hbm, 101, rfl⟩
abbrev main_call2_v7 : Ref sig .tc := ⟨.hbm, 102, rfl⟩
abbrev main_v63_1 : Ref sig .tc := ⟨.hbm, 103, rfl⟩
abbrev main_v63_0 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_10 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_11 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_12 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_13 : Ref sig .tc := ⟨.hbm, 129, rfl⟩
abbrev main_v82 : Ref sig .tc := ⟨.hbm, 130, rfl⟩
abbrev main_v83 : Ref sig .tc := ⟨.hbm, 131, rfl⟩
abbrev main_cst_14 : Ref sig .tc := ⟨.hbm, 132, rfl⟩
abbrev main_v84 : Ref sig .tc := ⟨.hbm, 133, rfl⟩
abbrev main_v85 : Ref sig .tc := ⟨.hbm, 134, rfl⟩
abbrev main_cst_15 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call4_cst : Ref sig .tc := ⟨.hbm, 141, rfl⟩
abbrev main_call4_v0 : Ref sig .tc := ⟨.hbm, 142, rfl⟩
abbrev main_v91 : Ref sig .tc := ⟨.hbm, 143, rfl⟩
abbrev main_cst_16 : Ref sig .tc := ⟨.hbm, 144, rfl⟩
abbrev main_v92 : Ref sig .tc := ⟨.hbm, 145, rfl⟩
abbrev main_v93 : Ref sig .tc := ⟨.hbm, 146, rfl⟩
abbrev main_cst_17 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_18 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_19 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_20 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_21 : Ref sig .tc := ⟨.hbm, 166, rfl⟩
abbrev main_v109 : Ref sig .tc := ⟨.hbm, 167, rfl⟩
abbrev main_v110 : Ref sig .tc := ⟨.hbm, 168, rfl⟩
abbrev main_cst_22 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_23 : Ref sig .tc := ⟨.hbm, 177, rfl⟩
abbrev main_v118 : Ref sig .tc := ⟨.hbm, 178, rfl⟩
abbrev main_v119 : Ref sig .tc := ⟨.hbm, 179, rfl⟩
abbrev main_cst_24 : Ref sig .tc := ⟨.hbm, 180, rfl⟩
abbrev main_v120 : Ref sig .tc := ⟨.hbm, 181, rfl⟩
abbrev main_v121 : Ref sig .tc := ⟨.hbm, 182, rfl⟩
abbrev main_cst_25 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_26 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_27 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_28 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩

abbrev nD : Nat := 1
abbrev τ : Topo := Topo.v7x

variable {F : FTy → Type} [FloatOps F]
-- ==== Proof.Wires.lean ====
/-
# Who talks to whom

Both exchanges, of the gradients and of the weights, run over the same eight devices in the same pattern: each device
deals with its seven partners one by one and with itself, over fifteen semaphores. This module has the partners, the
semaphores' names, and families over both taken apart.
-/
module

public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The partners -/

/-- The partner of device `c` in exchange `k`: the coordinates named by the bits of `k + 1` flipped. -/
def peer (c : Dev 8) (k : Fin 7) : Dev 8 :=
  ⟨c.val ^^^ (k.val + 1), by revert c k; decide⟩

theorem peer_peer (c : Dev 8) (k : Fin 7) : peer (peer c k) k = c := by revert c k; decide

/-- Flipping the same coordinates twice is the identity: exchange `k` as a permutation of the devices. -/
def flip (k : Fin 7) : Dev 8 ≃ Dev 8 := ⟨(peer · k), (peer · k), (peer_peer · k), (peer_peer · k)⟩

/-- The devices seen from `c`: itself, and its seven partners. -/
def other (c : Dev 8) : Option (Fin 7) → Dev 8
  | none => c
  | some k => peer c k

theorem other_bijective (c : Dev 8) : Function.Bijective (other c) := by
  revert c; decide

/-- The same as an equivalence. -/
def others (c : Dev 8) : Option (Fin 7) ≃ Dev 8 := Equiv.ofBijective (other c) (other_bijective c)

/-! ## The semaphores -/

/-- A device's semaphores of an exchange: a send's, a receive's, or its own copy's. -/
abbrev Wire : Type := Fin 7 ⊕ Fin 7 ⊕ Unit

abbrev snd (k : Fin 7) : Wire := .inl k
abbrev rcv (k : Fin 7) : Wire := .inr (.inl k)
abbrev own : Wire := .inr (.inr ())

/-! ## Families taken apart -/

section Families

variable {sig : RefSig} {F : FTy → Type} [FloatOps F]

/-- The ghost state: one book for the staging semaphores of the pallas_calls, one for the exchange's. -/
abbrev UU (sig : RefSig) : Type := UR sig 8 Topo.v7x × UR sig 8 Topo.v7x

local notation "𝕄" => MT 8 Topo.v7x sig Unit (Elt F) ℕ (UU sig) ℕ

/-- The seven members of a family over the exchanges, one by one. -/
theorem seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A family over the wires: the sends', the receives' and the copy's. -/
theorem wires (Φ : Wire → sProp 𝕄) :
    bigSep Finset.univ Φ = iprop((bigSep Finset.univ fun k => Φ (snd k)) ∗ (bigSep Finset.univ fun k => Φ (rcv k)) ∗ Φ own) := by
  rw [bigSep_univ_sum, bigSep_univ_sum, bigSep_univ_of_subsingleton ()]; rfl

/-- The wires one by one, in the order in which they are waited for. -/
theorem wires_each (Φ : Wire → sProp 𝕄) :
    bigSep Finset.univ Φ = iprop((Φ (snd 0) ∗ Φ (snd 1) ∗ Φ (snd 2) ∗ Φ (snd 3) ∗ Φ (snd 4) ∗ Φ (snd 5) ∗ Φ (snd 6))
      ∗ (Φ (rcv 0) ∗ Φ (rcv 1) ∗ Φ (rcv 2) ∗ Φ (rcv 3) ∗ Φ (rcv 4) ∗ Φ (rcv 5) ∗ Φ (rcv 6)) ∗ Φ own) := by
  rw [wires, seven, seven]

/-- A family over the devices, seen from `c`: its partners', and its own. -/
theorem around (c : Dev 8) (Φ : Dev 8 → sProp 𝕄) :
    bigSep Finset.univ Φ = iprop((bigSep Finset.univ fun k => Φ (peer c k)) ∗ Φ c) := by
  rw [bigSep_univ_equiv ((Equiv.optionEquivSumPUnit.{0, 0} (Fin 7)).symm.trans (others c)) Φ, bigSep_univ_sum,
    bigSep_univ_of_subsingleton PUnit.unit]
  rfl

/-- What every device has for each exchange may be handed to its partner in that exchange. -/
theorem swapped (Φ : Dev 8 → Fin 7 → sProp 𝕄) :
    (bigSep Finset.univ fun c => bigSep Finset.univ fun k => Φ c k)
      = bigSep Finset.univ fun c => bigSep Finset.univ fun k => Φ (peer c k) k := by
  rw [bigSep_univ_comm, bigSep_univ_comm (fun c k => Φ (peer c k) k)]
  exact bigSep_congr fun k _ => bigSep_univ_equiv (flip k) fun c => Φ c k

end Families

end Cert.Exchange

end
-- ==== Proof.Slots.lean ====
/-
# The eight slots of an array

The arrays of the exchanges have eight slots of `n` rows of 128, one per device. This module names a slot as a memref
and takes the ownership of an array apart into that of its slots.
-/
module

public import proofs.«01_k».proof.Proof.Wires

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {e : EltTy} {n : ℕ}

/-- Eight slots; one slot, with and without its axis of size one. -/
abbrev Slots (n : ℕ) : Shape := ⟨3, ![8, n, 128]⟩
abbrev Slot1 (n : ℕ) : Shape := ⟨3, ![1, n, 128]⟩
abbrev Slot (n : ℕ) : Shape := ⟨2, ![n, 128]⟩

theorem slot_inb (j : Dev 8) : ∀ a, (![j.val, 0, 0] : Fin 3 → Nat) a + (Slot1 n).size a ≤ (Slots n).size a := by
  intro a
  match a with
  | 0 => exact j.isLt
  | 1 => exact Nat.le_of_eq (Nat.zero_add n)
  | 2 => exact Nat.le_of_eq (Nat.zero_add 128)

/-- Slot `j`. -/
def slot (hq : (Slot1 n).Squeezes (Slot n)) (r : Memref sig .tc .hbm (Slots n) e) (j : Dev 8) : Memref sig .tc .hbm (Slot n) e :=
  (r.slice (Rect.unit (s := Slots n) ![j.val, 0, 0] (Slot1 n).size (slot_inb j)) (fun _ => rfl)).squeeze (Slot n) hq

/-- A slot cut at an offset that is the slot's. -/
theorem slot_of (hq : (Slot1 n).Squeezes (Slot n)) (r : Memref sig .tc .hbm (Slots n) e) (j : Dev 8) {off : Fin 3 → Nat}
    (h : off = ![j.val, 0, 0]) (hi : ∀ a, off a + (Slot1 n).size a ≤ (Slots n).size a) :
    (r.slice (Rect.unit (s := Slots n) off (Slot1 n).size hi) (fun _ => rfl)).squeeze (Slot n) hq = slot hq r j := by
  subst h; rfl

/-! ## The elements of a slot -/

/-- The index of element `y` of slot `j` in the array. -/
def at3 (j : Dev 8) (y : (Slot n).Idx) : (Slots n).Idx :=
  Fin.cons (α := fun a => Fin ((Slots n).size a)) j y

/-- The slot of an index. -/
def slotIx (i : (Slots n).Idx) : Dev 8 := i 0
/-- Its place in the slot. -/
def restIx (i : (Slots n).Idx) : (Slot n).Idx := Fin.tail (α := fun a => Fin ((Slots n).size a)) i

theorem at3_slotIx (i : (Slots n).Idx) : at3 (slotIx i) (restIx i) = i :=
  Fin.cons_self_tail (α := fun a => Fin ((Slots n).size a)) i
theorem slotIx_at3 (j : Dev 8) (y : (Slot n).Idx) : slotIx (at3 j y) = j := rfl
theorem restIx_at3 (j : Dev 8) (y : (Slot n).Idx) : restIx (at3 j y) = y := rfl

variable (hq : (Slot1 n).Squeezes (Slot n)) (r : Memref sig .tc .hbm (Slots n) e)

theorem slot_emb (j : Dev 8) (y : (Slot n).Idx) : (slot hq r j).view.emb y = r.view.emb (at3 j y) := by
  show r.view.emb ((Rect.unit (s := Slots n) ![j.val, 0, 0] (Slot1 n).size (slot_inb j)).emb
    (Shape.reshapeEquiv hq.numel_eq y)) = _
  congr 1
  have h := Shape.reshapeEquiv_cons_one (n := 2) (d := ![n, 128]) hq.numel_eq y
  rw [show Shape.reshapeEquiv hq.numel_eq y = (Fin.cons ⟨0, Nat.one_pos⟩ y : (⟨3, Matrix.vecCons 1 ![n, 128]⟩ : Shape).Idx) from h]
  funext a
  refine Fin.ext ?_
  rw [Rect.emb_apply]
  match a with
  | 0 => show j.val + 1 * 0 = j.val; omega
  | 1 => show 0 + 1 * (y 0).val = (y 0).val; omega
  | 2 => show 0 + 1 * (y 1).val = (y 1).val; omega

/-- An element of the array is under slot `j` exactly when its index is in slot `j`. -/
theorem mem_slot (j : Dev 8) (i : (Slots n).Idx) : r.view.emb i ∈ (slot hq r j).view.set ↔ slotIx i = j := by
  constructor
  · intro h
    obtain ⟨y, -, hy⟩ := Finset.mem_map.mp h
    have hy' : at3 j y = i := r.view.emb.injective ((slot_emb hq r j y).symm.trans hy)
    rw [← hy']; rfl
  · rintro rfl
    refine Finset.mem_map.mpr ⟨restIx i, Finset.mem_univ _, ?_⟩
    exact (slot_emb hq r _ _).trans (congrArg _ (at3_slotIx i))

theorem slot_subset (j : Dev 8) : (slot hq r j).view.set ⊆ r.view.set := fun i hi => by
  obtain ⟨y, -, rfl⟩ := Finset.mem_map.mp hi
  exact (slot_emb hq r j y).symm ▸ r.view.emb_mem_set _

theorem slots_disjoint {j j' : Dev 8} (hne : j ≠ j') : Disjoint (slot hq r j).view.set (slot hq r j').view.set := by
  refine Finset.disjoint_left.mpr fun i hi hi' => hne ?_
  obtain ⟨x, -, rfl⟩ := Finset.mem_map.mp (slot_subset hq r j hi)
  exact ((mem_slot hq r j x).mp hi).symm.trans ((mem_slot hq r j' x).mp hi')

theorem slots_union : (Finset.univ : Finset (Dev 8)).biUnion (fun j => (slot hq r j).view.set) = r.view.set := by
  ext i
  refine ⟨fun h => ?_, fun h => ?_⟩
  · obtain ⟨j, -, hj⟩ := Finset.mem_biUnion.mp h
    exact slot_subset hq r j hj
  · obtain ⟨x, -, rfl⟩ := Finset.mem_map.mp h
    exact Finset.mem_biUnion.mpr ⟨slotIx x, Finset.mem_univ _, (mem_slot hq r _ x).mpr rfl⟩

/-! ## An array is its slots -/

section Split

variable {F : FTy → Type} [FloatOps F] {Ix : Type} [DecidableEq Ix] {Name : Type} [DecidableEq Name] {U : Type} [URA U]
  {Lvl : Type}

local notation "𝕄" => MT 8 Topo.v7x sig Ix (Elt F) Name U Lvl

theorem slots_split (c : Dev 8) (f : Buf (Elt F) (r.view.loc (c : Thread 8 Topo.v7x))) :
    (r.view.loc (c : Thread 8 Topo.v7x) ↦[r.view.set]{fullShare} f : sProp 𝕄)
      = bigSep Finset.univ fun j : Dev 8 =>
        (slot hq r j).view.loc (c : Thread 8 Topo.v7x) ↦[(slot hq r j).view.set]{fullShare} f := by
  have h := pointsTo_biUnion (Ix := Ix) (Name := Name) (U := U) (Lvl := Lvl) (q := fullShare) (f := f)
    (Finset.univ : Finset (Dev 8)) (fun j => (slot hq r j).view.set)
    (fun j _ j' _ hne => slots_disjoint hq r hne)
  rw [slots_union] at h
  exact h

end Split

end Cert.Exchange

end
-- ==== Proof.Exchange.lean ====
/-
# An exchange over eight devices

Each device copies its own part of what it has into its own part of its result, copies to each of its seven partners
what it has for that partner, into its part of the partner's result, and then waits for the seven parts its partners
send it, for its own seven sends and for its own copy. Nothing is signalled beforehand: the part of `j`'s result that
device `c` writes is written by `c` alone, so every such part is handed to its one writer when the program starts.

`Net` names what an exchange moves: where each copy reads and writes, with what share of the elements read, and what
lies there before and after. The exchange of the gradients and the gathering of the weights are two of them.

Per device there are fifteen semaphores, each waited for once:

* the send semaphore of exchange `k`, raised by the device's own transfer to its partner `k`; its landing hands back
  the share that was read;
* the receive semaphore of exchange `k`, raised by the partner's transfer; its landing hands over the partner's part
  of the result, holding what the partner had for this device;
* the semaphore of the device's own copy; its landing hands over both.
-/
module

public import proofs.«01_k».proof.Proof.Wires

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} [FloatOps F]

variable (sig F) in
/-- What an exchange moves. -/
structure Net where
  /-- A transfer's shape and element type. -/
  shape : Shape
  elt : EltTy
  /-- What a device has for device `j`, and where it puts what it has from device `p`. -/
  src : Dev 8 → Memref sig .tc .hbm shape elt
  dst : Dev 8 → Memref sig .tc .hbm shape elt
  /-- The share of the elements read that the transfer for device `j` takes. -/
  lent : Dev 8 → PosShare TreeShare
  /-- What device `c` has for device `j`, and what it ends with from device `p`. -/
  had (c j : Dev 8) : Buf (Elt F) ((src j).view.loc (c : Thread 8 Topo.v7x))
  got (c p : Dev 8) : Buf (Elt F) ((dst p).view.loc (c : Thread 8 Topo.v7x))
  /-- The semaphores, and which is which. -/
  sem : Wire → DmaSem sig
  wire : DmaSem sig → Wire
  wire_sem (w : Wire) : wire (sem w) = w
  /-- What one transfer raises a semaphore by. -/
  credit : ℕ
  credit_pos : 0 < credit
  credit_dst (p : Dev 8) : (dst p).view.dmaCredit = credit
  /-- What device `p` has for device `c`, copied, is what `c` ends with from `p`. -/
  landed (c p : Dev 8) (fd : Buf (Elt F) ((dst p).view.loc (c : Thread 8 Topo.v7x))) (i) (hi : i ∈ (dst p).view.set) :
    (dst p).view.write (Elt F) fd ((src c).view.read (Elt F) (had p c)) Finset.univ i = got c p i

local notation "𝕄" => MT 8 Topo.v7x sig Unit (Elt F) ℕ (UU sig) ℕ

abbrev ES : Emb (UR sig 8 Topo.v7x) (MT 8 Topo.v7x sig Unit (Elt F) ℕ (UU sig) ℕ) := embL
abbrev EX : Emb (UR sig 8 Topo.v7x) (MT 8 Topo.v7x sig Unit (Elt F) ℕ (UU sig) ℕ) := embR

abbrev 𝒱₀ : Variants := Variants.none

variable (X : Net sig F)

/-! ## The semaphores -/

theorem sem_injective : Function.Injective X.sem := fun a b h => by
  rw [← X.wire_sem a, h, X.wire_sem]

/-- The cell of a wire on a device. -/
abbrev cell (c : Dev 8) (w : Wire) : GSem 8 Topo.v7x sig := ((c : Thread 8 Topo.v7x), .dma (X.sem w))

theorem cell_injective : Function.Injective (fun cw : Dev 8 × Wire => cell X cw.1 cw.2) := by
  rintro ⟨c, w⟩ ⟨c', w'⟩ h
  have h1 : c = c' := congrArg (fun g : GSem 8 Topo.v7x sig => g.1.1) h
  have h2 : X.sem w = X.sem w' := SemLoc.dma.inj (congrArg Prod.snd h)
  rw [h1, sem_injective X h2]

/-! ## The parts held -/

/-- The share of what device `c` has for device `j`, as launched. -/
def inPart (c j : Dev 8) : sProp 𝕄 :=
  (X.src j).view.loc (c : Thread 8 Topo.v7x) ↦[(X.src j).view.set]{X.lent j} X.had c j

/-- The part of device `c`'s result for device `p`, holding `f`'s. -/
def outPart (c p : Dev 8) (f : Buf (Elt F) ((X.dst p).view.loc (c : Thread 8 Topo.v7x))) : sProp 𝕄 :=
  (X.dst p).view.loc (c : Thread 8 Topo.v7x) ↦[(X.dst p).view.set]{fullShare} f

instance inPart_storable (c j : Dev 8) : BI.Storable (upEmb : UEmb _ 𝕄) (inPart X c j) := by
  unfold inPart; infer_instance
instance outPart_storable (c p : Dev 8) (f) : BI.Storable (upEmb : UEmb _ 𝕄) (outPart X c p f) := by
  unfold outPart; infer_instance

/-- A landed part. -/
theorem outPart_landed (c p : Dev 8) (fd : Buf (Elt F) ((X.dst p).view.loc (c : Thread 8 Topo.v7x))) :
    ((X.dst p).view.loc (c : Thread 8 Topo.v7x) ↦[(X.dst p).view.set]{fullShare}
        ((X.dst p).view.write (Elt F) fd ((X.src c).view.read (Elt F) (X.had p c)) Finset.univ) : sProp 𝕄)
      = outPart X c p (X.got c p) :=
  pointsTo_congr fun i hi => X.landed c p fd i hi

/-! ## The schedule -/

/-- What a landing on the wire hands the device. -/
def handed (c : Dev 8) : Wire → sProp 𝕄
  | .inl k => inPart X c (peer c k)
  | .inr (.inl k) => outPart X c (peer c k) (X.got c (peer c k))
  | .inr (.inr _) => iprop(outPart X c c (X.got c c) ∗ inPart X c c)

instance handed_storable (c : Dev 8) (w : Wire) : BI.Storable (upEmb : UEmb _ 𝕄) (handed X c w) := by
  rcases w with k | k | u
  · exact inPart_storable X c (peer c k)
  · exact outPart_storable X c (peer c k) (X.got c (peer c k))
  · haveI h₁ : BI.Storable (upEmb : UEmb _ 𝕄) (outPart X c c (X.got c c)) := outPart_storable X c c (X.got c c)
    haveI h₂ : BI.Storable (upEmb : UEmb _ 𝕄) (inPart X c c) := inPart_storable X c c
    have h : BI.Storable (upEmb : UEmb _ 𝕄) iprop(outPart X c c (X.got c c) ∗ inPart X c c) := inferInstance
    exact h

/-- Each cell has one round of one duty, of a transfer's credit. -/
def sched : Rounds.Schedule (GSem 8 Topo.v7x sig) Unit 𝕄 where
  duties _ r := if r = 0 then {()} else ∅
  unitless _ := False
  amount _ _ _ := X.credit
  payload g _ _ := match g.2 with
    | .dma s => handed X g.1.1 (X.wire s)
    | .reg _ => iprop(emp)
  amount_pos _ _ _ _ := X.credit_pos

instance sched_storable (g : GSem 8 Topo.v7x sig) (r : ℕ) (d : Unit) :
    BI.Storable (upEmb : UEmb _ 𝕄) ((sched X).payload g r d) := by
  obtain ⟨t, s⟩ := g
  cases s with
  | dma s => show BI.Storable upEmb (handed X t.1 (X.wire s)); infer_instance
  | reg s => show BI.Storable upEmb iprop(emp); infer_instance

theorem duties_first (g : GSem 8 Topo.v7x sig) : (sched X).duties g 0 = {()} := rfl
theorem mem_duties (g : GSem 8 Topo.v7x sig) : () ∈ (sched X).duties g 0 := Finset.mem_singleton_self _
theorem duties_after (g : GSem 8 Topo.v7x sig) : ∀ r, 1 ≤ r → (sched X).duties g r = ∅ :=
  fun r hr => if_neg (by omega)
theorem payload_cell (c : Dev 8) (w : Wire) : (sched X).payload (cell X c w) 0 () = handed X c w := by
  show handed X c (X.wire (X.sem w)) = _
  rw [X.wire_sem]
theorem expect_cell (g : GSem 8 Topo.v7x sig) : (sched X).expect g 0 = X.credit := by
  unfold Schedule.expect Schedule.amountOf
  rw [duties_first, Finset.sum_singleton]; rfl
theorem rest_cell (c : Dev 8) (w : Wire) :
    bigSep ((sched X).duties (cell X c w) 0 \ ∅) (fun u => (sched X).payload (cell X c w) 0 u) = handed X c w := by
  rw [Finset.sdiff_empty, duties_first, bigSep_singleton, payload_cell]

/-! ## What a device owes -/

/-- Before its transfer number `i`, device `c` owes the receive cells of the partners it has not sent to. -/
def owed (c : Dev 8) (i : ℕ) : CellTallies 8 Topo.v7x sig Unit :=
  ∑ k ∈ Finset.univ.filter (fun k : Fin 7 => i ≤ k.val), tallyAt (cell X (peer c k) (rcv k)) () X.credit

theorem owed_step (c : Dev 8) (k : Fin 7) :
    owed X c k.val = owed X c (k.val + 1) + tallyAt (cell X (peer c k) (rcv k)) () X.credit := by
  unfold owed
  rw [show Finset.univ.filter (fun j : Fin 7 => k.val ≤ j.val)
      = insert k (Finset.univ.filter (fun j : Fin 7 => k.val + 1 ≤ j.val)) from by revert k; decide,
    Finset.sum_insert (by simp), add_comm]

theorem owed_end (c : Dev 8) : owed X c 7 = 0 := by
  unfold owed
  rw [show Finset.univ.filter (fun j : Fin 7 => 7 ≤ j.val) = ∅ from by decide, Finset.sum_empty]

/-! ## What a device starts and ends with -/

/-- Every cell's invariant, under the names `K`, and that every cell is at its first round. -/
def known (K : Dev 8 × Wire → ℕ) : sProp 𝕄 :=
  iprop((bigSep Finset.univ fun cw : Dev 8 × Wire => cellInv EX (sched X) (K cw) (cell X cw.1 cw.2))
    ∗ bigSep Finset.univ fun cw : Dev 8 × Wire => reached EX (cell X cw.1 cw.2) 0)
instance known_persistent (K : Dev 8 × Wire → ℕ) : BI.Persistent (known X K) := by unfold known; infer_instance

theorem known_inv (K : Dev 8 × Wire → ℕ) (c : Dev 8) (w : Wire) :
    known X K ⊢ (cellInv EX (sched X) (K (c, w)) (cell X c w) : sProp 𝕄) := by
  unfold known
  iintro ⟨H, -⟩
  iapply (show (bigSep Finset.univ fun cw : Dev 8 × Wire => (cellInv EX (sched X) (K cw) (cell X cw.1 cw.2) : sProp 𝕄))
    ⊢ cellInv EX (sched X) (K (c, w)) (cell X c w) from bigSep_elim (Finset.mem_univ (c, w)))
  iexact H

theorem known_reached (K : Dev 8 × Wire → ℕ) (c : Dev 8) (w : Wire) :
    known X K ⊢ (reached EX (cell X c w) 0 : sProp 𝕄) := by
  unfold known
  iintro ⟨-, H⟩
  iapply (show (bigSep Finset.univ fun cw : Dev 8 × Wire => (reached EX (cell X cw.1 cw.2) 0 : sProp 𝕄))
    ⊢ reached EX (cell X c w) 0 from bigSep_elim (Finset.mem_univ (c, w)))
  iexact H

/-- For its transfer `k`: what to send, the part of the partner's result to fill, both duties, and the send cell. -/
def toSend (c : Dev 8) (k : Fin 7) : sProp 𝕄 :=
  iprop(inPart X c (peer c k) ∗ (∃ f, outPart X (peer c k) c f) ∗ dutyTok EX (cell X c (snd k)) 0 ()
    ∗ dutyTok EX (cell X (peer c k) (rcv k)) 0 () ∗ atPos EX (cell X c (snd k)) 0 ∅ 0)
/-- The transfer `k` on its way. -/
def sent (c : Dev 8) (k : Fin 7) : sProp 𝕄 :=
  iprop(cred (tallyAt (cell X c (snd k)) () X.credit) ∗ atPos EX (cell X c (snd k)) 0 ∅ 0)
/-- The partner's transfer `k` to be waited for. -/
def toGet (c : Dev 8) (k : Fin 7) : sProp 𝕄 :=
  iprop(cred (tallyAt (cell X c (rcv k)) () X.credit) ∗ atPos EX (cell X c (rcv k)) 0 ∅ 0)
/-- For the device's own copy. -/
def toCopy (c : Dev 8) : sProp 𝕄 :=
  iprop(inPart X c c ∗ (∃ f, outPart X c c f) ∗ dutyTok EX (cell X c own) 0 () ∗ atPos EX (cell X c own) 0 ∅ 0)
def copying (c : Dev 8) : sProp 𝕄 :=
  iprop(cred (tallyAt (cell X c own) () X.credit) ∗ atPos EX (cell X c own) 0 ∅ 0)
/-- A wire waited for: what it hands over, its semaphore at zero again. -/
def done (c : Dev 8) (w : Wire) : sProp 𝕄 := iprop(handed X c w ∗ semVal (cell X c w) 0)

/-- A device's share of the schedule. -/
def share (c : Dev 8) : sProp 𝕄 :=
  iprop((bigSep Finset.univ fun k => toSend X c k) ∗ (bigSep Finset.univ fun k => toGet X c k) ∗ toCopy X c)

/-! ## The steps -/

section Steps

variable {Λ : Labels} {D : Defs 8 Topo.v7x sig (Elt F) Λ} (K : Dev 8 × Wire → ℕ) (c : Dev 8)

/-- The device's own copy. -/
theorem copy_step
    {α : Type} {Q : α → sProp 𝕄} {k' : PUnit → Prog (TpuEff 8 Topo.v7x sig (Elt F) Λ .tc) α} {src dst : Memref sig .tc .hbm X.shape X.elt} (hs : src = X.src c) (hd : dst = X.dst c)
    {s : DmaSem sig} (hsem : s = X.sem own)
    {hsrc : src.view.WordExact} {hdst : dst.view.WordExact} {ht : DmaTarget.Typed .hbm (.dma s) (.here dst : DmaTarget 8 Topo.v7x sig .tc .hbm X.shape X.elt)} :
    iprop(known X K ∗ toCopy X c)
      ⊢ iprop((copying X c -∗ wp frame (wpE D 𝒱₀ (c : Thread 8 Topo.v7x) none) Set.univ (k' ⟨⟩) Q)
          -∗ wp frame (wpE D 𝒱₀ (c : Thread 8 Topo.v7x) none) Set.univ
            (.op (.enqueueDma src (.here dst) (.dma s) hsrc hdst ht) k') Q) := by
  subst hs hd hsem
  unfold toCopy copying
  iintro ⟨#HK, Hin, ⟨%f, Hout⟩, Htok, Hat⟩ Hk
  unfold inPart outPart
  iapply (Rounds.wp_copy_pointsTo 𝒱₀ EX (sched X) (c : Thread 8 Topo.v7x) none (κ := K (c, own)) (r := 0) (d := ()) (q := X.lent c) (fs := X.had c c) (fd := f)
      (mem_duties X (cell X c own)) () X.credit (X.credit_dst c) rfl
      (by
        rw [payload_cell]
        exact sep_mono_left (Entails.of_eq (outPart_landed X c c f)))) $$ [Hin Hout Htok]
  · isplitr; · iapply (known_inv X K c own); iexact HK
    isplitl [Hin]; · iexact Hin
    isplitl [Hout]; · iexact Hout
    isplitl [Htok]; · iexact Htok
    iapply (known_reached X K c own); iexact HK
  iintro Hc
  iapply Hk
  isplitl [Hc] <;> iassumption

/-- The transfer to partner `k`. -/
theorem send_step (k : Fin 7)
    {α : Type} {Q : α → sProp 𝕄} {k' : PUnit → Prog (TpuEff 8 Topo.v7x sig (Elt F) Λ .tc) α} {n : Dev 8} (hn : n = peer c k)
    {src dst : Memref sig .tc .hbm X.shape X.elt} (hs : src = X.src (peer c k)) (hd : dst = X.dst c)
    {s s' : DmaSem sig} (hsem : s = X.sem (snd k)) (hsem' : s' = X.sem (rcv k))
    {hsrc : src.view.WordExact} {hdst : dst.view.WordExact} {hsc : (dst : Memref sig (Dev.tc n : Thread 8 Topo.v7x).2.kind .hbm X.shape X.elt).view.ref.isScScratch = false}
    {ht : DmaTarget.Typed .hbm (.dma s') (.remote (Dev.tc n : Thread 8 Topo.v7x) (dst : Memref sig .tc .hbm X.shape X.elt) (.dma s) hsc)} (W : Waits sig Unit) :
    iprop(known X K ∗ toSend X c k ∗ owes (c : Thread 8 Topo.v7x) (owed X c k.val) W)
      ⊢ iprop(((sent X c k ∗ owes (c : Thread 8 Topo.v7x) (owed X c (k.val + 1)) W)
            -∗ wp frame (wpE D 𝒱₀ (c : Thread 8 Topo.v7x) none) Set.univ (k' ⟨⟩) Q)
          -∗ wp frame (wpE D 𝒱₀ (c : Thread 8 Topo.v7x) none) Set.univ
            (.op (.enqueueDma src (.remote (Dev.tc n : Thread 8 Topo.v7x) dst (.dma s) hsc) (.dma s') hsrc hdst ht) k') Q) := by
  subst hn hs hd hsem hsem'
  unfold toSend sent
  iintro ⟨#HK, ⟨Hin, ⟨%f, Hout⟩, Hts, Htr, Hat⟩, Ho⟩ Hk
  unfold inPart outPart
  iapply (Rounds.wp_send_pointsTo 𝒱₀ EX (sched X) (c : Thread 8 Topo.v7x) none (κ₁ := K (c, snd k)) (κ₂ := K (peer c k, rcv k))
      (r₁ := 0) (r₂ := 0) (d₁ := ()) (d₂ := ()) (q := X.lent (peer c k)) (fs := X.had c (peer c k)) (fd := f)
      (mem_duties X (cell X c (snd k))) (mem_duties X (cell X (peer c k) (rcv k)))
      () () X.credit (X.credit_dst c) rfl rfl (owed X c (k.val + 1)) (owed_step X c k) (W := W)
      (by rw [payload_cell]; exact BI.Entails.refl _)
      (by
        rw [payload_cell]
        show _ ⊢ outPart X (peer c k) (peer (peer c k) k) (X.got (peer c k) (peer (peer c k) k))
        rw [peer_peer]
        exact Entails.of_eq (outPart_landed X (peer c k) c f))) $$ [Hin Hout Hts Htr Ho]
  · isplitr; · iapply (known_inv X K c (snd k)); iexact HK
    isplitr; · iapply (known_inv X K (peer c k) (rcv k)); iexact HK
    isplitl [Hin]; · iexact Hin
    isplitl [Hout]; · iexact Hout
    isplitl [Ho]; · iexact Ho
    isplitl [Hts]; · iexact Hts
    isplitr; · iapply (known_reached X K c (snd k)); iexact HK
    isplitl [Htr]; · iexact Htr
    iapply (known_reached X K (peer c k) (rcv k)); iexact HK
  iintro ⟨Hc, Ho⟩
  iapply Hk
  isplitr [Ho]
  · isplitl [Hc] <;> iassumption
  iexact Ho

/-- A wait for a wire, nothing being owed. -/
theorem wait_step (w : Wire)
    {α : Type} {Q : α → sProp 𝕄} {k' : PUnit → Prog (TpuEff 8 Topo.v7x sig (Elt F) Λ .tc) α} {src dst : Memref sig .tc .hbm X.shape X.elt} {s : DmaSem sig} (hsem : s = X.sem w)
    (hd : dst.view.dmaCredit = X.credit)
    {hsrc : src.view.WordExact} {hdst : dst.view.WordExact} (W : Waits sig Unit) :
    iprop(known X K ∗ (cred (tallyAt (cell X c w) () X.credit) ∗ atPos EX (cell X c w) 0 ∅ 0) ∗ owes (c : Thread 8 Topo.v7x) 0 W)
      ⊢ iprop(((done X c w ∗ owes (c : Thread 8 Topo.v7x) 0 (insert (SemLoc.dma s, ()) W))
            -∗ wp frame (wpE D 𝒱₀ (c : Thread 8 Topo.v7x) none) Set.univ (k' ⟨⟩) Q)
          -∗ wp frame (wpE D 𝒱₀ (c : Thread 8 Topo.v7x) none) Set.univ
            (.op (.waitDma2 s src dst hsrc hdst) k') Q) := by
  subst hsem
  unfold done
  iintro ⟨#HK, ⟨Hc, Hat⟩, Ho⟩ Hk
  iapply (Rounds.wp_wait_rest_token 𝒱₀ EX (sched X) (c : Thread 8 Topo.v7x) none (κ := K (c, w))
      (wpE_waitDma2_eq 𝒱₀ (c : Thread 8 Topo.v7x) none Set.univ) (Set.mem_univ _) () (O := 0) (W := W) (R := 0) (m := 0) (T := ∅)
      (by rw [Nat.zero_add, expect_cell, hd])) $$ [Hc Ho Hat]
  · isplitr; · iapply (known_inv X K c w); iexact HK
    isplitl [Hc]; · rw [hd]; iexact Hc
    isplitl [Ho]; · iexact Ho
    isplitr; · rw [MayWait_zero]; iempintro
    iexact Hat
  iintro ⟨Ho, Hat, -, Hp⟩
  ihave Hp := (Entails.of_eq (rest_cell X c w)) $$ Hp
  imod (Rounds.cell_close EX (sched X) (Set.mem_univ (K (c, w))) (fun h => h) (R := 0 + 1) (duties_after X (cell X c w))) $$ [Hat] with Hz
  · isplitr; · iapply (known_inv X K c w); iexact HK
    iexact Hat
  iapply Hk
  isplitr [Ho]
  · isplitl [Hp] <;> iassumption
  iexact Ho

end Steps

end Cert.Exchange

end
-- ==== Proof.Deal.lean ====
/-
# Dealing the exchange to the devices

From what all devices have to send and to fill, their semaphores and launch credits, every cell's invariant is allocated
and each device gets its share of the schedule; what it ends with is sorted into what it sent, what it got, and its
semaphores.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} [FloatOps F]

local notation "𝕄" => MT 8 Topo.v7x sig Unit (Elt F) ℕ (UU sig) ℕ

variable (X : Net sig F)

/-! ## The launch credit -/

theorem cell_eq {a b : Dev 8} {w w' : Wire} : cell X a w = cell X b w' ↔ a = b ∧ w = w' :=
  ⟨fun h => by simpa using cell_injective X (a₁ := (a, w)) (a₂ := (b, w')) h, fun ⟨h, h'⟩ => by rw [h, h']⟩

theorem owed_all (d : Dev 8) : owed X d 0 = ∑ k : Fin 7, tallyAt (cell X (peer d k) (rcv k)) () X.credit := by
  unfold owed
  rw [Finset.filter_true_of_mem fun k _ => Nat.zero_le _]

/-- What device `d` owes at the receive cell of exchange `k` on device `c`. -/
theorem owed_at (d c : Dev 8) (k : Fin 7) : owed X d 0 (cell X c (rcv k)) () = if d = peer c k then X.credit else 0 := by
  rw [owed_all, Finset.sum_apply, Finsupp.finset_sum_apply,
    Finset.sum_eq_single k (fun k' _ hk => by
      rw [tallyAt_apply, if_neg]
      rintro ⟨h, -⟩
      have h2 := ((cell_eq X).mp h).2
      exact hk (by simpa using h2.symm)) (fun h => absurd (Finset.mem_univ k) h), tallyAt_apply]
  refine if_congr ?_ rfl rfl
  constructor
  · rintro ⟨h, -⟩
    rw [((cell_eq X).mp h).1, peer_peer]
  · rintro rfl
    rw [peer_peer]; exact ⟨rfl, rfl⟩

theorem credit_at (c : Dev 8) (k : Fin 7) :
    tallyOn (cell X c (rcv k)) (launchCredit (Pipeline.owing fun d => owed X d 0) 0 (cell X c (rcv k)))
      = (tallyAt (cell X c (rcv k)) () X.credit : CellTallies 8 Topo.v7x sig Unit) := by
  unfold tallyAt
  refine congrArg _ (Finsupp.ext fun u => ?_)
  cases u
  rw [Pipeline.launchCredit_owing, Finsupp.single_eq_same, Finset.sum_congr rfl fun d _ => owed_at X d c k,
    Finset.sum_ite_eq' Finset.univ (peer c k) fun _ => X.credit, if_pos (Finset.mem_univ _)]

theorem rcv_injective : Function.Injective fun k : Fin 7 => (SemLoc.dma (X.sem (rcv k)) : SemLoc sig) := fun a b h => by
  have := sem_injective X (SemLoc.dma.inj h)
  simpa using this

/-- A device's launch credit holds a transfer's credit at each of its receive cells. -/
theorem credits (c : Dev 8) :
    (Pipeline.launchCred (fun d => owed X d 0) c : sProp 𝕄)
      ⊢ bigSep Finset.univ fun k : Fin 7 => cred (tallyAt (cell X c (rcv k)) () X.credit) := by
  unfold Pipeline.launchCred
  refine (bigSep_subset (Finset.subset_univ (Finset.univ.map ⟨_, rcv_injective X⟩))).trans ?_
  rw [bigSep_map]
  exact Entails.of_eq (bigSep_congr fun k _ => congrArg cred (credit_at X c k))

/-! ## The invariants -/

/-- The exchange's cells, and their tokens. -/
def xCells : Finset (GSem 8 Topo.v7x sig) := Finset.univ.map ⟨fun cw : Dev 8 × Wire => cell X cw.1 cw.2, cell_injective X⟩
def xToks : Finset (GSem 8 Topo.v7x sig × ℕ × Unit) :=
  Finset.univ.map ⟨fun cw : Dev 8 × Wire => (cell X cw.1 cw.2, 0, ()), fun a b h => cell_injective X (congrArg Prod.fst h)⟩

/-- From every cell at zero and the exchange's book, every cell's invariant, position and duty. -/
theorem alloc :
    iprop((bigSep Finset.univ fun cw : Dev 8 × Wire => semVal (cell X cw.1 cw.2) 0)
        ∗ BI.own ((EX : Emb (UR sig 8 Topo.v7x) 𝕄) (initOf (xCells X) (xToks X))))
      ⊢ (|={Set.univ}=> ∃ K, known X K
          ∗ (bigSep Finset.univ fun cw : Dev 8 × Wire => atPos EX (cell X cw.1 cw.2) 0 ∅ 0)
          ∗ (bigSep Finset.univ fun cw : Dev 8 × Wire => dutyTok EX (cell X cw.1 cw.2) 0 ()) : sProp 𝕄) := by
  have hf : BI.own ((EX : Emb (UR sig 8 Topo.v7x) 𝕄) (initOf (xCells X) (xToks X)))
      ⊢ (|==> iprop((bigSep Finset.univ fun cw : Dev 8 × Wire => roundState EX (sched X) (cell X cw.1 cw.2) 0)
        ∗ (bigSep Finset.univ fun cw : Dev 8 × Wire => reached EX (cell X cw.1 cw.2) 0)
        ∗ (bigSep Finset.univ fun cw : Dev 8 × Wire => atPos EX (cell X cw.1 cw.2) 0 ∅ 0)
        ∗ (bigSep Finset.univ fun cw : Dev 8 × Wire => dutyTok EX (cell X cw.1 cw.2) 0 ())) : sProp 𝕄) := by
    refine (Rounds.fund (EX : Emb (UR sig 8 Topo.v7x) 𝕄) (sched X) (xCells X) (xToks X)).trans (BI.bupd_mono ?_)
    unfold xCells xToks
    rw [bigSep_map, bigSep_map, bigSep_map, bigSep_map]
    exact BI.Entails.refl _
  have hall : iprop((bigSep Finset.univ fun cw : Dev 8 × Wire => semVal (cell X cw.1 cw.2) 0)
        ∗ bigSep Finset.univ fun cw : Dev 8 × Wire => roundState EX (sched X) (cell X cw.1 cw.2) 0)
      ⊢ (|={Set.univ}=> bigSep Finset.univ fun cw : Dev 8 × Wire => iprop(∃ κ, cellInv EX (sched X) κ (cell X cw.1 cw.2)) : sProp 𝕄) := by
    rw [← bigSep_sep']
    exact (bigSep_mono fun cw _ => (Rounds.body_intro EX (sched X) (cell X cw.1 cw.2)).trans inv_alloc).trans (bigSep_fupd _ _)
  iintro ⟨Hz, Hb⟩
  ihave Hb := hf $$ Hb
  imod Hb with ⟨Hst, Hre, Hat, Htk⟩
  imod hall $$ [Hz Hst] with Hinv
  · isplitl [Hz] <;> iassumption
  ihave Hinv := (bigSep_exists_pi Finset.univ (fun (cw : Dev 8 × Wire) κ => (cellInv EX (sched X) κ (cell X cw.1 cw.2) : sProp 𝕄))) $$ Hinv
  icases Hinv with ⟨%K, Hinv⟩
  imodintro
  iexists K
  unfold known
  isplitl [Hinv Hre]
  · isplitl [Hinv]; · iexact Hinv
    iexact Hre
  isplitl [Hat]; · iexact Hat
  iexact Htk

/-! ## The shares -/

/-- Of all there is to send and to fill, positions, duties and credits, every device's share. -/
theorem deal :
    iprop((bigSep Finset.univ fun c : Dev 8 => bigSep Finset.univ fun j => inPart X c j)
        ∗ (bigSep Finset.univ fun c : Dev 8 => bigSep Finset.univ fun j => iprop(∃ f, outPart X c j f))
        ∗ (bigSep Finset.univ fun cw : Dev 8 × Wire => atPos EX (cell X cw.1 cw.2) 0 ∅ 0)
        ∗ (bigSep Finset.univ fun cw : Dev 8 × Wire => dutyTok EX (cell X cw.1 cw.2) 0 ())
        ∗ (bigSep Finset.univ fun c : Dev 8 => bigSep Finset.univ fun k : Fin 7 => cred (tallyAt (cell X c (rcv k)) () X.credit)))
      ⊢ (bigSep Finset.univ fun c : Dev 8 => share X c : sProp 𝕄) := by
  have hin : (bigSep Finset.univ fun c : Dev 8 => bigSep Finset.univ fun j => (inPart X c j : sProp 𝕄))
      = iprop((bigSep Finset.univ fun c : Dev 8 => bigSep Finset.univ fun k => inPart X c (peer c k))
        ∗ bigSep Finset.univ fun c : Dev 8 => inPart X c c) := by
    rw [← bigSep_sep']
    exact bigSep_congr fun c _ => around c _
  have hout : (bigSep Finset.univ fun c : Dev 8 => bigSep Finset.univ fun j => (iprop(∃ f, outPart X c j f) : sProp 𝕄))
      = iprop((bigSep Finset.univ fun c : Dev 8 => bigSep Finset.univ fun k => iprop(∃ f, outPart X (peer c k) c f))
        ∗ bigSep Finset.univ fun c : Dev 8 => iprop(∃ f, outPart X c c f)) := by
    rw [show (bigSep Finset.univ fun c : Dev 8 => bigSep Finset.univ fun k => (iprop(∃ f, outPart X (peer c k) c f) : sProp 𝕄))
        = bigSep Finset.univ fun c : Dev 8 => bigSep Finset.univ fun k => (iprop(∃ f, outPart X c (peer c k) f) : sProp 𝕄) from by
      rw [swapped]
      exact bigSep_congr fun c _ => bigSep_congr fun k _ => by rw [peer_peer], ← bigSep_sep']
    exact bigSep_congr fun c _ => around c _
  have hw (Φ : Dev 8 → Wire → sProp 𝕄) : (bigSep Finset.univ fun cw : Dev 8 × Wire => Φ cw.1 cw.2)
      = iprop((bigSep Finset.univ fun c => bigSep Finset.univ fun k => Φ c (snd k))
        ∗ (bigSep Finset.univ fun c => bigSep Finset.univ fun k => Φ c (rcv k))
        ∗ bigSep Finset.univ fun c => Φ c own) := by
    rw [bigSep_univ_prod, ← bigSep_sep', ← bigSep_sep']
    exact bigSep_congr fun c _ => wires (Φ c)
  have hshare : (bigSep Finset.univ fun c : Dev 8 => (share X c : sProp 𝕄))
      = iprop(((bigSep Finset.univ fun c : Dev 8 => bigSep Finset.univ fun k => inPart X c (peer c k))
          ∗ (bigSep Finset.univ fun c : Dev 8 => bigSep Finset.univ fun k => iprop(∃ f, outPart X (peer c k) c f))
          ∗ (bigSep Finset.univ fun c : Dev 8 => bigSep Finset.univ fun k => dutyTok EX (cell X c (snd k)) 0 ())
          ∗ (bigSep Finset.univ fun c : Dev 8 => bigSep Finset.univ fun k => dutyTok EX (cell X (peer c k) (rcv k)) 0 ())
          ∗ (bigSep Finset.univ fun c : Dev 8 => bigSep Finset.univ fun k => atPos EX (cell X c (snd k)) 0 ∅ 0))
        ∗ ((bigSep Finset.univ fun c : Dev 8 => bigSep Finset.univ fun k : Fin 7 => cred (tallyAt (cell X c (rcv k)) () X.credit))
          ∗ (bigSep Finset.univ fun c : Dev 8 => bigSep Finset.univ fun k => atPos EX (cell X c (rcv k)) 0 ∅ 0))
        ∗ ((bigSep Finset.univ fun c : Dev 8 => inPart X c c)
          ∗ (bigSep Finset.univ fun c : Dev 8 => iprop(∃ f, outPart X c c f))
          ∗ (bigSep Finset.univ fun c : Dev 8 => dutyTok EX (cell X c own) 0 ())
          ∗ (bigSep Finset.univ fun c : Dev 8 => atPos EX (cell X c own) 0 ∅ 0))) := by
    unfold share toSend toGet toCopy
    simp only [bigSep_sep']
  rw [hin, hout, hw (fun c w => atPos EX (cell X c w) 0 ∅ 0), hw (fun c w => dutyTok EX (cell X c w) 0 ()), hshare,
    swapped (fun c k => (dutyTok EX (cell X c (rcv k)) 0 () : sProp 𝕄))]
  iintro ⟨⟨Hi, Hic⟩, ⟨Ho, Hoc⟩, ⟨Has, Har, Hao⟩, ⟨Hds, Hdr, Hdo⟩, Hc⟩
  isplitl [Hi Ho Hds Hdr Has]
  · isplitl [Hi]; · iexact Hi
    isplitl [Ho]; · iexact Ho
    isplitl [Hds]; · iexact Hds
    isplitl [Hdr]; · iexact Hdr
    iexact Has
  isplitl [Hc Har]
  · isplitl [Hc]; · iexact Hc
    iexact Har
  isplitl [Hic]; · iexact Hic
  isplitl [Hoc]; · iexact Hoc
  isplitl [Hdo]; · iexact Hdo
  iexact Hao

/-! ## The end -/

/-- A device's share, with the invariants of all cells. -/
def prepared (c : Dev 8) : sProp 𝕄 := iprop(∃ K, known X K ∗ share X c)

/-- From what all devices hold at launch and the exchange's book, every device's share with the invariants. -/
theorem prepare :
    iprop((bigSep Finset.univ fun c : Dev 8 => bigSep Finset.univ fun w => semVal (cell X c w) 0)
        ∗ (bigSep Finset.univ fun c : Dev 8 => bigSep Finset.univ fun j => inPart X c j)
        ∗ (bigSep Finset.univ fun c : Dev 8 => bigSep Finset.univ fun j => iprop(∃ f, outPart X c j f))
        ∗ (bigSep Finset.univ fun c : Dev 8 => bigSep Finset.univ fun k : Fin 7 => cred (tallyAt (cell X c (rcv k)) () X.credit))
        ∗ BI.own ((EX : Emb (UR sig 8 Topo.v7x) 𝕄) (initOf (xCells X) (xToks X))))
      ⊢ (|={Set.univ}=> bigSep Finset.univ fun c : Dev 8 => prepared X c : sProp 𝕄) := by
  iintro ⟨Hz, Hi, Ho, Hc, HX⟩
  imod (alloc X) $$ [Hz HX] with ⟨%K, #HK, Hat, Htk⟩
  · isplitl [Hz]
    · rw [bigSep_univ_prod]; iexact Hz
    iexact HX
  imodintro
  ihave Hs := (deal X) $$ [Hi Ho Hat Htk Hc]
  · isplitl [Hi]; · iexact Hi
    isplitl [Ho]; · iexact Ho
    isplitl [Hat]; · iexact Hat
    isplitl [Htk]; · iexact Htk
    iexact Hc
  have hk (c : Dev 8) : iprop(known X K ∗ share X c) ⊢ (prepared X c : sProp 𝕄) :=
    exists_intro (Φ := fun K => iprop(known X K ∗ share X c)) K
  have hks : (bigSep Finset.univ fun c : Dev 8 => iprop(known X K ∗ share X c))
      ⊢ (bigSep Finset.univ fun c : Dev 8 => prepared X c : sProp 𝕄) := bigSep_mono fun c _ => hk c
  iapply hks
  rw [bigSep_sep']
  isplitr
  · iapply (BI.bigSep_intro_persistent (S := Finset.univ) fun (c : Dev 8) _ => (BI.Entails.refl (known X K : sProp 𝕄))); iexact HK
  iexact Hs

/-- What the body ends with, sorted: what was sent is back, the result holds what was sent to the device, all
    semaphores are at zero. -/
theorem settle (c : Dev 8) :
    (bigSep Finset.univ fun w => done X c w)
      ⊢ (iprop((bigSep Finset.univ fun j => inPart X c j) ∗ (bigSep Finset.univ fun p => outPart X c p (X.got c p))
        ∗ bigSep Finset.univ fun w => semVal (cell X c w) 0) : sProp 𝕄) := by
  rw [around c fun j => inPart X c j, around c fun p => outPart X c p (X.got c p)]
  unfold done
  rw [bigSep_sep', wires (handed X c), show handed X c own = iprop(outPart X c c (X.got c c) ∗ inPart X c c) from rfl]
  iintro ⟨⟨Hs, Hr, Hoc, Hic⟩, Hz⟩
  isplitl [Hs Hic]
  · isplitl [Hs]; · iexact Hs
    iexact Hic
  isplitl [Hr Hoc]
  · isplitl [Hr]; · iexact Hr
    iexact Hoc
  iexact Hz

end Cert.Exchange

end
-- ==== Proof.Grads.lean ====
/-
# The exchange of the gradients

Slot `j` of a device's array is what it has for device `j`; slot `j` of its result is what device `j` had for it. This
module gives the printed offsets and device numbers in terms of slots and partners, and what the exchange moves.
-/
module

public import proofs.«01_k».proof.Proof.Slots
public import proofs.«01_k».proof.Proof.Deal
public import proofs.«01_k».proof.Proof.Gen.KernelIdeal
public import proofs.«01_k».proof.Proof.Gen.KernelIdeal.Skeleton
public import proofs.«01_k».proof.Proof.Gen.KernelIdeal.Launch

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The exchanged array: slot `j` is what the device has for device `j`. -/
abbrev inM : Memref sig .tc .hbm S8x6656x128 .f32 := Memref.whole main_arg0
/-- The result: slot `j` is what came from device `j`. -/
abbrev outM : Memref sig .tc .hbm S8x6656x128 .f32 := Memref.whole main_v1

/-- A slot of either. -/
abbrev gslot (r : Memref sig .tc .hbm S8x6656x128 .f32) (j : Dev nD) : Memref sig .tc .hbm S6656x128 .f32 :=
  slot squeezes_S1x6656x128_S6656x128 r j

/-! ## The printed offsets and devices -/

theorem off1 (c : Dev nD) : k0_off1 c = ![c.val, 0, 0] := by revert c; decide +kernel
theorem off2 (c : Dev nD) : k0_off2 c = ![(peer c 0).val, 0, 0] := by revert c; decide +kernel
theorem off3 (c : Dev nD) : k0_off3 c = ![(peer c 1).val, 0, 0] := by revert c; decide +kernel
theorem off4 (c : Dev nD) : k0_off4 c = ![(peer c 2).val, 0, 0] := by revert c; decide +kernel
theorem off5 (c : Dev nD) : k0_off5 c = ![(peer c 3).val, 0, 0] := by revert c; decide +kernel
theorem off6 (c : Dev nD) : k0_off6 c = ![(peer c 4).val, 0, 0] := by revert c; decide +kernel
theorem off7 (c : Dev nD) : k0_off7 c = ![(peer c 5).val, 0, 0] := by revert c; decide +kernel
theorem off8 (c : Dev nD) : k0_off8 c = ![(peer c 6).val, 0, 0] := by revert c; decide +kernel

theorem dev1 (c : Dev nD) : (⟨k0_dev1 c, k0_dev1_lt c⟩ : Dev nD) = peer c 0 := by revert c; decide +kernel
theorem dev2 (c : Dev nD) : (⟨k0_dev2 c, k0_dev2_lt c⟩ : Dev nD) = peer c 1 := by revert c; decide +kernel
theorem dev3 (c : Dev nD) : (⟨k0_dev3 c, k0_dev3_lt c⟩ : Dev nD) = peer c 2 := by revert c; decide +kernel
theorem dev4 (c : Dev nD) : (⟨k0_dev4 c, k0_dev4_lt c⟩ : Dev nD) = peer c 3 := by revert c; decide +kernel
theorem dev5 (c : Dev nD) : (⟨k0_dev5 c, k0_dev5_lt c⟩ : Dev nD) = peer c 4 := by revert c; decide +kernel
theorem dev6 (c : Dev nD) : (⟨k0_dev6 c, k0_dev6_lt c⟩ : Dev nD) = peer c 5 := by revert c; decide +kernel
theorem dev7 (c : Dev nD) : (⟨k0_dev7 c, k0_dev7_lt c⟩ : Dev nD) = peer c 6 := by revert c; decide +kernel

/-! ## What is exchanged -/

variable (m : (ℓ : Loc nD τ sig) → Buf (Elt F) ℓ)

/-- Device `c`'s array at launch. -/
def sendOf (c : Dev nD) : S8x6656x128.Idx → Elt F .f32 := m ((c : Thread nD τ).loc main_arg0)

/-- What device `c` ends with: slot `j` is slot `c` of device `j`'s array. -/
def gotten (c : Dev nD) : S8x6656x128.Idx → Elt F .f32 := fun i => sendOf m (slotIx i) (at3 c (restIx i))

/-- A slot written with device `p`'s slot `c` holds, under the slot `p`, what device `c` ends with. -/
theorem grads_landed (c p : Dev nD) (fd : Buf (Elt F) ((c : Thread nD τ).loc main_v1)) (i : S8x6656x128.Idx)
    (hi : i ∈ (gslot outM p).view.set) :
    (gslot outM p).view.write (Elt F) fd ((gslot inM c).view.read (Elt F) (sendOf m p)) Finset.univ i = gotten m c i := by
  obtain ⟨y, -, rfl⟩ := Finset.mem_map.mp hi
  refine (View.write_emb_of_mem (v := (gslot outM p).view) fd _ (Finset.mem_univ y)).trans ?_
  have hs : (gslot inM c).view.emb y = at3 c y := slot_emb _ inM c y
  have hd : (gslot outM p).view.emb y = at3 p y := slot_emb _ outM p y
  exact (congrArg (sendOf m p) hs).trans (congrArg (gotten m c) hd).symm

def semOf : Wire → DmaSem sig
  | .inl k => ⟨k.val, by have := k.isLt; show k.val < 31; omega⟩
  | .inr (.inl k) => ⟨7 + k.val, by have := k.isLt; show 7 + k.val < 31; omega⟩
  | .inr (.inr _) => ⟨14, by decide⟩

def wireOf (s : DmaSem sig) : Wire :=
  if h : s.val < 7 then .inl ⟨s.val, h⟩
  else if h' : s.val < 14 then .inr (.inl ⟨s.val - 7, by omega⟩)
  else .inr (.inr ())

theorem wireOf_semOf (w : Wire) : wireOf (semOf w) = w := by revert w; decide

/-- The exchange of the gradients: every slot is read and written once, so every transfer takes all of what it reads. -/
def grads : Net sig F where
  shape := S6656x128
  elt := .f32
  src j := gslot inM j
  dst p := gslot outM p
  lent _ := fullShare
  had c _ := sendOf m c
  got c _ := gotten m c
  sem := semOf
  wire := wireOf
  wire_sem := wireOf_semOf
  credit := (gslot outM 0).view.dmaCredit
  credit_pos := View.dmaCredit_pos _ (by decide)
  credit_dst _ := rfl
  landed := grads_landed m

/-! ## The arrays and their slots -/

/-- A device's array as launched, in slots. -/
theorem slots_in (c : Dev nD) :
    ((((c : Thread nD τ).loc main_arg0) ↦{fullShare} sendOf m c : sProp (MT nD τ sig Unit (Elt F) ℕ (UU sig) ℕ)))
      = bigSep Finset.univ fun j => inPart (grads m) c j := by
  have h := slots_split (Ix := Unit) (Name := ℕ) (U := UU sig) (Lvl := ℕ) squeezes_S1x6656x128_S6656x128 inM c (sendOf m c)
  rw [View.set_whole] at h
  exact h

/-- Its result at any contents, in slots. -/
theorem slots_out (c : Dev nD) (f : Buf (Elt F) ((c : Thread nD τ).loc main_v1)) :
    ((((c : Thread nD τ).loc main_v1) ↦{fullShare} f : sProp (MT nD τ sig Unit (Elt F) ℕ (UU sig) ℕ)))
      = bigSep Finset.univ fun p => outPart (grads m) c p f := by
  have h := slots_split (Ix := Unit) (Name := ℕ) (U := UU sig) (Lvl := ℕ) squeezes_S1x6656x128_S6656x128 outM c f
  rw [View.set_whole] at h
  exact h

theorem slots_out_any (c : Dev nD) (f : Buf (Elt F) ((c : Thread nD τ).loc main_v1)) :
    ((((c : Thread nD τ).loc main_v1) ↦{fullShare} f : sProp (MT nD τ sig Unit (Elt F) ℕ (UU sig) ℕ)))
      ⊢ bigSep Finset.univ fun p => iprop(∃ f, outPart (grads m) c p f) :=
  (Entails.of_eq (slots_out m c f)).trans (bigSep_mono fun p _ => exists_intro (Φ := fun f => outPart (grads m) c p f) f)

/-- What the exchange ends with: the array as launched, the result with what was sent to the device, all semaphores at
    zero. -/
theorem grads_settle (c : Dev nD) :
    (bigSep Finset.univ fun w => done (grads m) c w)
      ⊢ (iprop((((c : Thread nD τ).loc main_arg0) ↦{fullShare} sendOf m c)
        ∗ (((c : Thread nD τ).loc main_v1) ↦{fullShare} gotten m c)
        ∗ bigSep Finset.univ fun w => semVal (cell (grads m) c w) 0) : sProp (MT nD τ sig Unit (Elt F) ℕ (UU sig) ℕ)) := by
  rw [slots_in, slots_out m]
  exact settle (grads m) c

end Cert.Exchange

end
-- ==== Proof.Body.lean ====
/-
# The exchange's body, run once

From a device's share of the schedule the printed body ends with every wire landed and its semaphore at zero.
-/
module

public import proofs.«01_k».proof.Proof.Grads

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU sig) ℕ

variable (m : (ℓ : Loc nD τ sig) → Buf (Elt F) ℓ)

/-- The exchange's body on device `c`. -/
theorem body_run (K : Dev nD × Wire → ℕ) (c : Dev nD) (W : Waits sig Unit) {Q : PUnit → sProp 𝕄} :
    iprop(known (grads m) K ∗ share (grads m) c ∗ owes (c : Thread nD τ) (owed (grads m) c 0) W)
      ⊢ iprop((((bigSep Finset.univ fun w => done (grads m) c w) ∗ ∃ W', owes (c : Thread nD τ) 0 W') -∗ Q ⟨⟩)
          -∗ wp frame (wpE (defs₀ (F := F)) 𝒱₀ (c : Thread nD τ) none) Set.univ
            (cc0_all_to_all_grads inM (Memref.isWhole_whole _) outM (Memref.isWhole_whole _) cc0_scratch0 cc0_scratch1 cc0_scratch2) Q) := by
  simp only [cc0_all_to_all_grads_eq_skeleton]
  unfold cc0_all_to_all_grads_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel
    k0_part9_skel k0_part10_skel k0_part11_skel k0_part12_skel k0_part13_skel
  simp only [Prog.lift, Prog.bind_op, Prog.bind_ret, Prog.pure_eq_ret, wp_deviceId]
  unfold share
  rw [seven, seven, wires_each]
  iintro ⟨#HK, ⟨⟨HS0, HS1, HS2, HS3, HS4, HS5, HS6⟩, ⟨HG0, HG1, HG2, HG3, HG4, HG5, HG6⟩, HC⟩, HO⟩ Hk
  iapply (copy_step (grads m) K c (slot_of _ _ _ (off1 c) _) (slot_of _ _ _ (off1 c) _) rfl) $$ [HC]
  · isplitr; · iexact HK
    iexact HC
  iintro HC
  iapply (send_step (grads m) K c 0 (dev1 c) (slot_of _ _ _ (off2 c) _) (slot_of _ _ _ (off1 c) _) rfl rfl _) $$ [HS0 HO]
  · isplitr; · iexact HK
    isplitl [HS0]; · iexact HS0
    iexact HO
  iintro ⟨HS0, HO⟩
  iapply (send_step (grads m) K c 1 (dev2 c) (slot_of _ _ _ (off3 c) _) (slot_of _ _ _ (off1 c) _) rfl rfl _) $$ [HS1 HO]
  · isplitr; · iexact HK
    isplitl [HS1]; · iexact HS1
    iexact HO
  iintro ⟨HS1, HO⟩
  iapply (send_step (grads m) K c 2 (dev3 c) (slot_of _ _ _ (off4 c) _) (slot_of _ _ _ (off1 c) _) rfl rfl _) $$ [HS2 HO]
  · isplitr; · iexact HK
    isplitl [HS2]; · iexact HS2
    iexact HO
  iintro ⟨HS2, HO⟩
  iapply (send_step (grads m) K c 3 (dev4 c) (slot_of _ _ _ (off5 c) _) (slot_of _ _ _ (off1 c) _) rfl rfl _) $$ [HS3 HO]
  · isplitr; · iexact HK
    isplitl [HS3]; · iexact HS3
    iexact HO
  iintro ⟨HS3, HO⟩
  iapply (send_step (grads m) K c 4 (dev5 c) (slot_of _ _ _ (off6 c) _) (slot_of _ _ _ (off1 c) _) rfl rfl _) $$ [HS4 HO]
  · isplitr; · iexact HK
    isplitl [HS4]; · iexact HS4
    iexact HO
  iintro ⟨HS4, HO⟩
  iapply (send_step (grads m) K c 5 (dev6 c) (slot_of _ _ _ (off7 c) _) (slot_of _ _ _ (off1 c) _) rfl rfl _) $$ [HS5 HO]
  · isplitr; · iexact HK
    isplitl [HS5]; · iexact HS5
    iexact HO
  iintro ⟨HS5, HO⟩
  iapply (send_step (grads m) K c 6 (dev7 c) (slot_of _ _ _ (off8 c) _) (slot_of _ _ _ (off1 c) _) rfl rfl _) $$ [HS6 HO]
  · isplitr; · iexact HK
    isplitl [HS6]; · iexact HS6
    iexact HO
  iintro ⟨HS6, HO⟩
  rw [show (((6 : Fin 7) : ℕ) + 1) = 7 from rfl, owed_end]
  unfold toGet sent copying
  iapply (wait_step (grads m) K c (rcv 0) rfl (by rw [slot_of _ _ _ (off2 c) _]; rfl) _) $$ [HG0 HO]
  · isplitr; · iexact HK
    isplitl [HG0]; · iexact HG0
    iexact HO
  iintro ⟨HG0, HO⟩
  iapply (wait_step (grads m) K c (rcv 1) rfl (by rw [slot_of _ _ _ (off3 c) _]; rfl) _) $$ [HG1 HO]
  · isplitr; · iexact HK
    isplitl [HG1]; · iexact HG1
    iexact HO
  iintro ⟨HG1, HO⟩
  iapply (wait_step (grads m) K c (rcv 2) rfl (by rw [slot_of _ _ _ (off4 c) _]; rfl) _) $$ [HG2 HO]
  · isplitr; · iexact HK
    isplitl [HG2]; · iexact HG2
    iexact HO
  iintro ⟨HG2, HO⟩
  iapply (wait_step (grads m) K c (rcv 3) rfl (by rw [slot_of _ _ _ (off5 c) _]; rfl) _) $$ [HG3 HO]
  · isplitr; · iexact HK
    isplitl [HG3]; · iexact HG3
    iexact HO
  iintro ⟨HG3, HO⟩
  iapply (wait_step (grads m) K c (rcv 4) rfl (by rw [slot_of _ _ _ (off6 c) _]; rfl) _) $$ [HG4 HO]
  · isplitr; · iexact HK
    isplitl [HG4]; · iexact HG4
    iexact HO
  iintro ⟨HG4, HO⟩
  iapply (wait_step (grads m) K c (rcv 5) rfl (by rw [slot_of _ _ _ (off7 c) _]; rfl) _) $$ [HG5 HO]
  · isplitr; · iexact HK
    isplitl [HG5]; · iexact HG5
    iexact HO
  iintro ⟨HG5, HO⟩
  iapply (wait_step (grads m) K c (rcv 6) rfl (by rw [slot_of _ _ _ (off8 c) _]; rfl) _) $$ [HG6 HO]
  · isplitr; · iexact HK
    isplitl [HG6]; · iexact HG6
    iexact HO
  iintro ⟨HG6, HO⟩
  iapply (wait_step (grads m) K c (snd 0) rfl (by rw [slot_of _ _ _ (off2 c) _]; rfl) _) $$ [HS0 HO]
  · isplitr; · iexact HK
    isplitl [HS0]; · iexact HS0
    iexact HO
  iintro ⟨HS0, HO⟩
  iapply (wait_step (grads m) K c (snd 1) rfl (by rw [slot_of _ _ _ (off3 c) _]; rfl) _) $$ [HS1 HO]
  · isplitr; · iexact HK
    isplitl [HS1]; · iexact HS1
    iexact HO
  iintro ⟨HS1, HO⟩
  iapply (wait_step (grads m) K c (snd 2) rfl (by rw [slot_of _ _ _ (off4 c) _]; rfl) _) $$ [HS2 HO]
  · isplitr; · iexact HK
    isplitl [HS2]; · iexact HS2
    iexact HO
  iintro ⟨HS2, HO⟩
  iapply (wait_step (grads m) K c (snd 3) rfl (by rw [slot_of _ _ _ (off5 c) _]; rfl) _) $$ [HS3 HO]
  · isplitr; · iexact HK
    isplitl [HS3]; · iexact HS3
    iexact HO
  iintro ⟨HS3, HO⟩
  iapply (wait_step (grads m) K c (snd 4) rfl (by rw [slot_of _ _ _ (off6 c) _]; rfl) _) $$ [HS4 HO]
  · isplitr; · iexact HK
    isplitl [HS4]; · iexact HS4
    iexact HO
  iintro ⟨HS4, HO⟩
  iapply (wait_step (grads m) K c (snd 5) rfl (by rw [slot_of _ _ _ (off7 c) _]; rfl) _) $$ [HS5 HO]
  · isplitr; · iexact HK
    isplitl [HS5]; · iexact HS5
    iexact HO
  iintro ⟨HS5, HO⟩
  iapply (wait_step (grads m) K c (snd 6) rfl (by rw [slot_of _ _ _ (off8 c) _]; rfl) _) $$ [HS6 HO]
  · isplitr; · iexact HK
    isplitl [HS6]; · iexact HS6
    iexact HO
  iintro ⟨HS6, HO⟩
  iapply (wait_step (grads m) K c own rfl (by rw [slot_of _ _ _ (off1 c) _]; rfl) _) $$ [HC HO]
  · isplitr; · iexact HK
    isplitl [HC]; · iexact HC
    iexact HO
  iintro ⟨HC, HO⟩
  rw [wp_ret]
  imodintro
  iapply Hk
  isplitr [HO]
  · isplitl [HS0 HS1 HS2 HS3 HS4 HS5 HS6]; · iframe
    isplitl [HG0 HG1 HG2 HG3 HG4 HG5 HG6]; · iframe
    iexact HC
  iexists _
  iexact HO

end Cert.Exchange

end
-- ==== Proof.Step.lean ====
/-
# The optimizer step on one device

The second pallas_call sums the eight received slots and takes one AdamW step, block of 512 rows by block. This module
states what it computes as functions of whole arrays, at any values of the floats, and proves what one run of its body
leaves in the four blocks it writes.
-/
module

public import proofs.«01_k».proof.Proof.Grads
public import Idealize.ShloMosaic.Lib.Pipeline.FrameBody
public import Idealize.ShloMosaic.Lib.Pipeline.Value

@[expose] public section

set_option maxRecDepth 16384

noncomputable section

namespace Cert.Exchange

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The step, element by element -/

section Arith
variable {s : Shape}

/-- The same float at every index. -/
abbrev all (s : Shape) (w : BitVec 32) : FVec F s .f32 := broadcast s (Scalar.ofBits .f32 w)

/-- Eight vectors added up, in order. -/
def sum8 (x : Dev nD → FVec F s .f32) : FVec F s .f32 :=
  addf (addf (addf (addf (addf (addf (addf (x 0) (x 1)) (x 2)) (x 3)) (x 4)) (x 5)) (x 6)) (x 7)

/-- The new first moment, from the gradient and the old one. -/
def newM (g m : FVec F s .f32) : FVec F s .f32 :=
  addf (mulf (all s 0x3F666666#32) m) (mulf (all s 0x3DCCCCCD#32) g)

/-- The new second moment, from the gradient and the old one. -/
def newV (g v : FVec F s .f32) : FVec F s .f32 :=
  addf (mulf (all s 0x3F7FBE77#32) v) (mulf (all s 0x3A83126F#32) (mulf g g))

/-- The change of the weights, from the new moments and the weights. -/
def delta (m v w : FVec F s .f32) : FVec F s .f32 :=
  mulf (all s 0xBA83126F#32)
    (addf (divf (divf m (all s 0x3F26BD02#32)) (addf (sqrt (divf v (all s 0x3C231ACC#32))) (all s 0x322BCC77#32)))
      (mulf (all s 0x3C23D70A#32) w))

end Arith

theorem pay1_eq (g v : FVec F S512x128 .f32) : k1_pay1 g v = newV g v := by
  unfold k1_pay1; rw [shapeCast_self]; rfl

theorem pay2_eq (g mm v w : FVec F S512x128 .f32) : k1_pay2 g mm v w = delta mm (newV g v) w := by
  unfold k1_pay2; rw [pay1_eq, shapeCast_self]; rfl

/-! ## The body's blocks -/

theorem row_inb (j : Dev nD) : ∀ a, (![j.val, 0, 0] : Fin 3 → Nat) a + S1x512x128.size a ≤ S8x512x128.size a := by
  revert j; decide

/-- The rectangle of slot `j` in a block of the received array, and the whole of a block of the others. -/
abbrev rowRect (j : Dev nD) : Rect S8x512x128 := Rect.unit (s := S8x512x128) ![j.val, 0, 0] S1x512x128.size (row_inb j)
abbrev fullRect : Rect S512x128 := Rect.unit (s := S512x128) ![0, 0] S512x128.size inb_S512x128_S512x128_0_0

/-- Element `y` of slot `j` of a block of the received array. -/
def atRow (j : Dev nD) (y : S512x128.Idx) : S8x512x128.Idx := Fin.cons (α := fun a => Fin (S8x512x128.size a)) j y

theorem row_apply (x : Vec F S8x512x128 .f32) (j : Dev nD) (y : S512x128.Idx) :
    shapeCast S512x128 (View.ld x (rowRect j)) shapeCasts_S1x512x128_S512x128 y = x (atRow j y) := by
  rw [shapeCast_apply _ _ y (Fin.cons (α := fun a => Fin (S1x512x128.size a)) (0 : Fin 1) y)
    (by rw [Shape.rowMajor_val_three, Shape.rowMajor_val_two]
        show ((0 : ℕ) * 512 + (y 0).val) * 128 + (y 1).val = (y 0).val * 128 + (y 1).val
        omega)]
  show x _ = x _
  congr 1
  funext a
  refine Fin.ext ?_
  match a with
  | 0 => show j.val + 1 * 0 = j.val; omega
  | 1 => show 0 + 1 * (y 0).val = (y 0).val; omega
  | 2 => show 0 + 1 * (y 1).val = (y 1).val; omega

theorem pay3_eq (x : Vec F S8x512x128 .f32) :
    k1_pay3 (View.ld x (rowRect 0)) (View.ld x (rowRect 1)) (View.ld x (rowRect 2)) (View.ld x (rowRect 3))
      (View.ld x (rowRect 4)) (View.ld x (rowRect 5)) (View.ld x (rowRect 6)) (View.ld x (rowRect 7))
      = sum8 fun j y => x (atRow j y) := by
  have h (j : Dev nD) : shapeCast S512x128 (View.ld x (rowRect j)) shapeCasts_S1x512x128_S512x128 = fun y => x (atRow j y) :=
    funext (row_apply x j)
  unfold k1_pay3
  simp only [h]
  rfl

theorem pay4_eq (x : Vec F S8x512x128 .f32) (mm : FVec F S512x128 .f32) :
    k1_pay4 (View.ld x (rowRect 0)) (View.ld x (rowRect 1)) (View.ld x (rowRect 2)) (View.ld x (rowRect 3))
      (View.ld x (rowRect 4)) (View.ld x (rowRect 5)) (View.ld x (rowRect 6)) (View.ld x (rowRect 7)) mm
      = newM (sum8 fun j y => x (atRow j y)) mm := by
  unfold k1_pay4; rw [pay3_eq, shapeCast_self]; rfl

theorem ld_full (x : Vec F S512x128 .f32) : View.ld x fullRect = x := by
  funext y
  show x _ = x _
  congr 1
  funext a
  refine Fin.ext ?_
  match a with
  | 0 => show 0 + 1 * (y 0).val = (y 0).val; omega
  | 1 => show 0 + 1 * (y 1).val = (y 1).val; omega

/-- A block stored whole reads as what was stored. -/
theorem read_full {κ : Kind} {sp : Space} (v : View sig κ sp S512x128 .f32) (f : v.ty.Contents (Elt F)) (p : Vec F S512x128 .f32) :
    v.read (Elt F) (v.writes (Elt F) f [⟨fullRect, p⟩]) = p := by
  rw [View.read_writes_eq_canon v f [⟨fullRect, p⟩] (fun y => View.cover_of_tiled [⟨fullRect, p⟩] S512x128.size (by rfl) y)]
  funext y
  have h : fullRect.emb y = y := by
    funext a
    refine Fin.ext ?_
    match a with
    | 0 => show 0 + 1 * (y 0).val = (y 0).val; omega
    | 1 => show 0 + 1 * (y 1).val = (y 1).val; omega
  have := View.canon_cons_emb (Val := Elt F) fullRect p [] y
  rw [h] at this
  exact this

/-! ## One run of the body -/

local notation "𝕄" => MT nD τ sig Unit (Elt F) ℕ (UR sig nD τ × UR sig nD τ) ℕ

set_option maxHeartbeats 2000000 in
/-- From the blocks of the received array, the weights and the moments, the body leaves the block of the gradient, of the
    change of the weights, and of the new moments; it leaves the blocks it reads as they were. -/
theorem step_run (c : Dev nD) (E : Set ℕ) (i : grid1.Coords)
    (a1 : Memref sig .tc .vmem S8x512x128 .f32) (h1 : a1.IsWhole)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (a8 : Memref sig .tc .vmem S512x128 .f32) (h8 : a8.IsWhole)
    (x : Vec F S8x512x128 .f32) (w mm v : Vec F S512x128 .f32) (g : Vec F S512x128 .f32)
    (hg : g = sum8 fun j y => x (atRow j y)) (K : PUnit → sProp 𝕄) :
    iprop((owns (c : Thread nD τ) a1 fullShare x ∗ owns (c : Thread nD τ) a2 fullShare w
          ∗ owns (c : Thread nD τ) a3 fullShare mm ∗ owns (c : Thread nD τ) a4 fullShare v)
        ∗ ((∃ d, owns (c : Thread nD τ) a5 fullShare d) ∗ (∃ d, owns (c : Thread nD τ) a6 fullShare d)
          ∗ (∃ d, owns (c : Thread nD τ) a7 fullShare d) ∗ (∃ d, owns (c : Thread nD τ) a8 fullShare d))
        ∗ (((owns (c : Thread nD τ) a1 fullShare x ∗ owns (c : Thread nD τ) a2 fullShare w
              ∗ owns (c : Thread nD τ) a3 fullShare mm ∗ owns (c : Thread nD τ) a4 fullShare v)
            ∗ (owns (c : Thread nD τ) a5 fullShare g ∗ owns (c : Thread nD τ) a6 fullShare (delta (newM g mm) (newV g v) w)
              ∗ owns (c : Thread nD τ) a7 fullShare (newM g mm) ∗ owns (c : Thread nD τ) a8 fullShare (newV g v))) -∗ K ⟨⟩))
      ⊢ wp frame (wpE (defs₀ (F := F)) Variants.none c none) E (cc1_reduce_adamw i a1 h1 a2 h2 a3 h3 a4 h4 a5 h5 a6 h6 a7 h7 a8 h8) K := by
  subst hg
  rw [cc1_reduce_adamw_eq_skeleton]
  unfold cc1_reduce_adamw_skel
  rw [k1_part1_eq_skeleton]
  unfold k1_part1_skel owns
  iintro ⟨⟨⟨%fx, %hx, Hx⟩, ⟨%fw, %hw, Hw⟩, ⟨%fm, %hm, Hm⟩, ⟨%fv, %hv, Hv⟩⟩, ⟨⟨%_, %f5, -, H5⟩, ⟨%_, %f6, -, H6⟩, ⟨%_, %f7, -, H7⟩, ⟨%_, %f8, -, H8⟩⟩, HK⟩
  subst hx hw hm hv
  sl_exec
  sl_step
  iapply HK
  isplitl [Hx Hw Hm Hv]
  · isplitl [Hx]
    · iexists fx
      isplitr; · ipureintro; rfl
      iexact Hx
    isplitl [Hw]
    · iexists fw
      isplitr; · ipureintro; rfl
      iexact Hw
    isplitl [Hm]
    · iexists fm
      isplitr; · ipureintro; rfl
      iexact Hm
    iexists fv
    isplitr; · ipureintro; rfl
    iexact Hv
  have hsum := pay3_eq (a1.view.read (Elt F) fx)
  have hmom := (pay4_eq (a1.view.read (Elt F) fx) (View.ld (a3.view.read (Elt F) fm) fullRect)).trans
    (congrArg (newM _) (ld_full (a3.view.read (Elt F) fm)))
  have hw := ld_full (a2.view.read (Elt F) fw)
  have hv := ld_full (a4.view.read (Elt F) fv)
  isplitl [H5]
  · iexists _; isplitr
    swap; · iexact H5
    ipureintro
    exact (read_full _ _ _).trans hsum
  isplitl [H6]
  · iexists _; isplitr
    swap; · iexact H6
    ipureintro
    refine (read_full _ _ _).trans ((pay2_eq _ _ _ _).trans ?_)
    exact congr (congr (congrArg delta hmom) (congr (congrArg newV hsum) hv)) hw
  isplitl [H7]
  · iexists _; isplitr
    swap; · iexact H7
    ipureintro
    exact (read_full _ _ _).trans hmom
  iexists _; isplitr
  swap; · iexact H8
  ipureintro
  exact (read_full _ _ _).trans ((pay1_eq _ _).trans (congr (congrArg newV hsum) hv))

end Cert.Exchange

end
-- ==== Proof.Update.lean ====
/-
# The optimizer step as a pipeline

The second pallas_call's grid has thirteen points; point `t` reads and writes rows `512 t` to `512 t + 511`. This module
gives the pipeline's proof data, the arrays as the exchange leaves them, and shows what the four results hold when the grid
has run: the step's functions of the whole arrays.
-/
module

public import proofs.«01_k».proof.Proof.Step
public import proofs.«01_k».proof.Proof.Grads

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU sig) ℕ

variable (m : (ℓ : Loc nD τ sig) → Buf (Elt F) ℓ)

/-! ## The four results -/

/-- The gradient's pack on a device: the received slots added up. -/
def gradOf (c : Dev nD) : Vec F S6656x128 .f32 := sum8 fun j y => gotten m c (at3 j y)
/-- The new moments and the change of the weights. -/
def momOf (c : Dev nD) : Vec F S6656x128 .f32 := newM (gradOf m c) (m ((c : Thread nD τ).loc main_arg2))
def sqrOf (c : Dev nD) : Vec F S6656x128 .f32 := newV (gradOf m c) (m ((c : Thread nD τ).loc main_arg3))
def deltaOf (c : Dev nD) : Vec F S6656x128 .f32 := delta (momOf m c) (sqrOf m c) (m ((c : Thread nD τ).loc main_arg1))

/-! ## Where a block lies -/

/-- Row `y 0` of point `t`'s block, lane `y 1`, in the array. -/
def place (t : Fin cfg1.N) (y : S512x128.Idx) : S6656x128.Idx := (win1_4.rect t).emb y
def placeIn (t : Fin cfg1.N) (y : S8x512x128.Idx) : S8x6656x128.Idx := (win1_0.rect t).emb y

theorem placeIn_atRow (t : Fin cfg1.N) (j : Dev nD) (y : S512x128.Idx) : placeIn t (atRow j y) = at3 j (place t y) := by
  funext a
  refine Fin.ext ?_
  match a with
  | 0 =>
    refine (win1_0.rect_emb_val t (atRow j y) 0).trans ?_
    show 0 * 8 + j.val = j.val; omega
  | 1 =>
    refine (win1_0.rect_emb_val t (atRow j y) 1).trans ?_
    exact (win1_4.rect_emb_val t y 0).symm
  | 2 =>
    refine (win1_0.rect_emb_val t (atRow j y) 2).trans ?_
    exact (win1_4.rect_emb_val t y 1).symm

/-- An array's block at a point, and the received array's. -/
def blkOf (t : Fin cfg1.N) (f : Vec F S6656x128 .f32) : Vec F S512x128 .f32 := fun y => f (place t y)
def blkIn (t : Fin cfg1.N) (f : Vec F S8x6656x128 .f32) : Vec F S8x512x128 .f32 := fun y => f (placeIn t y)

theorem blk_grad (c : Dev nD) (t : Fin cfg1.N) :
    blkOf t (gradOf m c) = sum8 fun j y => blkIn t (gotten m c) (atRow j y) := by
  have h : (fun (j : Dev nD) (y : S512x128.Idx) => blkIn t (gotten m c) (atRow j y))
      = fun j y => gotten m c (at3 j (place t y)) :=
    funext fun j => funext fun y => congrArg (gotten m c) (placeIn_atRow t j y)
  rw [h]; rfl

/-! ## The proof data -/

def upd (c : Dev nD) : Dat τ (Elt F) Unit ℕ (UU sig) ℕ cfg1 c where
  A w := match w with
    | ⟨0, _⟩ => gotten m c
    | ⟨1, _⟩ => m ((c : Thread nD τ).loc main_arg1)
    | ⟨2, _⟩ => m ((c : Thread nD τ).loc main_arg2)
    | ⟨3, _⟩ => m ((c : Thread nD τ).loc main_arg3)
    | ⟨4, _⟩ => m ((c : Thread nD τ).loc main_v2_0)
    | ⟨5, _⟩ => m ((c : Thread nD τ).loc main_v2_1)
    | ⟨6, _⟩ => m ((c : Thread nD τ).loc main_v2_2)
    | ⟨7, _⟩ => m ((c : Thread nD τ).loc main_v2_3)
  after w t := match w with
    | ⟨0, _⟩ => blkIn t (gotten m c)
    | ⟨1, _⟩ => blkOf t (m ((c : Thread nD τ).loc main_arg1))
    | ⟨2, _⟩ => blkOf t (m ((c : Thread nD τ).loc main_arg2))
    | ⟨3, _⟩ => blkOf t (m ((c : Thread nD τ).loc main_arg3))
    | ⟨4, _⟩ => blkOf t (gradOf m c)
    | ⟨5, _⟩ => blkOf t (deltaOf m c)
    | ⟨6, _⟩ => blkOf t (momOf m c)
    | ⟨7, _⟩ => blkOf t (sqrOf m c)
  Φ _ := Pipeline.scopedRest spec1 c
  q _ := fullShare
  owed _ := 0

/-- The inputs' blocks are in place whenever the body runs. -/
theorem before0 (c : Dev nD) (t : Fin cfg1.N) (d) : (upd m c).before 0 t d = blkIn t (gotten m c) :=
  ((upd m c).before_in_eq_fetched 0 rfl (fun _ => rfl) (fun _ _ _ => rfl) (fun _ => rfl) t d).trans rfl
theorem before1 (c : Dev nD) (t : Fin cfg1.N) (d) : (upd m c).before 1 t d = blkOf t (m ((c : Thread nD τ).loc main_arg1)) :=
  ((upd m c).before_in_eq_fetched 1 rfl (fun _ => rfl) (fun _ _ _ => rfl) (fun _ => rfl) t d).trans rfl
theorem before2 (c : Dev nD) (t : Fin cfg1.N) (d) : (upd m c).before 2 t d = blkOf t (m ((c : Thread nD τ).loc main_arg2)) :=
  ((upd m c).before_in_eq_fetched 2 rfl (fun _ => rfl) (fun _ _ _ => rfl) (fun _ => rfl) t d).trans rfl
theorem before3 (c : Dev nD) (t : Fin cfg1.N) (d) : (upd m c).before 3 t d = blkOf t (m ((c : Thread nD τ).loc main_arg3)) :=
  ((upd m c).before_in_eq_fetched 3 rfl (fun _ => rfl) (fun _ _ _ => rfl) (fun _ => rfl) t d).trans rfl

/-! ## The body at a point -/

theorem upd_body (c : Dev nD) : BodyObligation (upd m c) (defs₀ (F := F)) 𝒱₀ () Set.univ := fun t => by
  rw [bigSep_W1, bigSep_W1]
  show iprop((upd m c).Φ t.castSucc ∗ (upd m c).owesAt () t.castSucc ∗ _) ⊢ wp frame (wpE (defs₀ (F := F)) 𝒱₀ c none) Set.univ
      (cc1_reduce_adamw (grid1.coords t) (win1_0.stage (cfg1.slots t 0)) (hstage1_0 _) (win1_1.stage (cfg1.slots t 1)) (hstage1_1 _)
        (win1_2.stage (cfg1.slots t 2)) (hstage1_2 _) (win1_3.stage (cfg1.slots t 3)) (hstage1_3 _)
        (win1_4.stage (cfg1.slots t 4)) (hstage1_4 _) (win1_5.stage (cfg1.slots t 5)) (hstage1_5 _)
        (win1_6.stage (cfg1.slots t 6)) (hstage1_6 _) (win1_7.stage (cfg1.slots t 7)) (hstage1_7 _))
      (fun _ => iprop((upd m c).Φ t.succ ∗ (upd m c).owesAt () t.succ ∗ _))
  rw [show (upd m c).Φ t.succ = (upd m c).Φ t.castSucc from rfl,
    show (upd m c).owesAt () t.succ = (upd m c).owesAt () t.castSucc from rfl]
  simp only [before0, before1, before2, before3]
  iintro ⟨HΦ, HO, ⟨%_, H0⟩, ⟨%_, H1⟩, ⟨%_, H2⟩, ⟨%_, H3⟩, ⟨%d4, H4⟩, ⟨%d5, H5⟩, ⟨%d6, H6⟩, ⟨%d7, H7⟩⟩
  iapply (step_run c Set.univ (grid1.coords t) _ _ _ _ _ _ _ _ _ _ _ _ _ _ _ _
    (blkIn t (gotten m c)) (blkOf t (m ((c : Thread nD τ).loc main_arg1))) (blkOf t (m ((c : Thread nD τ).loc main_arg2)))
    (blkOf t (m ((c : Thread nD τ).loc main_arg3))) (blkOf t (gradOf m c)) (blk_grad m c t) _)
  isplitl [H0 H1 H2 H3]
  · isplitl [H0]; · iexact H0
    isplitl [H1]; · iexact H1
    isplitl [H2]; · iexact H2
    iexact H3
  isplitl [H4 H5 H6 H7]
  · isplitl [H4]; · iexists _; iexact H4
    isplitl [H5]; · iexists _; iexact H5
    isplitl [H6]; · iexists _; iexact H6
    iexists _; iexact H7
  iintro ⟨⟨H0, H1, H2, H3⟩, ⟨H4, H5, H6, H7⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The arrays when the grid has run -/

theorem flushes4 : ∀ t : Fin cfg1.N, (cfg1.win 4).flush t = true := (by decide +kernel : ∀ t : Fin grid1.N, win1_4.flush t = true)
theorem flushes5 : ∀ t : Fin cfg1.N, (cfg1.win 5).flush t = true := (by decide +kernel : ∀ t : Fin grid1.N, win1_5.flush t = true)
theorem flushes6 : ∀ t : Fin cfg1.N, (cfg1.win 6).flush t = true := (by decide +kernel : ∀ t : Fin grid1.N, win1_6.flush t = true)
theorem flushes7 : ∀ t : Fin cfg1.N, (cfg1.win 7).flush t = true := (by decide +kernel : ∀ t : Fin grid1.N, win1_7.flush t = true)

theorem rows_of : ∀ t : Fin cfg1.N, win1_4.index t 0 = t.val := (by decide +kernel : ∀ t : Fin grid1.N, win1_4.index t 0 = t.val)

/-- Every index of the array lies in some point's block. -/
theorem placed (i : S6656x128.Idx) : ∃ (t : Fin cfg1.N) (y : S512x128.Idx), place t y = i := by
  have h0 : (i 0).val < 6656 := (i 0).isLt
  have hN := N_1
  have ht : (i 0).val / 512 < cfg1.N := by show (i 0).val / 512 < grid1.N; omega
  refine ⟨⟨(i 0).val / 512, ht⟩, fun a => match a with
    | ⟨0, _⟩ => ⟨(i 0).val % 512, Nat.mod_lt _ (by decide)⟩
    | ⟨1, _⟩ => i 1, ?_⟩
  funext a
  refine Fin.ext ((win1_4.rect_emb_val _ _ a).trans ?_)
  match a with
  | 0 =>
    show win1_4.index ⟨(i 0).val / 512, ht⟩ 0 * 512 + (i 0).val % 512 = (i 0).val
    rw [rows_of]; show (i 0).val / 512 * 512 + _ = _; omega
  | 1 => show 0 * 128 + (i 1).val = (i 1).val; omega

theorem final4 (c : Dev nD) : (upd m c).arrAt 4 cfg1.N = gradOf m c :=
  (upd m c).arrAt_eq_of_cover 4 (gradOf m c) (fun _ _ => rfl) fun i => by
    obtain ⟨t, y, h⟩ := placed i
    exact ⟨t, flushes4 t, h ▸ ((cfg1.win 4).blk t).view.emb_mem_set y⟩
theorem final5 (c : Dev nD) : (upd m c).arrAt 5 cfg1.N = deltaOf m c :=
  (upd m c).arrAt_eq_of_cover 5 (deltaOf m c) (fun _ _ => rfl) fun i => by
    obtain ⟨t, y, h⟩ := placed i
    exact ⟨t, flushes5 t, h ▸ ((cfg1.win 5).blk t).view.emb_mem_set y⟩
theorem final6 (c : Dev nD) : (upd m c).arrAt 6 cfg1.N = momOf m c :=
  (upd m c).arrAt_eq_of_cover 6 (momOf m c) (fun _ _ => rfl) fun i => by
    obtain ⟨t, y, h⟩ := placed i
    exact ⟨t, flushes6 t, h ▸ ((cfg1.win 6).blk t).view.emb_mem_set y⟩
theorem final7 (c : Dev nD) : (upd m c).arrAt 7 cfg1.N = sqrOf m c :=
  (upd m c).arrAt_eq_of_cover 7 (sqrOf m c) (fun _ _ => rfl) fun i => by
    obtain ⟨t, y, h⟩ := placed i
    exact ⟨t, flushes7 t, h ▸ ((cfg1.win 7).blk t).view.emb_mem_set y⟩

end Cert.Exchange

end
-- ==== Proof.Launch.lean ====
/-
# The program, launched

No device may wait before its partners may send to it, so the exchange's cells are allocated and dealt at launch, over
all devices at once. Each device then enters the exchange with its share of the schedule and leaves it with its array as
launched, the exchanged array filled, and all its semaphores at zero. The optimizer step follows on each device by itself.
-/
module

public import proofs.«01_k».proof.Proof.Body
public import proofs.«01_k».proof.Proof.Update

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU sig) ℕ

variable (m : (ℓ : Loc nD τ sig) → Buf (Elt F) ℓ) (ρ : Dev nD → PrngReg)

/-! ## The exchange's call -/

/-- What the call starts from, and what it ends with. -/
def atStart (c : Dev nD) : sProp 𝕄 := iprop(prepared (grads m) c ∗ Pipeline.scopedRest cfg0.spec c)
def atEnd (c : Dev nD) : sProp 𝕄 := iprop((bigSep Finset.univ fun w => done (grads m) c w) ∗ Pipeline.scopedRest cfg0.spec c)

def swap (c : Dev nD) : Dat τ (Elt F) Unit ℕ (UU sig) ℕ cfg0 c where
  A w := m ((cfg0.win w).arr.view.loc (c : Thread nD τ))
  after w _ := w.elim0
  Φ t := match t with
    | ⟨0, _⟩ => atStart m c
    | ⟨_ + 1, _⟩ => atEnd m c
  q _ := fullShare
  owed t := match t with
    | ⟨0, _⟩ => owed (grads m) c 0
    | ⟨_ + 1, _⟩ => 0

/-- The proof data of the two pallas_calls: the exchange, and the optimizer step. -/
def dats : (p : Fin 2) → (c : Dev nD) → Dat τ (Elt F) Unit ℕ (UU sig) ℕ (cfgs p) c
  | ⟨0, _⟩, c => swap m c
  | ⟨1, _⟩, c => upd m c

theorem no_windows (Φ : Fin cfg0.W → sProp 𝕄) : bigSep Finset.univ Φ = BI.emp := by
  rw [show (Finset.univ : Finset (Fin cfg0.W)) = ∅ from rfl, bigSep_empty]

theorem body_obligation (c : Dev nD) : BodyObligation (swap m c) (defs₀ (F := F)) 𝒱₀ () Set.univ := fun t => by
  rw [fin_N0 t, no_windows, no_windows]
  show iprop(atStart m c ∗ (swap m c).owesAt () (t0_0 : Fin cfg0.N).castSucc ∗ BI.emp)
    ⊢ wp frame (wpE (defs₀ (F := F)) 𝒱₀ c none) Set.univ
      (cc0_all_to_all_grads inM (Memref.isWhole_whole _) outM (Memref.isWhole_whole _) cc0_scratch0 cc0_scratch1 cc0_scratch2)
      (fun _ => iprop(atEnd m c ∗ (swap m c).owesAt () (t0_0 : Fin cfg0.N).succ ∗ BI.emp))
  unfold Dat.owesAt Pipeline.owesWithin atStart atEnd
  iintro ⟨⟨HX, Hrest⟩, ⟨%W, %hW, HO⟩, -⟩
  unfold prepared
  icases HX with ⟨%K, #HK, Hs⟩
  rw [show (swap m c).owed (t0_0 : Fin cfg0.N).castSucc = owed (grads m) c 0 from rfl,
    show (swap m c).owed (t0_0 : Fin cfg0.N).succ = 0 from rfl]
  iapply (body_run m K c W) $$ [Hs HO]
  · isplitr; · iexact HK
    isplitl [Hs]; · iexact Hs
    iexact HO
  iintro ⟨Hd, ⟨%W', HO⟩⟩
  isplitl [Hd Hrest]
  · isplitl [Hd]; · iexact Hd
    iexact Hrest
  isplitl [HO]
  · iexists W'
    isplitr; · ipureintro; exact fun _ _ => Or.inl trivial
    iexact HO
  iempintro

/-- The exchange's own semaphores. -/
abbrev osem : Wire → SemLoc sig := fun w => .dma (semOf w)
theorem osem_facts : Pipeline.OwnSemFacts cfg0.spec osem := by decide

abbrev 𝕍₀ : Variants := Variants.lift 𝒱₀

/-- A device's holdings at launch, the exchange's semaphores taken out. -/
def opened (c : Dev nD) : sProp 𝕄 :=
  iprop(scopedBufs (c : Thread nD τ) ∗ (Pipeline.cellsSems0 cfgs 0 c ∗ Pipeline.idleSems0 cfgs cellOf_inj 0 osem_facts c) ∗ opIdle (c : Thread nD τ))

/-- A device's scoped semaphores at zero: the staging ones, the exchange's, and the rest. -/
theorem sems_split (c : Dev nD) : (scopedSems0 (c : Thread nD τ) : sProp 𝕄)
    = iprop((Pipeline.cellsSems0 cfgs 0 c ∗ bigSep Finset.univ fun w => semVal (cell (grads m) c w) 0)
      ∗ Pipeline.idleSems0 cfgs cellOf_inj 0 osem_facts c) :=
  Pipeline.scopedSems0_split cfgs cellOf_inj 0 winFacts0.to₀ osem_facts c

theorem boundary_open (c : Dev nD) :
    (boundary (c : Thread nD τ) : sProp 𝕄) ⊢ iprop(opened c ∗ bigSep Finset.univ fun w => semVal (cell (grads m) c w) 0) := by
  have hss := sems_split m c
  unfold boundary opened
  rw [hss]
  iintro ⟨Hsc, ⟨⟨Hcells, Hos⟩, Hidle⟩, Hidl⟩
  isplitr [Hos]
  · isplitl [Hsc]; · iexact Hsc
    isplitr [Hidl]
    · isplitl [Hcells]; · iexact Hcells
      iexact Hidle
    iexact Hidl
  · iexact Hos

/-- The call of the exchange on device `c`. -/
theorem call_wp (c : Dev nD) {α : Type}
    (k : PUnit → Prog (TpuEff nD τ sig (Elt F) (Pipeline.Sig Λ₀ (Fin 2) fun p => (pcfgs (F := F) p).Adm) .tc) α) (Q : α → sProp 𝕄) :
    iprop(((boundary (c : Thread nD τ)
            ∗ (((c : Thread nD τ).loc main_arg0) ↦{fullShare} sendOf m c)
            ∗ (((c : Thread nD τ).loc main_v1) ↦{fullShare} gotten m c)
            ∗ ∃ W, owes (c : Thread nD τ) 0 W)
          -∗ wp frame (wpE defs 𝕍₀ (c : Thread nD τ) none) Set.univ (k ⟨⟩) Q)
        ∗ opened c ∗ prepared (grads m) c ∗ owes (c : Thread nD τ) (owed (grads m) c 0) ∅
        ∗ Pipeline.cellsGhost cfgs ES 0 c ∗ Pipeline.toksInit cfgs ES 0 c)
      ⊢ wp frame (wpE defs 𝕍₀ (c : Thread nD τ) none) Set.univ (.op (.customCall (Pipeline.entry 0) ()) k) Q := by
  have hss := sems_split m c
  have hsb := Pipeline.scopedBufs_split cfgs 0 winFacts0.to₀.stage_scoped winFacts0.to₀.stage_inj stage_whole0 c (τ := τ) (Ix := Unit) (Val := Elt F) (Name := ℕ) (U := UU sig) (Lvl := ℕ)
  have hin : iprop(prepared (grads m) c ∗ Pipeline.prefHeld (pcfgs (F := F) 0).pre c (fun _ => fullShare) ((cfgs 0).toPCfg_adm (Val := Elt F)).1 ∗ Pipeline.scopedRest cfg0.spec c)
      ⊢ (dats m 0 c).Φ 0 := by
    show _ ⊢ atStart m c
    unfold atStart
    iintro ⟨Hs, -, Hr⟩
    isplitl [Hs]; · iexact Hs
    iexact Hr
  have hout : iprop((dats m 0 c).Φ (Fin.last cfg0.N) ∗ Pipeline.cellsSems0 cfgs 0 c ∗ Dat.staging cfg0 c ∗ Pipeline.idleSems0 cfgs cellOf_inj 0 osem_facts c)
      ⊢ iprop(((((c : Thread nD τ).loc main_arg0) ↦{fullShare} sendOf m c)
            ∗ (((c : Thread nD τ).loc main_v1) ↦{fullShare} gotten m c))
          ∗ scopedSems0 (c : Thread nD τ) ∗ scopedBufs (c : Thread nD τ)) := by
    rw [hss, hsb]
    show iprop(atEnd m c ∗ _ ∗ _ ∗ _) ⊢ _
    unfold atEnd
    iintro ⟨⟨Hd, Hr⟩, Hcells, Hst, Hidle⟩
    ihave H := (grads_settle m c) $$ Hd
    icases H with ⟨Hi, Ho, Hz⟩
    isplitl [Hi Ho]
    · isplitl [Hi]; · iexact Hi
      iexact Ho
    isplitl [Hcells Hz Hidle]
    · isplitl [Hcells Hz]
      · isplitl [Hcells]; · iexact Hcells
        iexact Hz
      iexact Hidle
    isplitl [Hst]; · iexact Hst
    iexact Hr
  unfold opened
  iintro ⟨Hk, ⟨Hsc, ⟨Hcells, Hidle⟩, Hidl⟩, HX, HO, Hg, Ht⟩
  iapply (fupd_wp frame (wpE defs 𝕍₀ (c : Thread nD τ) none) Set.univ _ _)
  imod (Pipeline.cellsInit_alloc cfgs (dats m) ES cellOf_inj 0 c) $$ [Hcells Hg] with ⟨%κ, -, Hinit⟩
  · isplitl [Hcells] <;> iassumption
  imodintro
  iapply (Pipeline.wp_customCall_entry_frame pcfgs (fun p => (cfgs p).toPCfg_adm) (dats m) () ES κ cellOf_inj 0 defs₀ 𝒱₀ (fun _ => fullShare) c Set.univ (fun _ _ => Set.mem_univ _)
      (body_obligation m c).loose block_pos0 none (fun u h => nomatch h) (R := Pipeline.scopedRest cfg0.spec c)
      (I := Pipeline.idleSems0 cfgs cellOf_inj 0 osem_facts c) (Entails.of_eq hsb) hin hout (k := k) (Q := Q)) $$ [HO Hinit Ht HX Hidle Hsc]
  · isplitl [HO Hinit Ht]
    · unfold Pipeline.EntryPre Pipeline.PerCore.EntryPre
      isplitr
      · unfold Dat.arrays; rw [no_windows]; iempintro
      isplitl [HO]
      · unfold Dat.owesAt Pipeline.owesWithin
        iexists ∅
        isplitr; · ipureintro; exact fun _ h => absurd h (Finset.notMem_empty _)
        iexact HO
      isplitr
      · unfold Pipeline.PerCore.cellsWaits Pipeline.PerCore.RDat.cellsWaits; rw [no_windows]; iempintro
      isplitl [Hinit] <;> iassumption
    isplitr; · unfold Pipeline.prefHeld; iempintro
    isplitl [HX]; · iexact HX
    isplitl [Hidle]; · iexact Hidle
    iexact Hsc
  iintro ⟨Hpost, ⟨Hi, Ho⟩, Hss2, Hsc2⟩
  unfold Pipeline.EntryPost Pipeline.PerCore.EntryPost
  icases Hpost with ⟨-, HO⟩
  unfold Dat.owesAt Pipeline.owesWithin
  icases HO with ⟨%W, %hW, HO⟩
  iapply Hk
  isplitl [Hidl Hss2 Hsc2]
  · unfold boundary
    isplitl [Hsc2]; · iexact Hsc2
    isplitl [Hss2]; · iexact Hss2
    iexact Hidl
  isplitl [Hi]; · iexact Hi
  isplitl [Ho]; · iexact Ho
  iexists W
  iexact HO

/-! ## The optimizer step's call -/

/-- The arrays the step reads besides the exchanged one, as launched, and the four it fills, at `f`. -/
def given (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3)))
def filled (c : Dev nD) (g d mm v : Vec F S6656x128 .f32) : sProp 𝕄 :=
  iprop((((c : Thread nD τ).loc main_v2_0) ↦{fullShare} g) ∗ (((c : Thread nD τ).loc main_v2_1) ↦{fullShare} d)
    ∗ (((c : Thread nD τ).loc main_v2_2) ↦{fullShare} mm) ∗ (((c : Thread nD τ).loc main_v2_3) ↦{fullShare} v))

/-- What they hold at launch. -/
def unfilled (c : Dev nD) : sProp 𝕄 :=
  filled c (m ((c : Thread nD τ).loc main_v2_0)) (m ((c : Thread nD τ).loc main_v2_1))
    (m ((c : Thread nD τ).loc main_v2_2)) (m ((c : Thread nD τ).loc main_v2_3))

/-- The step's arrays, one by one. -/
theorem upd_arrays (c : Dev nD) (f : (w : Fin cfg1.W) → Buf (Elt F) ((cfg1.win w).arr.view.loc (c : Thread nD τ))) :
    ((dats m 1 c).arrays f : sProp 𝕄)
      = iprop((((c : Thread nD τ).loc main_v1) ↦{fullShare} f 0)
        ∗ (((c : Thread nD τ).loc main_arg1) ↦{fullShare} f 1) ∗ (((c : Thread nD τ).loc main_arg2) ↦{fullShare} f 2)
        ∗ (((c : Thread nD τ).loc main_arg3) ↦{fullShare} f 3) ∗ (((c : Thread nD τ).loc main_v2_0) ↦{fullShare} f 4)
        ∗ (((c : Thread nD τ).loc main_v2_1) ↦{fullShare} f 5) ∗ (((c : Thread nD τ).loc main_v2_2) ↦{fullShare} f 6)
        ∗ (((c : Thread nD τ).loc main_v2_3) ↦{fullShare} f 7)) :=
  (Pipeline.arrays_eq cfgs (dats m) 1 c arr_whole1 ((dats m 1 c).share_full fun _ => rfl) f).trans (bigSep_W1 _)

abbrev noSems : Pipeline.OwnSemFacts cfg1.spec (fun e : PEmpty => e.elim) := Pipeline.OwnSemFacts.none cfg1.spec

/-- The call of the optimizer step on device `c`. -/
theorem step_wp (c : Dev nD) (W : Waits sig Unit) {α : Type}
    (k : PUnit → Prog (TpuEff nD τ sig (Elt F) (Pipeline.Sig Λ₀ (Fin 2) fun p => (pcfgs (F := F) p).Adm) .tc) α) (Q : α → sProp 𝕄) :
    iprop(((boundary (c : Thread nD τ) ∗ given m c ∗ filled c (gradOf m c) (deltaOf m c) (momOf m c) (sqrOf m c)
            ∗ ∃ W, owes (c : Thread nD τ) 0 W)
          -∗ wp frame (wpE defs 𝕍₀ (c : Thread nD τ) none) Set.univ (k ⟨⟩) Q)
        ∗ boundary (c : Thread nD τ) ∗ (((c : Thread nD τ).loc main_v1) ↦{fullShare} gotten m c) ∗ given m c ∗ unfilled m c
        ∗ owes (c : Thread nD τ) 0 W ∗ Pipeline.cellsGhost cfgs ES 1 c ∗ Pipeline.toksInit cfgs ES 1 c)
      ⊢ wp frame (wpE defs 𝕍₀ (c : Thread nD τ) none) Set.univ (.op (.customCall (Pipeline.entry 1) ()) k) Q := by
  have hown := Pipeline.ownSems0_none (nD := nD) (τ := τ) (sig := sig) (Ix := Unit) (Val := Elt F) (Name := ℕ) (U := UU sig) (Lvl := ℕ) c
  have hss := Pipeline.scopedSems0_split cfgs cellOf_inj 1 winFacts1.to₀ noSems c (τ := τ) (Ix := Unit) (Val := Elt F) (Name := ℕ) (U := UU sig) (Lvl := ℕ)
  rw [hown] at hss
  have hsb := Pipeline.scopedBufs_split cfgs 1 winFacts1.to₀.stage_scoped winFacts1.to₀.stage_inj stage_whole1 c (τ := τ) (Ix := Unit) (Val := Elt F) (Name := ℕ) (U := UU sig) (Lvl := ℕ)
  have hin : iprop(BI.emp ∗ Pipeline.prefHeld (pcfgs (F := F) 1).pre c (fun _ => fullShare) ((cfgs 1).toPCfg_adm (Val := Elt F)).1 ∗ Pipeline.scopedRest cfg1.spec c)
      ⊢ (dats m 1 c).Φ 0 := by
    show _ ⊢ Pipeline.scopedRest spec1 c
    iintro ⟨-, -, Hr⟩
    iexact Hr
  have hout : iprop((dats m 1 c).Φ (Fin.last cfg1.N) ∗ Pipeline.cellsSems0 cfgs 1 c ∗ Dat.staging cfg1 c ∗ Pipeline.idleSems0 cfgs cellOf_inj 1 noSems c)
      ⊢ iprop(BI.emp ∗ scopedSems0 (c : Thread nD τ) ∗ scopedBufs (c : Thread nD τ)) := by
    rw [hss, hsb]
    show iprop(Pipeline.scopedRest spec1 c ∗ _ ∗ _ ∗ _) ⊢ _
    iintro ⟨Hr, Hcells, Hst, Hidle⟩
    isplitr; · iempintro
    isplitl [Hcells Hidle]
    · isplitl [Hcells]
      · isplitl [Hcells]; · iexact Hcells
        iempintro
      iexact Hidle
    isplitl [Hst]; · iexact Hst
    iexact Hr
  unfold boundary given unfilled filled
  rw [hss]
  iintro ⟨Hk, ⟨Hsc, ⟨⟨Hcells, -⟩, Hidle⟩, Hidl⟩, Hr, ⟨H1, H2, H3⟩, ⟨H4, H5, H6, H7⟩, HO, Hg, Ht⟩
  iapply (fupd_wp frame (wpE defs 𝕍₀ (c : Thread nD τ) none) Set.univ _ _)
  imod (Pipeline.cellsInit_alloc cfgs (dats m) ES cellOf_inj 1 c) $$ [Hcells Hg] with ⟨%κ, -, Hinit⟩
  · isplitl [Hcells] <;> iassumption
  imodintro
  iapply (Pipeline.wp_customCall_entry_frame pcfgs (fun p => (cfgs p).toPCfg_adm) (dats m) () ES κ cellOf_inj 1 defs₀ 𝒱₀ (fun _ => fullShare) c Set.univ (fun _ _ => Set.mem_univ _)
      (upd_body m c).loose block_pos1 none (fun u h => nomatch h) (R := Pipeline.scopedRest cfg1.spec c)
      (I := Pipeline.idleSems0 cfgs cellOf_inj 1 noSems c) (Entails.of_eq hsb) hin hout (k := k) (Q := Q)) $$ [HO Hinit Ht Hidle Hsc Hr H1 H2 H3 H4 H5 H6 H7]
  · isplitl [HO Hinit Ht Hr H1 H2 H3 H4 H5 H6 H7]
    · unfold Pipeline.EntryPre Pipeline.PerCore.EntryPre
      isplitl [Hr H1 H2 H3 H4 H5 H6 H7]
      · iapply (Entails.of_eq (upd_arrays m c (fun w => (dats m 1 c).A w)).symm)
        isplitl [Hr]; · iexact Hr
        isplitl [H1]; · iexact H1
        isplitl [H2]; · iexact H2
        isplitl [H3]; · iexact H3
        isplitl [H4]; · iexact H4
        isplitl [H5]; · iexact H5
        isplitl [H6]; · iexact H6
        iexact H7
      isplitl [HO]
      · unfold Dat.owesAt Pipeline.owesWithin
        iexists W
        isplitr; · ipureintro; exact fun _ _ => Or.inl trivial
        iexact HO
      isplitr
      · iapply (Pipeline.cellsWaits_of_owed_zero cfgs (dats m) () 1 c fun _ => rfl); iempintro
      isplitl [Hinit] <;> iassumption
    isplitr; · unfold Pipeline.prefHeld; iempintro
    isplitr; · iempintro
    isplitl [Hidle]; · iexact Hidle
    iexact Hsc
  iintro ⟨Hpost, -, Hss2, Hsc2⟩
  unfold Pipeline.EntryPost Pipeline.PerCore.EntryPost
  icases Hpost with ⟨Ha, HO⟩
  ihave Ha := (Entails.of_eq (upd_arrays m c fun w => (dats m 1 c).arrAt w cfg1.N)) $$ Ha
  icases Ha with ⟨-, H1, H2, H3, H4, H5, H6, H7⟩
  unfold Dat.owesAt Pipeline.owesWithin
  icases HO with ⟨%W', -, HO⟩
  iapply Hk
  isplitl [Hidl Hss2 Hsc2]
  · isplitl [Hsc2]; · iexact Hsc2
    isplitl [Hss2]; · rw [← hss]; iexact Hss2
    iexact Hidl
  isplitl [H1 H2 H3]
  · isplitl [H1]; · iapply (Entails.of_eq (congrArg _ ((upd m c).arrAt_in 1 rfl cfg1.N))); iexact H1
    isplitl [H2]; · iapply (Entails.of_eq (congrArg _ ((upd m c).arrAt_in 2 rfl cfg1.N))); iexact H2
    iapply (Entails.of_eq (congrArg _ ((upd m c).arrAt_in 3 rfl cfg1.N))); iexact H3
  isplitl [H4 H5 H6 H7]
  · isplitl [H4]; · iapply (Entails.of_eq (congrArg _ (final4 m c))); iexact H4
    isplitl [H5]; · iapply (Entails.of_eq (congrArg _ (final5 m c))); iexact H5
    isplitl [H6]; · iapply (Entails.of_eq (congrArg _ (final6 m c))); iexact H6
    iapply (Entails.of_eq (congrArg _ (final7 m c))); iexact H7
  iexists W'
  iexact HO

/-! ## The launch -/

/-- The books: the staging semaphores', the exchange's. -/
def u₀ : UU sig := (initOf (Pipeline.cells cfgs cellOf_inj) (Pipeline.launchToks cfgs cellOf_inj), initOf (xCells (grads m)) (xToks (grads m)))

/-- A device's holdings when it starts on @main. -/
def ready (c : Dev nD) : sProp 𝕄 :=
  iprop(opened c ∗ prepared (grads m) c ∗ owes (c : Thread nD τ) (owed (grads m) c 0) ∅
    ∗ (bigSep Finset.univ fun p => Pipeline.cellsGhost cfgs ES p c) ∗ (bigSep Finset.univ fun p => Pipeline.toksInit cfgs ES p c)
    ∗ given m c ∗ unfilled m c)

/-- One device's part of the launch. -/
theorem core_open (c : Dev nD) :
    (coreInit (Pipeline.owing fun d => owed (grads m) d 0) 0 (⟨m, fun _ => 0, ρ⟩ : MemSt nD τ sig (Elt F)) (c : Thread nD τ) : sProp 𝕄)
      ⊢ iprop(opened c ∗ (bigSep Finset.univ fun w => semVal (cell (grads m) c w) 0)
        ∗ (bigSep Finset.univ fun j => inPart (grads m) c j) ∗ (bigSep Finset.univ fun j => iprop(∃ f, outPart (grads m) c j f))
        ∗ owes (c : Thread nD τ) (owed (grads m) c 0) ∅
        ∗ (bigSep Finset.univ fun k : Fin 7 => cred (tallyAt (cell (grads m) c (rcv k)) () (grads m).credit))
        ∗ given m c ∗ unfilled m c) := by
  refine (Pipeline.coreInit_boundary_owing (fun d => owed (grads m) d 0) m ρ c).trans ?_
  have hrest := unscopedRest0_eq (Ix := Unit) (Val := Elt F) (Name := ℕ) (U := UU sig) (Lvl := ℕ) c fun b => m ((c : Thread nD τ).loc b)
  rw [Pipeline.unscopedBufs_split cfgs 0 winFacts0.arr_unscoped winFacts0.arr_inj]
  iintro ⟨Hb, ⟨-, Hr⟩, -, HO, -, -, Hc⟩
  ihave Hr := (Entails.of_eq hrest) $$ Hr
  icases Hr with ⟨Hi, H1, H2, H3, Ho, H4, H5, H6, H7⟩
  ihave Hb := (boundary_open m c) $$ Hb
  icases Hb with ⟨Hop, Hz⟩
  isplitl [Hop]; · iexact Hop
  isplitl [Hz]; · iexact Hz
  isplitl [Hi]; · iapply (Entails.of_eq (slots_in m c)); iexact Hi
  isplitl [Ho]; · iapply (slots_out_any m c (m ((c : Thread nD τ).loc main_v1))); iexact Ho
  isplitl [HO]; · iexact HO
  isplitl [Hc]; · iapply (credits (grads m) c); iexact Hc
  unfold given unfilled filled
  isplitl [H1 H2 H3]
  · isplitl [H1]; · iexact H1
    isplitl [H2]; · iexact H2
    iexact H3
  isplitl [H4]; · iexact H4
  isplitl [H5]; · iexact H5
  isplitl [H6]; · iexact H6
  iexact H7

theorem launch :
    iprop((bigSep Finset.univ fun d : Dev nD =>
        coreInit (Pipeline.owing fun d => owed (grads m) d 0) 0 (⟨m, fun _ => 0, ρ⟩ : MemSt nD τ sig (Elt F)) (d : Thread nD τ)) ∗ ownU (u₀ m))
      ⊢ (|={Set.univ}=> bigSep Finset.univ (ready m) : sProp 𝕄) := by
  have hcores : (bigSep Finset.univ fun d : Dev nD =>
        coreInit (Pipeline.owing fun d => owed (grads m) d 0) 0 (⟨m, fun _ => 0, ρ⟩ : MemSt nD τ sig (Elt F)) (d : Thread nD τ))
      ⊢ (iprop((bigSep Finset.univ fun c : Dev nD => opened c)
        ∗ (bigSep Finset.univ fun c : Dev nD => bigSep Finset.univ fun w => semVal (cell (grads m) c w) 0)
        ∗ (bigSep Finset.univ fun c : Dev nD => bigSep Finset.univ fun j => inPart (grads m) c j)
        ∗ (bigSep Finset.univ fun c : Dev nD => bigSep Finset.univ fun j => iprop(∃ f, outPart (grads m) c j f))
        ∗ (bigSep Finset.univ fun c : Dev nD => owes (c : Thread nD τ) (owed (grads m) c 0) ∅)
        ∗ (bigSep Finset.univ fun c : Dev nD => bigSep Finset.univ fun k : Fin 7 => cred (tallyAt (cell (grads m) c (rcv k)) () (grads m).credit))
        ∗ (bigSep Finset.univ fun c : Dev nD => given m c) ∗ bigSep Finset.univ fun c : Dev nD => unfilled m c) : sProp 𝕄) := by
    refine (bigSep_mono fun (d : Dev nD) _ => core_open m ρ d).trans ?_
    simp only [bigSep_sep']
    exact BI.Entails.refl _
  unfold u₀
  iintro ⟨Hcores, Hu⟩
  ihave H := hcores $$ Hcores
  icases H with ⟨Hop, Hz, Hi, Ho, HO, Hc, Hgv, Huf⟩
  ihave Hu := (ownU_pair _ _) $$ Hu
  icases Hu with ⟨HP, HX⟩
  imod (Pipeline.fund_ghost cfgs ES cellOf_inj) $$ HP with ⟨Hg, Ht⟩
  imod (prepare (grads m)) $$ [Hz Hi Ho Hc HX] with Hs
  · isplitl [Hz]; · iexact Hz
    isplitl [Hi]; · iexact Hi
    isplitl [Ho]; · iexact Ho
    isplitl [Hc]; · iexact Hc
    iexact HX
  imodintro
  unfold ready
  rw [bigSep_sep', bigSep_sep', bigSep_sep', bigSep_sep', bigSep_sep', bigSep_sep']
  isplitl [Hop]; · iexact Hop
  isplitl [Hs]; · iexact Hs
  isplitl [HO]; · iexact HO
  isplitl [Hg]; · iexact Hg
  isplitl [Ht]; · iexact Ht
  isplitl [Hgv]; · iexact Hgv
  iexact Huf

/-- A device's arrays at the end. -/
def atExit (c : Dev nD) : sProp 𝕄 :=
  iprop((((c : Thread nD τ).loc main_arg0) ↦{fullShare} sendOf m c) ∗ given m c
    ∗ filled c (gradOf m c) (deltaOf m c) (momOf m c) (sqrOf m c))

/-- What a final memory holds on a device: the step's four results, and the arguments as launched. -/
def Holds (s' : (ℓ : Loc nD τ sig) → Buf (Elt F) ℓ) (c : Dev nD) : Prop :=
  (s' ((c : Thread nD τ).loc main_v2_0) = gradOf m c ∧ s' ((c : Thread nD τ).loc main_v2_1) = deltaOf m c
    ∧ s' ((c : Thread nD τ).loc main_v2_2) = momOf m c ∧ s' ((c : Thread nD τ).loc main_v2_3) = sqrOf m c)
  ∧ s' ((c : Thread nD τ).loc main_arg0) = m ((c : Thread nD τ).loc main_arg0)
  ∧ s' ((c : Thread nD τ).loc main_arg1) = m ((c : Thread nD τ).loc main_arg1)
  ∧ s' ((c : Thread nD τ).loc main_arg2) = m ((c : Thread nD τ).loc main_arg2)
  ∧ s' ((c : Thread nD τ).loc main_arg3) = m ((c : Thread nD τ).loc main_arg3)

theorem exit_read (c : Dev nD) (s' : Phys nD τ sig (Elt F)) :
    iprop(atExit m c ∗ SI s') ⊢ (|={Set.univ}=> iprop(⌜Holds m s'.mem.mem c⌝ ∗ SI s') : sProp 𝕄) := by
  unfold atExit given filled
  iintro ⟨⟨H0, ⟨H1, H2, H3⟩, ⟨H4, H5, H6, H7⟩⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  imodintro
  isplitr
  · ipureintro
    exact ⟨⟨funext fun i => h4 i (Finset.mem_univ i), funext fun i => h5 i (Finset.mem_univ i),
        funext fun i => h6 i (Finset.mem_univ i), funext fun i => h7 i (Finset.mem_univ i)⟩,
      funext fun i => h0 i (Finset.mem_univ i), funext fun i => h1 i (Finset.mem_univ i),
      funext fun i => h2 i (Finset.mem_univ i), funext fun i => h3 i (Finset.mem_univ i)⟩
  iexact HSI

theorem both (Φ : Fin 2 → sProp 𝕄) : bigSep Finset.univ Φ = iprop(Φ 0 ∗ Φ 1) :=
  bigSep_univ_eq_bigSepL [0, 1] (by decide) (by decide) Φ

/-- THE RUN: every execution ends with the four results of every device at the step's functions of what was sent to it,
    every argument as launched, and all semaphores at zero. -/
theorem run_main : θ_run defs (onTc (τ := τ) (main (F := F))) ⟨m, fun _ => 0, ρ⟩
    (fun r => (∀ c : Dev nD, Holds m r.2.mem c) ∧ r.2.sem = fun _ => 0) := by
  refine (θ_run defs _ _).mono (Q := fun r => (∀ c : Dev nD, Holds m r.2.mem c
        ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu defs _ _ _
      (reflect_intro_fupd_tc_sems (X := Unit) 𝕍₀ (Pipeline.owing fun d => owed (grads m) d 0) 0 (noBookings fun _ => le_rfl)
        (Pipeline.owing_of_ne _) (u₀ m) (fun _ => ready m) (fun _ c => iprop(atExit m c ∗ boundary (c : Thread nD τ)))
        (fun _ => iprop(emp)) Set.univ ?_ (fun _ c => ?_) fun _ => ?_))
  · iintro H
    imod (launch m ρ) $$ H with H
    imodintro
    iexists ()
    isplitl [H]; · iexact H
    iempintro
  · rw [show main (F := F) c = (.op (.customCall (Pipeline.entry 0) ()) fun _ => .op (.customCall (Pipeline.entry 1) ()) fun _ => .ret ⟨⟩) from rfl]
    unfold ready
    rw [both, both]
    iintro ⟨Hop, HX, HO, ⟨Hg0, Hg1⟩, ⟨Ht0, Ht1⟩, Hgv, Huf⟩
    iapply (call_wp m c _ _)
    isplitr [Hop HX HO Hg0 Ht0]
    · iintro ⟨Hb, Hi, Ho, ⟨%W, HW⟩⟩
      iapply (step_wp m c W _ _)
      isplitr [Hb Ho HW Hg1 Ht1 Hgv Huf]
      · iintro ⟨Hb, Hgv, Hf, HW⟩
        rw [wp_ret]
        imodintro
        unfold post; simp only [liftTc_tc]; unfold atExit
        isplitl [Hb Hi Hgv Hf]
        · isplitl [Hi Hgv Hf]
          · isplitl [Hi]; · iexact Hi
            isplitl [Hgv]; · iexact Hgv
            iexact Hf
          iexact Hb
        iexact HW
      isplitl [Hb]; · iexact Hb
      isplitl [Ho]; · iexact Ho
      isplitl [Hgv]; · iexact Hgv
      isplitl [Huf]; · iexact Huf
      isplitl [HW]; · iexact HW
      isplitl [Hg1]; · iexact Hg1
      iexact Ht1
    isplitl [Hop]; · iexact Hop
    isplitl [HX]; · iexact HX
    isplitl [HO]; · iexact HO
    isplitl [Hg0]; · iexact Hg0
    iexact Ht0
  · iintro ⟨H, -, Hsc⟩ %s' HSI
    ihave %hsc := (scSems_read_zero m ρ s') $$ [Hsc HSI]
    · isplitl [Hsc] <;> iassumption
    imod (posts_fupd Finset.univ (fun c s' => Pipeline.boundary_read c s' (exit_read m c s')) s') $$ [H HSI] with %h
    · isplitl [H] <;> iassumption
    imodintro
    ipureintro
    exact ⟨fun c => h c (Finset.mem_univ c), hsc⟩

end Cert.Exchange

end
-- ==== Proof.Total.lean ====
/-
# The reference's totals, device by device

The reference holds all devices' arrays as one, device after device. It adds up the devices' gradients and takes the
AdamW step on the whole. Block `c` of each of its results, over the reals, is the step's function of the blocks:
block `c` of the sum adds up, over the devices, what each had for device `c`, and the rest goes element by element.
-/
module

public import proofs.«01_k».proof.Proof.Step
public import proofs.«01_k».proof.Proof.Gen.ReferenceIdeal
public import Idealize.ShloMosaic.Lib.Layout
public import Idealize.ShloMosaic.Lib.ValueIdxCore
public import Idealize.ShloMosaic.Lib.Pipeline.Value
public import Idealize.ShloMosaic.Lib.Pointwise.Reduce
public import Idealize.ShloMosaic.PureOps.Ideal.Laws

@[expose] public section

noncomputable section

namespace Cert.Exchange

open Idealize.ShloMosaic
open Idealize.ShloMosaic.TcCoe
open Cert.ReferenceIdeal (S64x6656x128 S8x53248x128 S53248x128 S_)
open Cert.KernelIdeal (S8x6656x128 S6656x128)

/-- Block `c` of a whole pack: the rows of device `c`. -/
abbrev blockOf {α : Type} (c : Fin 8) (x : S53248x128.Idx → α) (hT : Layout.Tiles ⟨2, ![6656, 128]⟩ ⟨2, ![53248, 128]⟩ 0 8) :
    S6656x128.Idx → α := Layout.block ⟨2, ![6656, 128]⟩ ⟨2, ![53248, 128]⟩ 0 8 c x hT

/-- Block `c` of the sum over the devices. -/
theorem total_block (x : FVec Ideal S64x6656x128 .f32) (c : Fin 8) (h₁ : S64x6656x128.ShapeCasts S8x53248x128)
    (h₂ : S8x53248x128.ReducesTo [0] S53248x128) (h₃ : 0 < S_.numel)
    (hS : Layout.Tiles ⟨3, ![8, 6656, 128]⟩ ⟨3, ![64, 6656, 128]⟩ 0 8)
    (hT : Layout.Tiles ⟨2, ![6656, 128]⟩ ⟨2, ![53248, 128]⟩ 0 8) :
    blockOf c (Host.reduceAdd (shapeCast S8x53248x128 x h₁) (constant (F := Ideal) S_ .f32 0x00000000#32) h₂ h₃) hT
      = sum8 fun j y => Layout.block ⟨3, ![8, 6656, 128]⟩ ⟨3, ![64, 6656, 128]⟩ 0 8 j x hS (at3 c y) := by
  funext i
  have hrow (j : Fin 8) (k : S8x53248x128.Idx) (hk : (k 0).val = j.val ∧ (k 1).val = c.val * 6656 + (i 0).val ∧ (k 2).val = (i 1).val) :
      shapeCast S8x53248x128 x h₁ k = Layout.block ⟨3, ![8, 6656, 128]⟩ ⟨3, ![64, 6656, 128]⟩ 0 8 j x hS (at3 c i) := by
    rw [Layout.block_apply]
    refine shapeCast_apply _ h₁ _ _ ?_
    rw [Shape.rowMajor_val_three, Shape.rowMajor_val_three, hS.idx_val, hS.idx_val, hS.idx_val, hk.1, hk.2.1, hk.2.2]
    show ((j.val * 8 + c.val) * 6656 + (i 0).val) * 128 + (i 1).val = (j.val * 53248 + (c.val * 6656 + (i 0).val)) * 128 + (i 1).val
    omega
  show Ideal.hostReduceAdd h₂ _ _ _ = _
  rw [Ideal.hostReduceAdd_r3_a0, Fin.sum_univ_eight]
  rw [show constant (F := Ideal) S_ .f32 0x00000000#32 (Shape.Idx.first h₃) = (0 : EReal) from Ideal.ofBits_zero_f32, zero_add]
  have hk (j : Fin 8) := hrow j (ValueIdx.ix3 j (hT.idx c i 0) (hT.idx c i 1)) ⟨rfl, rfl, rfl⟩
  exact congr (congrArg _ (congr (congrArg _ (congr (congrArg _ (congr (congrArg _ (congr (congrArg _ (congr (congrArg _
    (congr (congrArg _ (hk 0)) (hk 1))) (hk 2))) (hk 3))) (hk 4))) (hk 5))) (hk 6))) (hk 7)

variable (c : Fin 8) (hT : Layout.Tiles ⟨2, ![6656, 128]⟩ ⟨2, ![53248, 128]⟩ 0 8) (hb : S_.BroadcastsInDim S53248x128 ![])

/-- A constant at every element. -/
abbrev const (w : BitVec 32) : FVec Ideal S53248x128 .f32 := broadcastInDim S53248x128 ![] hb (constant S_ .f32 w)

/-- Block `c` of the new first moment, of the new second one, and of the change of the weights. -/
theorem newM_block (g m : FVec Ideal S53248x128 .f32) :
    blockOf c (addf (mulf (const hb 0x3F666666#32) m) (mulf (const hb 0x3DCCCCCD#32) g)) hT
      = newM (blockOf c g hT) (blockOf c m hT) := rfl

theorem newV_block (g v : FVec Ideal S53248x128 .f32) :
    blockOf c (addf (mulf (const hb 0x3F7FBE77#32) v) (mulf (const hb 0x3A83126F#32) (mulf g g))) hT
      = newV (blockOf c g hT) (blockOf c v hT) := rfl

theorem delta_block (m v w : FVec Ideal S53248x128 .f32) :
    blockOf c (mulf (const hb 0xBA83126F#32)
        (addf (Host.divf (Host.divf m (const hb 0x3F26BD02#32))
            (addf (Host.sqrt (Host.divf v (const hb 0x3C231ACC#32))) (const hb 0x322BCC77#32)))
          (mulf (const hb 0x3C23D70A#32) w))) hT
      = delta (blockOf c m hT) (blockOf c v hT) (blockOf c w hT) := rfl

end Cert.Exchange

end
-- ==== Proof.Packs.lean ====
/-
# The gathering of the weights

Every device sends its whole pack to every device; slot `j` of a device's result is device `j`'s pack. The eight copies
of one pack are under way together, so each takes one of the eight shares that the pack's ownership is dealt into.
-/
module

public import proofs.«01_k».proof.Proof.Slots
public import proofs.«01_k».proof.Proof.Deal
public import proofs.«01_k».proof.Proof.Gen.GatherIdeal
public import proofs.«01_k».proof.Proof.Gen.GatherIdeal.Skeleton
public import proofs.«01_k».proof.Proof.Gen.GatherIdeal.Launch

@[expose] public section

noncomputable section

namespace Cert.Weights

open Cert.GatherIdeal Cert.GatherIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The device's pack. -/
abbrev inM : Memref sig .tc .hbm S5920x128 .bf16 := Memref.whole main_arg0
/-- The result: slot `j` is the pack of device `j`. -/
abbrev outM : Memref sig .tc .hbm S8x5920x128 .bf16 := Memref.whole main_v1

/-- A slot of it. -/
abbrev wslot (j : Dev nD) : Memref sig .tc .hbm S5920x128 .bf16 := slot squeezes_S1x5920x128_S5920x128 outM j

/-! ## The printed offsets and devices -/

theorem off1 (c : Dev nD) : k0_off1 c = ![c.val, 0, 0] := by revert c; decide +kernel
theorem off2 (c : Dev nD) : k0_off2 c = ![(peer c 0).val, 0, 0] := by revert c; decide +kernel
theorem off3 (c : Dev nD) : k0_off3 c = ![(peer c 1).val, 0, 0] := by revert c; decide +kernel
theorem off4 (c : Dev nD) : k0_off4 c = ![(peer c 2).val, 0, 0] := by revert c; decide +kernel
theorem off5 (c : Dev nD) : k0_off5 c = ![(peer c 3).val, 0, 0] := by revert c; decide +kernel
theorem off6 (c : Dev nD) : k0_off6 c = ![(peer c 4).val, 0, 0] := by revert c; decide +kernel
theorem off7 (c : Dev nD) : k0_off7 c = ![(peer c 5).val, 0, 0] := by revert c; decide +kernel
theorem off8 (c : Dev nD) : k0_off8 c = ![(peer c 6).val, 0, 0] := by revert c; decide +kernel

theorem dev1 (c : Dev nD) : (⟨k0_dev1 c, k0_dev1_lt c⟩ : Dev nD) = peer c 0 := by revert c; decide +kernel
theorem dev2 (c : Dev nD) : (⟨k0_dev2 c, k0_dev2_lt c⟩ : Dev nD) = peer c 1 := by revert c; decide +kernel
theorem dev3 (c : Dev nD) : (⟨k0_dev3 c, k0_dev3_lt c⟩ : Dev nD) = peer c 2 := by revert c; decide +kernel
theorem dev4 (c : Dev nD) : (⟨k0_dev4 c, k0_dev4_lt c⟩ : Dev nD) = peer c 3 := by revert c; decide +kernel
theorem dev5 (c : Dev nD) : (⟨k0_dev5 c, k0_dev5_lt c⟩ : Dev nD) = peer c 4 := by revert c; decide +kernel
theorem dev6 (c : Dev nD) : (⟨k0_dev6 c, k0_dev6_lt c⟩ : Dev nD) = peer c 5 := by revert c; decide +kernel
theorem dev7 (c : Dev nD) : (⟨k0_dev7 c, k0_dev7_lt c⟩ : Dev nD) = peer c 6 := by revert c; decide +kernel

/-! ## What is gathered -/

variable (m : (ℓ : Loc nD τ sig) → Buf (Elt F) ℓ)

/-- Device `c`'s pack at launch. -/
def packOf (c : Dev nD) : S5920x128.Idx → Elt F .bf16 := m ((c : Thread nD τ).loc main_arg0)

/-- What every device ends with: slot `j` is the pack of device `j`. -/
def gathered : S8x5920x128.Idx → Elt F .bf16 := fun i => packOf m (slotIx i) (restIx i)

/-- A slot written with device `p`'s pack holds, under the slot `p`, what every device ends with. -/
theorem packs_landed (c p : Dev nD) (fd : Buf (Elt F) ((c : Thread nD τ).loc main_v1)) (i : S8x5920x128.Idx)
    (hi : i ∈ (wslot p).view.set) :
    (wslot p).view.write (Elt F) fd (inM.view.read (Elt F) (packOf m p)) Finset.univ i = gathered m i := by
  obtain ⟨y, -, rfl⟩ := Finset.mem_map.mp hi
  refine (View.write_emb_of_mem (v := (wslot p).view) fd _ (Finset.mem_univ y)).trans ?_
  have hd : (wslot p).view.emb y = at3 p y := slot_emb _ outM p y
  exact (congrArg (gathered m) hd).symm

def semOf : Wire → DmaSem sig
  | .inl k => ⟨k.val, by have := k.isLt; show k.val < 15; omega⟩
  | .inr (.inl k) => ⟨7 + k.val, by have := k.isLt; show 7 + k.val < 15; omega⟩
  | .inr (.inr _) => ⟨14, by decide⟩

def wireOf (s : DmaSem sig) : Wire :=
  if h : s.val < 7 then .inl ⟨s.val, h⟩
  else if h' : s.val < 14 then .inr (.inl ⟨s.val - 7, by omega⟩)
  else .inr (.inr ())

theorem wireOf_semOf (w : Wire) : wireOf (semOf w) = w := by revert w; decide

/-- The gathering: every transfer reads the whole pack, and takes one share of it. -/
def packs : Net sig F where
  shape := S5920x128
  elt := .bf16
  src _ := inM
  dst p := wslot p
  lent j := Transfers.dealOf fullShare Finset.univ j
  had c _ := packOf m c
  got _ _ := gathered m
  sem := semOf
  wire := wireOf
  wire_sem := wireOf_semOf
  credit := (wslot 0).view.dmaCredit
  credit_pos := View.dmaCredit_pos _ (by decide)
  credit_dst _ := rfl
  landed := packs_landed m

/-! ## The pack and its shares, the result and its slots -/

/-- A device's pack as launched, in shares. -/
theorem shares_in (c : Dev nD) :
    ((((c : Thread nD τ).loc main_arg0) ↦{fullShare} packOf m c : sProp (MT nD τ sig Unit (Elt F) ℕ (UU sig) ℕ)))
      = bigSep Finset.univ fun j => inPart (packs m) c j := by
  have h := Transfers.pointsTo_deal (Ix := Unit) (Val := Elt F) (Name := ℕ) (U := UU sig) (Lvl := ℕ)
    (ℓ := (c : Thread nD τ).loc main_arg0) (S := Finset.univ) (f := packOf m c)
    (Finset.univ : Finset (Dev nD)) Finset.univ_nonempty fullShare
  have hset : (inM.view.set : Finset S5920x128.Idx) = Finset.univ := View.set_whole _
  unfold inPart
  show _ = bigSep Finset.univ fun j : Dev nD =>
    ((c : Thread nD τ).loc main_arg0) ↦[inM.view.set]{Transfers.dealOf fullShare Finset.univ j} packOf m c
  rw [View.set_whole]
  exact h

/-- The result at any contents, in slots. -/
theorem slots_out (c : Dev nD) (f : Buf (Elt F) ((c : Thread nD τ).loc main_v1)) :
    ((((c : Thread nD τ).loc main_v1) ↦{fullShare} f : sProp (MT nD τ sig Unit (Elt F) ℕ (UU sig) ℕ)))
      = bigSep Finset.univ fun p => outPart (packs m) c p f := by
  have h := slots_split (Ix := Unit) (Name := ℕ) (U := UU sig) (Lvl := ℕ) squeezes_S1x5920x128_S5920x128 outM c f
  rw [View.set_whole] at h
  exact h

theorem slots_out_any (c : Dev nD) (f : Buf (Elt F) ((c : Thread nD τ).loc main_v1)) :
    ((((c : Thread nD τ).loc main_v1) ↦{fullShare} f : sProp (MT nD τ sig Unit (Elt F) ℕ (UU sig) ℕ)))
      ⊢ bigSep Finset.univ fun p => iprop(∃ f, outPart (packs m) c p f) :=
  (Entails.of_eq (slots_out m c f)).trans (bigSep_mono fun p _ => exists_intro (Φ := fun f => outPart (packs m) c p f) f)

/-- What the gathering ends with: the pack as launched, the result with all packs, all semaphores at zero. -/
theorem packs_settle (c : Dev nD) :
    (bigSep Finset.univ fun w => done (packs m) c w)
      ⊢ (iprop((((c : Thread nD τ).loc main_arg0) ↦{fullShare} packOf m c)
        ∗ (((c : Thread nD τ).loc main_v1) ↦{fullShare} gathered m)
        ∗ bigSep Finset.univ fun w => semVal (cell (packs m) c w) 0) : sProp (MT nD τ sig Unit (Elt F) ℕ (UU sig) ℕ)) := by
  rw [shares_in, slots_out m]
  exact settle (packs m) c

end Cert.Weights

end
-- ==== Proof.PackBody.lean ====
/-
# The gathering's body, run once

From a device's share of the schedule the printed body ends with every wire landed and its semaphore at zero.
-/
module

public import proofs.«01_k».proof.Proof.Packs

@[expose] public section

noncomputable section

namespace Cert.Weights

open Cert.GatherIdeal Cert.GatherIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU sig) ℕ

variable (m : (ℓ : Loc nD τ sig) → Buf (Elt F) ℓ)

/-- The gathering's body on device `c`. -/
theorem body_run (K : Dev nD × Wire → ℕ) (c : Dev nD) (W : Waits sig Unit) {Q : PUnit → sProp 𝕄} :
    iprop(known (packs m) K ∗ share (packs m) c ∗ owes (c : Thread nD τ) (owed (packs m) c 0) W)
      ⊢ iprop((((bigSep Finset.univ fun w => done (packs m) c w) ∗ ∃ W', owes (c : Thread nD τ) 0 W') -∗ Q ⟨⟩)
          -∗ wp frame (wpE (defs₀ (F := F)) 𝒱₀ (c : Thread nD τ) none) Set.univ
            (cc0_all_gather_weights inM (Memref.isWhole_whole _) outM (Memref.isWhole_whole _) cc0_scratch0 cc0_scratch1 cc0_scratch2) Q) := by
  simp only [cc0_all_gather_weights_eq_skeleton]
  unfold cc0_all_gather_weights_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton]
  unfold k0_part1_skel k0_part2_skel k0_part3_skel k0_part4_skel k0_part5_skel k0_part6_skel k0_part7_skel k0_part8_skel
    k0_part9_skel k0_part10_skel k0_part11_skel
  simp only [Prog.lift, Prog.bind_op, Prog.bind_ret, Prog.pure_eq_ret, wp_deviceId]
  unfold share
  rw [seven, seven, wires_each]
  iintro ⟨#HK, ⟨⟨HS0, HS1, HS2, HS3, HS4, HS5, HS6⟩, ⟨HG0, HG1, HG2, HG3, HG4, HG5, HG6⟩, HC⟩, HO⟩ Hk
  iapply (copy_step (packs m) K c rfl (slot_of _ _ _ (off1 c) _) rfl) $$ [HC]
  · isplitr; · iexact HK
    iexact HC
  iintro HC
  iapply (send_step (packs m) K c 0 (dev1 c) rfl (slot_of _ _ _ (off1 c) _) rfl rfl _) $$ [HS0 HO]
  · isplitr; · iexact HK
    isplitl [HS0]; · iexact HS0
    iexact HO
  iintro ⟨HS0, HO⟩
  iapply (send_step (packs m) K c 1 (dev2 c) rfl (slot_of _ _ _ (off1 c) _) rfl rfl _) $$ [HS1 HO]
  · isplitr; · iexact HK
    isplitl [HS1]; · iexact HS1
    iexact HO
  iintro ⟨HS1, HO⟩
  iapply (send_step (packs m) K c 2 (dev3 c) rfl (slot_of _ _ _ (off1 c) _) rfl rfl _) $$ [HS2 HO]
  · isplitr; · iexact HK
    isplitl [HS2]; · iexact HS2
    iexact HO
  iintro ⟨HS2, HO⟩
  iapply (send_step (packs m) K c 3 (dev4 c) rfl (slot_of _ _ _ (off1 c) _) rfl rfl _) $$ [HS3 HO]
  · isplitr; · iexact HK
    isplitl [HS3]; · iexact HS3
    iexact HO
  iintro ⟨HS3, HO⟩
  iapply (send_step (packs m) K c 4 (dev5 c) rfl (slot_of _ _ _ (off1 c) _) rfl rfl _) $$ [HS4 HO]
  · isplitr; · iexact HK
    isplitl [HS4]; · iexact HS4
    iexact HO
  iintro ⟨HS4, HO⟩
  iapply (send_step (packs m) K c 5 (dev6 c) rfl (slot_of _ _ _ (off1 c) _) rfl rfl _) $$ [HS5 HO]
  · isplitr; · iexact HK
    isplitl [HS5]; · iexact HS5
    iexact HO
  iintro ⟨HS5, HO⟩
  iapply (send_step (packs m) K c 6 (dev7 c) rfl (slot_of _ _ _ (off1 c) _) rfl rfl _) $$ [HS6 HO]
  · isplitr; · iexact HK
    isplitl [HS6]; · iexact HS6
    iexact HO
  iintro ⟨HS6, HO⟩
  rw [show (((6 : Fin 7) : ℕ) + 1) = 7 from rfl, owed_end]
  unfold toGet sent copying
  iapply (wait_step (packs m) K c (rcv 0) rfl (by rw [slot_of _ _ _ (off2 c) _]; rfl) _) $$ [HG0 HO]
  · isplitr; · iexact HK
    isplitl [HG0]; · iexact HG0
    iexact HO
  iintro ⟨HG0, HO⟩
  iapply (wait_step (packs m) K c (rcv 1) rfl (by rw [slot_of _ _ _ (off3 c) _]; rfl) _) $$ [HG1 HO]
  · isplitr; · iexact HK
    isplitl [HG1]; · iexact HG1
    iexact HO
  iintro ⟨HG1, HO⟩
  iapply (wait_step (packs m) K c (rcv 2) rfl (by rw [slot_of _ _ _ (off4 c) _]; rfl) _) $$ [HG2 HO]
  · isplitr; · iexact HK
    isplitl [HG2]; · iexact HG2
    iexact HO
  iintro ⟨HG2, HO⟩
  iapply (wait_step (packs m) K c (rcv 3) rfl (by rw [slot_of _ _ _ (off5 c) _]; rfl) _) $$ [HG3 HO]
  · isplitr; · iexact HK
    isplitl [HG3]; · iexact HG3
    iexact HO
  iintro ⟨HG3, HO⟩
  iapply (wait_step (packs m) K c (rcv 4) rfl (by rw [slot_of _ _ _ (off6 c) _]; rfl) _) $$ [HG4 HO]
  · isplitr; · iexact HK
    isplitl [HG4]; · iexact HG4
    iexact HO
  iintro ⟨HG4, HO⟩
  iapply (wait_step (packs m) K c (rcv 5) rfl (by rw [slot_of _ _ _ (off7 c) _]; rfl) _) $$ [HG5 HO]
  · isplitr; · iexact HK
    isplitl [HG5]; · iexact HG5
    iexact HO
  iintro ⟨HG5, HO⟩
  iapply (wait_step (packs m) K c (rcv 6) rfl (by rw [slot_of _ _ _ (off8 c) _]; rfl) _) $$ [HG6 HO]
  · isplitr; · iexact HK
    isplitl [HG6]; · iexact HG6
    iexact HO
  iintro ⟨HG6, HO⟩
  iapply (wait_step (packs m) K c (snd 0) rfl rfl _) $$ [HS0 HO]
  · isplitr; · iexact HK
    isplitl [HS0]; · iexact HS0
    iexact HO
  iintro ⟨HS0, HO⟩
  iapply (wait_step (packs m) K c (snd 1) rfl rfl _) $$ [HS1 HO]
  · isplitr; · iexact HK
    isplitl [HS1]; · iexact HS1
    iexact HO
  iintro ⟨HS1, HO⟩
  iapply (wait_step (packs m) K c (snd 2) rfl rfl _) $$ [HS2 HO]
  · isplitr; · iexact HK
    isplitl [HS2]; · iexact HS2
    iexact HO
  iintro ⟨HS2, HO⟩
  iapply (wait_step (packs m) K c (snd 3) rfl rfl _) $$ [HS3 HO]
  · isplitr; · iexact HK
    isplitl [HS3]; · iexact HS3
    iexact HO
  iintro ⟨HS3, HO⟩
  iapply (wait_step (packs m) K c (snd 4) rfl rfl _) $$ [HS4 HO]
  · isplitr; · iexact HK
    isplitl [HS4]; · iexact HS4
    iexact HO
  iintro ⟨HS4, HO⟩
  iapply (wait_step (packs m) K c (snd 5) rfl rfl _) $$ [HS5 HO]
  · isplitr; · iexact HK
    isplitl [HS5]; · iexact HS5
    iexact HO
  iintro ⟨HS5, HO⟩
  iapply (wait_step (packs m) K c (snd 6) rfl rfl _) $$ [HS6 HO]
  · isplitr; · iexact HK
    isplitl [HS6]; · iexact HS6
    iexact HO
  iintro ⟨HS6, HO⟩
  iapply (wait_step (packs m) K c own rfl (by rw [slot_of _ _ _ (off1 c) _]; rfl) _) $$ [HC HO]
  · isplitr; · iexact HK
    isplitl [HC]; · iexact HC
    iexact HO
  iintro ⟨HC, HO⟩
  rw [wp_ret]
  imodintro
  iapply Hk
  isplitr [HO]
  · isplitl [HS0 HS1 HS2 HS3 HS4 HS5 HS6]; · iframe
    isplitl [HG0 HG1 HG2 HG3 HG4 HG5 HG6]; · iframe
    iexact HC
  iexists _
  iexact HO

end Cert.Weights

end
-- ==== Proof.PackLaunch.lean ====
/-
# The gathering, launched

The gathering's cells are allocated and dealt at launch, over all devices at once. Each device leaves the call with its
pack as launched, the packs of all devices in its result, and all its semaphores at zero.
-/
module

public import proofs.«01_k».proof.Proof.PackBody

@[expose] public section

noncomputable section

namespace Cert.Weights

open Cert.GatherIdeal Cert.GatherIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU sig) ℕ

variable (m : (ℓ : Loc nD τ sig) → Buf (Elt F) ℓ) (ρ : Dev nD → PrngReg)

/-! ## The call -/

/-- What the call starts from, and what it ends with. -/
def atStart (c : Dev nD) : sProp 𝕄 := iprop(prepared (packs m) c ∗ Pipeline.scopedRest cfg0.spec c)
def atEnd (c : Dev nD) : sProp 𝕄 := iprop((bigSep Finset.univ fun w => done (packs m) c w) ∗ Pipeline.scopedRest cfg0.spec c)

def dats (_ : Fin 1) (c : Dev nD) : Dat τ (Elt F) Unit ℕ (UU sig) ℕ cfg0 c where
  A w := m ((cfg0.win w).arr.view.loc (c : Thread nD τ))
  after w _ := w.elim0
  Φ t := match t with
    | ⟨0, _⟩ => atStart m c
    | ⟨_ + 1, _⟩ => atEnd m c
  q _ := fullShare
  owed t := match t with
    | ⟨0, _⟩ => owed (packs m) c 0
    | ⟨_ + 1, _⟩ => 0

theorem no_windows (Φ : Fin cfg0.W → sProp 𝕄) : bigSep Finset.univ Φ = BI.emp := by
  rw [show (Finset.univ : Finset (Fin cfg0.W)) = ∅ from rfl, bigSep_empty]

theorem body_obligation (c : Dev nD) : BodyObligation (dats m 0 c) (defs₀ (F := F)) 𝒱₀ () Set.univ := fun t => by
  rw [fin_N0 t, no_windows, no_windows]
  show iprop(atStart m c ∗ (dats m 0 c).owesAt () (t0_0 : Fin cfg0.N).castSucc ∗ BI.emp)
    ⊢ wp frame (wpE (defs₀ (F := F)) 𝒱₀ c none) Set.univ
      (cc0_all_gather_weights inM (Memref.isWhole_whole _) outM (Memref.isWhole_whole _) cc0_scratch0 cc0_scratch1 cc0_scratch2)
      (fun _ => iprop(atEnd m c ∗ (dats m 0 c).owesAt () (t0_0 : Fin cfg0.N).succ ∗ BI.emp))
  unfold Dat.owesAt Pipeline.owesWithin atStart atEnd
  iintro ⟨⟨HX, Hrest⟩, ⟨%W, %hW, HO⟩, -⟩
  unfold prepared
  icases HX with ⟨%K, #HK, Hs⟩
  rw [show (dats m 0 c).owed (t0_0 : Fin cfg0.N).castSucc = owed (packs m) c 0 from rfl,
    show (dats m 0 c).owed (t0_0 : Fin cfg0.N).succ = 0 from rfl]
  iapply (body_run m K c W) $$ [Hs HO]
  · isplitr; · iexact HK
    isplitl [Hs]; · iexact Hs
    iexact HO
  iintro ⟨Hd, ⟨%W', HO⟩⟩
  isplitl [Hd Hrest]
  · isplitl [Hd]; · iexact Hd
    iexact Hrest
  isplitl [HO]
  · iexists W'
    isplitr; · ipureintro; exact fun _ _ => Or.inl trivial
    iexact HO
  iempintro

/-- The gathering's own semaphores. -/
abbrev osem : Wire → SemLoc sig := fun w => .dma (semOf w)
theorem osem_facts : Pipeline.OwnSemFacts cfg0.spec osem := by decide

abbrev 𝕍₀ : Variants := Variants.lift 𝒱₀

/-- A device's holdings at launch, the gathering's semaphores taken out. -/
def opened (c : Dev nD) : sProp 𝕄 :=
  iprop(scopedBufs (c : Thread nD τ) ∗ (Pipeline.cellsSems0 cfgs 0 c ∗ Pipeline.idleSems0 cfgs cellOf_inj 0 osem_facts c) ∗ opIdle (c : Thread nD τ))

/-- A device's scoped semaphores at zero: the staging ones, the gathering's, and the rest. -/
theorem sems_split (c : Dev nD) : (scopedSems0 (c : Thread nD τ) : sProp 𝕄)
    = iprop((Pipeline.cellsSems0 cfgs 0 c ∗ bigSep Finset.univ fun w => semVal (cell (packs m) c w) 0)
      ∗ Pipeline.idleSems0 cfgs cellOf_inj 0 osem_facts c) :=
  Pipeline.scopedSems0_split cfgs cellOf_inj 0 winFacts0.to₀ osem_facts c

theorem boundary_open (c : Dev nD) :
    (boundary (c : Thread nD τ) : sProp 𝕄) ⊢ iprop(opened c ∗ bigSep Finset.univ fun w => semVal (cell (packs m) c w) 0) := by
  have hss := sems_split m c
  unfold boundary opened
  rw [hss]
  iintro ⟨Hsc, ⟨⟨Hcells, Hos⟩, Hidle⟩, Hidl⟩
  isplitr [Hos]
  · isplitl [Hsc]; · iexact Hsc
    isplitr [Hidl]
    · isplitl [Hcells]; · iexact Hcells
      iexact Hidle
    iexact Hidl
  · iexact Hos

/-- The call on device `c`. -/
theorem call_wp (c : Dev nD) {α : Type}
    (k : PUnit → Prog (TpuEff nD τ sig (Elt F) (Pipeline.Sig Λ₀ (Fin 1) fun p => (pcfgs (F := F) p).Adm) .tc) α) (Q : α → sProp 𝕄) :
    iprop(((boundary (c : Thread nD τ)
            ∗ (((c : Thread nD τ).loc main_arg0) ↦{fullShare} packOf m c)
            ∗ (((c : Thread nD τ).loc main_v1) ↦{fullShare} gathered m)
            ∗ ∃ W, owes (c : Thread nD τ) 0 W)
          -∗ wp frame (wpE defs 𝕍₀ (c : Thread nD τ) none) Set.univ (k ⟨⟩) Q)
        ∗ opened c ∗ prepared (packs m) c ∗ owes (c : Thread nD τ) (owed (packs m) c 0) ∅
        ∗ Pipeline.cellsGhost cfgs ES 0 c ∗ Pipeline.toksInit cfgs ES 0 c)
      ⊢ wp frame (wpE defs 𝕍₀ (c : Thread nD τ) none) Set.univ (.op (.customCall (Pipeline.entry 0) ()) k) Q := by
  have hss := sems_split m c
  have hsb := Pipeline.scopedBufs_split cfgs 0 winFacts0.to₀.stage_scoped winFacts0.to₀.stage_inj stage_whole0 c (τ := τ) (Ix := Unit) (Val := Elt F) (Name := ℕ) (U := UU sig) (Lvl := ℕ)
  have hin : iprop(prepared (packs m) c ∗ Pipeline.prefHeld (pcfgs (F := F) 0).pre c (fun _ => fullShare) ((cfgs 0).toPCfg_adm (Val := Elt F)).1 ∗ Pipeline.scopedRest cfg0.spec c)
      ⊢ (dats m 0 c).Φ 0 := by
    show _ ⊢ atStart m c
    unfold atStart
    iintro ⟨Hs, -, Hr⟩
    isplitl [Hs]; · iexact Hs
    iexact Hr
  have hout : iprop((dats m 0 c).Φ (Fin.last cfg0.N) ∗ Pipeline.cellsSems0 cfgs 0 c ∗ Dat.staging cfg0 c ∗ Pipeline.idleSems0 cfgs cellOf_inj 0 osem_facts c)
      ⊢ iprop(((((c : Thread nD τ).loc main_arg0) ↦{fullShare} packOf m c)
            ∗ (((c : Thread nD τ).loc main_v1) ↦{fullShare} gathered m))
          ∗ scopedSems0 (c : Thread nD τ) ∗ scopedBufs (c : Thread nD τ)) := by
    rw [hss, hsb]
    show iprop(atEnd m c ∗ _ ∗ _ ∗ _) ⊢ _
    unfold atEnd
    iintro ⟨⟨Hd, Hr⟩, Hcells, Hst, Hidle⟩
    ihave H := (packs_settle m c) $$ Hd
    icases H with ⟨Hi, Ho, Hz⟩
    isplitl [Hi Ho]
    · isplitl [Hi]; · iexact Hi
      iexact Ho
    isplitl [Hcells Hz Hidle]
    · isplitl [Hcells Hz]
      · isplitl [Hcells]; · iexact Hcells
        iexact Hz
      iexact Hidle
    isplitl [Hst]; · iexact Hst
    iexact Hr
  unfold opened
  iintro ⟨Hk, ⟨Hsc, ⟨Hcells, Hidle⟩, Hidl⟩, HX, HO, Hg, Ht⟩
  iapply (fupd_wp frame (wpE defs 𝕍₀ (c : Thread nD τ) none) Set.univ _ _)
  imod (Pipeline.cellsInit_alloc cfgs (dats m) ES cellOf_inj 0 c) $$ [Hcells Hg] with ⟨%κ, -, Hinit⟩
  · isplitl [Hcells] <;> iassumption
  imodintro
  iapply (Pipeline.wp_customCall_entry_frame pcfgs (fun p => (cfgs p).toPCfg_adm) (dats m) () ES κ cellOf_inj 0 defs₀ 𝒱₀ (fun _ => fullShare) c Set.univ (fun _ _ => Set.mem_univ _)
      (body_obligation m c).loose block_pos0 none (fun u h => nomatch h) (R := Pipeline.scopedRest cfg0.spec c)
      (I := Pipeline.idleSems0 cfgs cellOf_inj 0 osem_facts c) (Entails.of_eq hsb) hin hout (k := k) (Q := Q)) $$ [HO Hinit Ht HX Hidle Hsc]
  · isplitl [HO Hinit Ht]
    · unfold Pipeline.EntryPre Pipeline.PerCore.EntryPre
      isplitr
      · unfold Dat.arrays; rw [no_windows]; iempintro
      isplitl [HO]
      · unfold Dat.owesAt Pipeline.owesWithin
        iexists ∅
        isplitr; · ipureintro; exact fun _ h => absurd h (Finset.notMem_empty _)
        iexact HO
      isplitr
      · unfold Pipeline.PerCore.cellsWaits Pipeline.PerCore.RDat.cellsWaits; rw [no_windows]; iempintro
      isplitl [Hinit] <;> iassumption
    isplitr; · unfold Pipeline.prefHeld; iempintro
    isplitl [HX]; · iexact HX
    isplitl [Hidle]; · iexact Hidle
    iexact Hsc
  iintro ⟨Hpost, ⟨Hi, Ho⟩, Hss2, Hsc2⟩
  unfold Pipeline.EntryPost Pipeline.PerCore.EntryPost
  icases Hpost with ⟨-, HO⟩
  unfold Dat.owesAt Pipeline.owesWithin
  icases HO with ⟨%W, %hW, HO⟩
  iapply Hk
  isplitl [Hidl Hss2 Hsc2]
  · unfold boundary
    isplitl [Hsc2]; · iexact Hsc2
    isplitl [Hss2]; · iexact Hss2
    iexact Hidl
  isplitl [Hi]; · iexact Hi
  isplitl [Ho]; · iexact Ho
  iexists W
  iexact HO

/-! ## The launch -/

/-- The books: the staging semaphores', the gathering's. -/
def u₀ : UU sig := (initOf (Pipeline.cells cfgs cellOf_inj) (Pipeline.launchToks cfgs cellOf_inj), initOf (xCells (packs m)) (xToks (packs m)))

/-- A device's holdings when it starts on @main. -/
def ready (c : Dev nD) : sProp 𝕄 :=
  iprop(opened c ∗ prepared (packs m) c ∗ owes (c : Thread nD τ) (owed (packs m) c 0) ∅
    ∗ (bigSep Finset.univ fun p => Pipeline.cellsGhost cfgs ES p c) ∗ bigSep Finset.univ fun p => Pipeline.toksInit cfgs ES p c)

/-- One device's part of the launch. -/
theorem core_open (c : Dev nD) :
    (coreInit (Pipeline.owing fun d => owed (packs m) d 0) 0 (⟨m, fun _ => 0, ρ⟩ : MemSt nD τ sig (Elt F)) (c : Thread nD τ) : sProp 𝕄)
      ⊢ iprop(opened c ∗ (bigSep Finset.univ fun w => semVal (cell (packs m) c w) 0)
        ∗ (bigSep Finset.univ fun j => inPart (packs m) c j) ∗ (bigSep Finset.univ fun j => iprop(∃ f, outPart (packs m) c j f))
        ∗ owes (c : Thread nD τ) (owed (packs m) c 0) ∅
        ∗ bigSep Finset.univ fun k : Fin 7 => cred (tallyAt (cell (packs m) c (rcv k)) () (packs m).credit)) := by
  refine (Pipeline.coreInit_boundary_owing (fun d => owed (packs m) d 0) m ρ c).trans ?_
  rw [Pipeline.unscopedBufs_split cfgs 0 winFacts0.arr_unscoped winFacts0.arr_inj, unscopedRest0_eq]
  iintro ⟨Hb, ⟨-, Hi, Ho⟩, -, HO, -, -, Hc⟩
  ihave Hb := (boundary_open m c) $$ Hb
  icases Hb with ⟨Hop, Hz⟩
  isplitl [Hop]; · iexact Hop
  isplitl [Hz]; · iexact Hz
  isplitl [Hi]; · iapply (Entails.of_eq (shares_in m c)); iexact Hi
  isplitl [Ho]; · iapply (slots_out_any m c (m ((c : Thread nD τ).loc main_v1))); iexact Ho
  isplitl [HO]; · iexact HO
  iapply (credits (packs m) c); iexact Hc

theorem launch :
    iprop((bigSep Finset.univ fun d : Dev nD =>
        coreInit (Pipeline.owing fun d => owed (packs m) d 0) 0 (⟨m, fun _ => 0, ρ⟩ : MemSt nD τ sig (Elt F)) (d : Thread nD τ)) ∗ ownU (u₀ m))
      ⊢ (|={Set.univ}=> bigSep Finset.univ (ready m) : sProp 𝕄) := by
  have hcores : (bigSep Finset.univ fun d : Dev nD =>
        coreInit (Pipeline.owing fun d => owed (packs m) d 0) 0 (⟨m, fun _ => 0, ρ⟩ : MemSt nD τ sig (Elt F)) (d : Thread nD τ))
      ⊢ (iprop((bigSep Finset.univ fun c : Dev nD => opened c)
        ∗ (bigSep Finset.univ fun c : Dev nD => bigSep Finset.univ fun w => semVal (cell (packs m) c w) 0)
        ∗ (bigSep Finset.univ fun c : Dev nD => bigSep Finset.univ fun j => inPart (packs m) c j)
        ∗ (bigSep Finset.univ fun c : Dev nD => bigSep Finset.univ fun j => iprop(∃ f, outPart (packs m) c j f))
        ∗ (bigSep Finset.univ fun c : Dev nD => owes (c : Thread nD τ) (owed (packs m) c 0) ∅)
        ∗ bigSep Finset.univ fun c : Dev nD => bigSep Finset.univ fun k : Fin 7 => cred (tallyAt (cell (packs m) c (rcv k)) () (packs m).credit)) : sProp 𝕄) := by
    refine (bigSep_mono fun (d : Dev nD) _ => core_open m ρ d).trans ?_
    simp only [bigSep_sep']
    exact BI.Entails.refl _
  unfold u₀
  iintro ⟨Hcores, Hu⟩
  ihave H := hcores $$ Hcores
  icases H with ⟨Hop, Hz, Hi, Ho, HO, Hc⟩
  ihave Hu := (ownU_pair _ _) $$ Hu
  icases Hu with ⟨HP, HX⟩
  imod (Pipeline.fund_ghost cfgs ES cellOf_inj) $$ HP with ⟨Hg, Ht⟩
  imod (prepare (packs m)) $$ [Hz Hi Ho Hc HX] with Hs
  · isplitl [Hz]; · iexact Hz
    isplitl [Hi]; · iexact Hi
    isplitl [Ho]; · iexact Ho
    isplitl [Hc]; · iexact Hc
    iexact HX
  imodintro
  unfold ready
  rw [bigSep_sep', bigSep_sep', bigSep_sep', bigSep_sep']
  isplitl [Hop]; · iexact Hop
  isplitl [Hs]; · iexact Hs
  isplitl [HO]; · iexact HO
  isplitl [Hg]; · iexact Hg
  iexact Ht

/-- A device's arrays at the end. -/
def atExit (c : Dev nD) : sProp 𝕄 :=
  iprop((((c : Thread nD τ).loc main_arg0) ↦{fullShare} packOf m c) ∗ (((c : Thread nD τ).loc main_v1) ↦{fullShare} gathered m))

theorem exit_read (c : Dev nD) (s' : Phys nD τ sig (Elt F)) :
    iprop(atExit m c ∗ SI s') ⊢ (|={Set.univ}=> iprop(⌜s'.mem.mem ((c : Thread nD τ).loc main_v1) = gathered m
      ∧ s'.mem.mem ((c : Thread nD τ).loc main_arg0) = packOf m c⌝ ∗ SI s') : sProp 𝕄) := by
  unfold atExit
  iintro ⟨⟨Hi, Ho⟩, HSI⟩
  icombine HSI Ho gives %h1
  icombine HSI Hi gives %h2
  imodintro
  isplitr
  · ipureintro
    exact ⟨funext fun i => h1 i (Finset.mem_univ i), funext fun i => h2 i (Finset.mem_univ i)⟩
  iexact HSI

/-- THE RUN: every execution ends with all packs in every device's result, every pack as launched, and all semaphores
    at zero. -/
theorem run_main : θ_run defs (onTc (τ := τ) (main (F := F))) ⟨m, fun _ => 0, ρ⟩
    (fun r => (∀ c : Dev nD, r.2.mem ((c : Thread nD τ).loc main_v1) = gathered m
      ∧ r.2.mem ((c : Thread nD τ).loc main_arg0) = packOf m c) ∧ r.2.sem = fun _ => 0) := by
  refine (θ_run defs _ _).mono (Q := fun r => (∀ c : Dev nD, (r.2.mem ((c : Thread nD τ).loc main_v1) = gathered m
        ∧ r.2.mem ((c : Thread nD τ).loc main_arg0) = packOf m c) ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu defs _ _ _
      (reflect_intro_fupd_tc_sems (X := Unit) 𝕍₀ (Pipeline.owing fun d => owed (packs m) d 0) 0 (noBookings fun _ => le_rfl)
        (Pipeline.owing_of_ne _) (u₀ m) (fun _ => ready m) (fun _ c => iprop(atExit m c ∗ boundary (c : Thread nD τ)))
        (fun _ => iprop(emp)) Set.univ ?_ (fun _ c => ?_) fun _ => ?_))
  · iintro H
    imod (launch m ρ) $$ H with H
    imodintro
    iexists ()
    isplitl [H]; · iexact H
    iempintro
  · rw [show main (F := F) c = (.op (.customCall (Pipeline.entry 0) ()) fun _ => .ret ⟨⟩) from (main_chain c).trans rfl]
    unfold ready
    iintro ⟨Hop, HX, HO, Hg, Ht⟩
    iapply (call_wp m c _ _)
    isplitr [Hop HX HO Hg Ht]
    · iintro ⟨Hb, Hi, Ho, HW⟩
      rw [wp_ret]
      imodintro
      unfold post; simp only [liftTc_tc]; unfold atExit
      isplitl [Hb Hi Ho]
      · isplitl [Hi Ho]
        · isplitl [Hi]; · iexact Hi
          iexact Ho
        iexact Hb
      iexact HW
    isplitl [Hop]; · iexact Hop
    isplitl [HX]; · iexact HX
    isplitl [HO]; · iexact HO
    isplitl [Hg]
    · iapply (Entails.of_eq (bigSep_univ_of_subsingleton (Φ := fun p => (Pipeline.cellsGhost cfgs ES p c : sProp 𝕄)) (0 : Fin 1))); iexact Hg
    iapply (Entails.of_eq (bigSep_univ_of_subsingleton (Φ := fun p => (Pipeline.toksInit cfgs ES p c : sProp 𝕄)) (0 : Fin 1))); iexact Ht
  · iintro ⟨H, -, Hsc⟩ %s' HSI
    ihave %hsc := (scSems_read_zero m ρ s') $$ [Hsc HSI]
    · isplitl [Hsc] <;> iassumption
    imod (posts_fupd Finset.univ (fun c s' => Pipeline.boundary_read c s' (exit_read m c s')) s') $$ [H HSI] with %h
    · isplitl [H] <;> iassumption
    imodintro
    ipureintro
    exact ⟨fun c => h c (Finset.mem_univ c), hsc⟩

end Cert.Weights

end
-- ==== Proof.Whole.lean ====
/-
# The reference's packs, device by device

The reference holds the packs of all devices as one array, device after device, and cuts it into eight. Pack `j` of the
result is block `j` of the array.
-/
module

public import proofs.«01_k».proof.Proof.Slots
public import proofs.«01_k».proof.GatherIdeal
public import proofs.«01_k».proof.GatherReferenceIdeal
public import Idealize.ShloMosaic.Lib.Layout
public import Idealize.ShloMosaic.Lib.Pipeline.Value

@[expose] public section

namespace Cert.Weights

open Idealize.ShloMosaic
open Idealize.ShloMosaic.TcCoe
open Cert.Exchange
open Cert.GatherReferenceIdeal (S47360x128 S8x5920x128)

theorem whole_block {α : Type} (x : S47360x128.Idx → α) (h : S47360x128.ShapeCasts S8x5920x128)
    (hT : Layout.Tiles ⟨2, ![5920, 128]⟩ ⟨2, ![47360, 128]⟩ 0 8) (i : S8x5920x128.Idx) :
    Layout.block ⟨2, ![5920, 128]⟩ ⟨2, ![47360, 128]⟩ 0 8 (slotIx (n := 5920) i) x hT (restIx (n := 5920) i)
      = shapeCast S8x5920x128 x h i := by
  rw [Layout.block_apply]
  refine (shapeCast_apply _ h _ _ ?_).symm
  rw [Shape.rowMajor_val_two, Shape.rowMajor_val_three, hT.idx_val, hT.idx_val]
  rfl

end Cert.Weights
-- ==== Proof.Rows.lean ====
/-
# One row of the gradient through RMSNorm

A row `x` is scaled by `1 / √(mean x² + ε)`. With `n` the gradient at the scaled row (the gain already multiplied in), the
gradient at `x` is written in two ways here: as the kernel computes it, with the mean of `n · x̂` taken off, and as the
derivative of the scale gives it. Over the extended reals the two are equal for every row, infinite entries included.
-/
module

public import Idealize.ShloMosaic.PureOps.Ideal.Laws
public import Mathlib.Data.EReal.Inv
public import Idealize.ShloMosaic.Lib.ValueIdx

@[expose] public section

noncomputable section

namespace Cert.Inward

open Idealize.ShloMosaic

/-- `a / 1024`, 1024 being the constant both programs hold. -/
abbrev mean (a : EReal) : EReal := Ideal.div a (Ideal.ofBits .f32 1149239296#32)

/-- The mean square of a row, plus ε. -/
def power (x : Fin 1024 → EReal) : EReal := mean (∑ k, x k * x k) + Ideal.ofBits .f32 897988541#32

/-- What the row is multiplied by. -/
def scale (x : Fin 1024 → EReal) : EReal := Ideal.rsqrt (power x)

/-- The gradient of the row as the kernel computes it. -/
def byMean (x n : Fin 1024 → EReal) (l : Fin 1024) : EReal :=
  scale x * (n l - x l * scale x * mean (∑ k, n k * (x k * scale x)))

/-- The gradient at a row's mean square: half of it goes to either factor of the square. -/
def atSquare (x n : Fin 1024 → EReal) : EReal :=
  mean ((∑ k, x k * n k) * (Ideal.ofBits .f32 3204448256#32 * Ideal.div (scale x) (power x)))

/-- The gradient of the row by the product rule. -/
def byRule (x n : Fin 1024 → EReal) (l : Fin 1024) : EReal := n l * scale x + x l * atSquare x n + atSquare x n * x l

theorem width_eq : Ideal.ofBits .f32 1149239296#32 = ((1024 : ℝ) : EReal) := by
  simp [Ideal.ofBits, Ideal.ieee, -EReal.coe_mul]; norm_num

theorem half_eq : Ideal.ofBits .f32 3204448256#32 = ((-(1 / 2) : ℝ) : EReal) := by
  simp [Ideal.ofBits, Ideal.ieee, -EReal.coe_mul]; norm_num

theorem eps_pos : 0 < Ideal.ofBits .f32 897988541#32 := by
  simp [Ideal.ofBits, Ideal.ieee, -EReal.coe_mul]

theorem div_coe (a : EReal) {y : ℝ} (hy : y ≠ 0) : Ideal.div a (y : EReal) = a * ((y⁻¹ : ℝ) : EReal) := by
  rw [Ideal.div, if_neg (by exact_mod_cast hy), EReal.coe_inv]

theorem mean_eq (a : EReal) : mean a = a * ((1024⁻¹ : ℝ) : EReal) := by
  rw [mean, width_eq, div_coe a (by norm_num)]

theorem power_pos (x : Fin 1024 → EReal) : 0 < power x := by
  refine lt_of_lt_of_le eps_pos (le_add_of_nonneg_left ?_)
  rw [mean_eq]
  refine mul_nonneg (Finset.sum_nonneg fun k _ => ?_) (by exact_mod_cast (by norm_num : (0 : ℝ) ≤ 1024⁻¹))
  rcases le_total 0 (x k) with h | h
  · exact mul_nonneg h h
  · rw [← neg_mul_neg]
    exact mul_nonneg (EReal.neg_nonneg.mpr h) (EReal.neg_nonneg.mpr h)

/-- A real factor `≥ 0` comes out of a sum. -/
theorem mul_sum_coe {ι : Type} (s : Finset ι) (f : ι → EReal) {r : ℝ} (hr : 0 ≤ r) : ∑ k ∈ s, (r : EReal) * f k = r * ∑ k ∈ s, f k := by
  classical
  induction s using Finset.induction_on with
  | empty => simp
  | insert a s ha ih =>
    rw [Finset.sum_insert ha, Finset.sum_insert ha, ih,
      EReal.left_distrib_of_nonneg_of_ne_top (by exact_mod_cast hr) (EReal.coe_ne_top r)]

theorem byMean_eq_byRule (x n : Fin 1024 → EReal) (l : Fin 1024) : byMean x n l = byRule x n l := by
  have hp := power_pos x
  unfold byMean byRule atSquare
  simp only [scale, half_eq, mean_eq]
  generalize power x = P at hp
  induction P with
  | bot => exact absurd hp (by simp)
  | top => simp [Ideal.div]
  | coe p =>
    have hp : 0 < p := by exact_mod_cast hp
    have hr : Ideal.rsqrt (p : EReal) = (((Real.sqrt p)⁻¹ : ℝ) : EReal) := by
      rw [Ideal.rsqrt_coe, if_neg (not_lt.mpr hp.le), if_neg hp.ne']
    have hq : (Real.sqrt p)⁻¹ * (Real.sqrt p)⁻¹ = p⁻¹ := by
      rw [← mul_inv, Real.mul_self_sqrt hp.le]
    have hr0 : 0 ≤ (Real.sqrt p)⁻¹ := by positivity
    rw [hr, div_coe _ hp.ne', ← hq]
    generalize (Real.sqrt p)⁻¹ = r at hr0
    have hT : ∑ k, n k * (x k * (r : EReal)) = r * ∑ k, x k * n k := by
      rw [← mul_sum_coe _ _ hr0]
      exact Finset.sum_congr rfl fun k _ => by ac_rfl
    rw [hT]
    generalize (∑ k, x k * n k) = T
    have hU : x l * (r : EReal) * (r * T * ((1024⁻¹ : ℝ) : EReal)) = ((r * r * 1024⁻¹ : ℝ) : EReal) * (x l * T) := by
      simp only [EReal.coe_mul]; ac_rfl
    have hV : x l * (T * (((-(1 / 2) : ℝ) : EReal) * ((r : EReal) * ((r * r : ℝ) : EReal))) * ((1024⁻¹ : ℝ) : EReal))
        = ((r * (r * r * 1024⁻¹) * (1 / 2) : ℝ) : EReal) * -(x l * T) := by
      rw [mul_neg, ← neg_mul, ← EReal.coe_neg,
        show -(r * (r * r * 1024⁻¹) * (1 / 2)) = -(1 / 2) * (r * (r * r)) * 1024⁻¹ by ring]
      simp only [EReal.coe_mul]; ac_rfl
    have hV0 : (0 : EReal) ≤ ((r * (r * r * 1024⁻¹) * (1 / 2) : ℝ) : EReal) := by exact_mod_cast (by positivity)
    rw [hU, mul_comm (T * _ * _) (x l), hV, add_assoc, ← EReal.right_distrib_of_nonneg hV0 hV0, ← EReal.coe_add, sub_eq_add_neg,
      EReal.left_distrib_of_nonneg_of_ne_top (by exact_mod_cast hr0) (EReal.coe_ne_top r), mul_comm (r : EReal) (n l),
      show r * (r * r * 1024⁻¹) * (1 / 2) + r * (r * r * 1024⁻¹) * (1 / 2) = r * (r * r * 1024⁻¹) by ring, EReal.coe_mul r,
      mul_assoc (r : EReal)]
    simp only [mul_neg]

/-- A sum over 1536 is three over 512. -/
theorem three (f : Fin 1536 → EReal) :
    ∑ k : Fin 512, f ⟨k.val, by omega⟩ + ∑ k : Fin 512, f ⟨512 + k.val, by omega⟩ + ∑ k : Fin 512, f ⟨1024 + k.val, by omega⟩ = ∑ k, f k :=
  ((Fin.sum_univ_add (a := 1024) (b := 512) f).trans
    (congrArg (· + _) (Fin.sum_univ_add (a := 512) (b := 512) fun k => f (Fin.castAdd 512 k)))).symm

theorem regroup (a b c d e f g h : EReal) : a + b + c + d + e + f + g + h = h + g + (d + e + f) + (a + b + c) := by
  ac_rfl

/-- The gradient at a normed row, from the four rows that came back and the four weights. -/
def into (a q : Fin 1536 → EReal) (z : Fin 512 → EReal) (g : Fin 128 → EReal) (wa wq : Fin 1536 → Fin 1024 → EReal)
    (wz : Fin 512 → Fin 1024 → EReal) (wg : Fin 128 → Fin 1024 → EReal) (l : Fin 1024) : EReal :=
  ∑ k, g k * wg k l + ∑ k, z k * wz k l + ∑ k, q k * wq k l + ∑ k, a k * wa k l

open ValueIdx (ix2)

/-- A matrix over the extended reals. -/
abbrev Mat (a b : ℕ) := Shape.Idx ⟨2, ![a, b]⟩ → EReal

/-- Row `r` of a matrix. -/
abbrev row {a b : ℕ} (x : Mat a b) (r : Fin a) : Fin b → EReal := fun k => x (ix2 r k)

/-- What the backward pass of the projection is given: the rows, the gradient past it, the four gradients that came
    back, the gain and the four weights. -/
structure Args where
  x : Mat 8192 1024
  dh : Mat 8192 1024
  a : Mat 8192 1536
  q : Mat 8192 1536
  z : Mat 8192 512
  l : Mat 8192 128
  g : Mat 1 1024
  wa : Mat 1536 1024
  wq : Mat 1536 1024
  wz : Mat 512 1024
  wl : Mat 128 1024

namespace Args

variable (A : Args)

/-- The gradient at the normed rows. -/
def inner (r : Fin 8192) : Fin 1024 → EReal :=
  into (row A.a r) (row A.q r) (row A.z r) (row A.l r) (row A.wa) (row A.wq) (row A.wz) (row A.wl)

/-- The gradient at the rows. -/
def dx (y : Shape.Idx ⟨2, ![8192, 1024]⟩) : EReal :=
  A.dh y + byMean (row A.x (y 0)) (fun k => A.inner (y 0) k * A.g (ix2 0 k)) (y 1)

/-- The gradient of the weight whose product got `d` back. -/
def dw {w : ℕ} (d : Mat 8192 w) (y : Shape.Idx ⟨2, ![1024, w]⟩) : EReal :=
  ∑ r, A.x (ix2 r (y 0)) * scale (row A.x r) * A.g (ix2 0 (y 0)) * d (ix2 r (y 1))

/-- The gradient of the gain. -/
def dg (y : Shape.Idx ⟨2, ![1, 1024]⟩) : EReal := ∑ r, A.inner r (y 1) * (A.x (ix2 r (y 1)) * scale (row A.x r))

end Args

end Cert.Inward

end
-- ==== Proof.Inward.lean ====
/-
# The input projection's backward pass, block by block

The call walks 32 blocks of 256 rows. At every block it writes the gradient of its rows and adds the block's part to the
four weights' gradients and to the gain's, which it clears at the first block and hands out at the last. `dx_apply`,
`dg_apply`, `lanes` read one block's terms; `acc0_first` … `gain_next` say what a block does to what the one before left;
`out0_last` … `final_dx` put the blocks together, and `run_main` says what the call ends with.
-/
module

public import proofs.«01_k».proof.Proof.Gen.InprojIdeal.Value
public import proofs.«01_k».proof.Proof.Rows
public import Idealize.ShloMosaic.Lib.Pipeline.ValueKit.Acc
public import Idealize.ShloMosaic.Lib.Pipeline.ReadBack
public import Idealize.ShloMosaic.Lib.Pipeline.ValueKit.Point

@[expose] public section

set_option maxRecDepth 16384

noncomputable section

namespace Cert.Inward

open Cert.InprojIdeal Cert.InprojIdeal.Gen
open Idealize.ShloMosaic
open Idealize.ShloMosaic.TcCoe Idealize.SL.Sem
open Idealize.ShloMosaic.Pipeline (Dat)

/-! ## One block of 256 rows -/

section Block

variable (X0 X1 : Vec Ideal S256x1024 .f32) (X2 X3 : Vec Ideal S256x1536 .f32) (X4 : Vec Ideal S256x512 .f32) (X5 : Vec Ideal S256x128 .f32)
  (X6 : Vec Ideal S1x1024 .f32) (X7 X8 : Vec Ideal S1536x1024 .bf16) (X9 : Vec Ideal S512x1024 .bf16) (X10 : Vec Ideal S128x1024 .bf16)

/-- The gradient at the normed rows, as the kernel adds it up: eight products, the wide ones cut in three. -/
abbrev inner : FVec Ideal S256x1024 .f32 :=
  k0_pay24 (k0_pay17 (k0_pay12 (View.ld X2 (Rect.unit ![0, 0] ![256, 512] inb_S256x1536_S256x512_0_0))
        (View.ld X7 (Rect.unit ![0, 0] ![512, 1024] inb_S1536x1024_S512x1024_0_0))
        (View.ld X2 (Rect.unit ![0, 512] ![256, 512] inb_S256x1536_S256x512_0_512))
        (View.ld X7 (Rect.unit ![512, 0] ![512, 1024] inb_S1536x1024_S512x1024_512_0)))
      (View.ld X2 (Rect.unit ![0, 1024] ![256, 512] inb_S256x1536_S256x512_0_1024))
      (View.ld X7 (Rect.unit ![1024, 0] ![512, 1024] inb_S1536x1024_S512x1024_1024_0))
      (View.ld X3 (Rect.unit ![0, 0] ![256, 512] inb_S256x1536_S256x512_0_0))
      (View.ld X8 (Rect.unit ![0, 0] ![512, 1024] inb_S1536x1024_S512x1024_0_0)))
    (k0_pay19 (View.ld X3 (Rect.unit ![0, 512] ![256, 512] inb_S256x1536_S256x512_0_512)))
    (View.ld X8 (Rect.unit ![512, 0] ![512, 1024] inb_S1536x1024_S512x1024_512_0))
    (View.ld X3 (Rect.unit ![0, 1024] ![256, 512] inb_S256x1536_S256x512_0_1024))
    (View.ld X8 (Rect.unit ![1024, 0] ![512, 1024] inb_S1536x1024_S512x1024_1024_0)) X4 X9

theorem into_apply (r : Fin 256) (l : Fin 1024) :
    k0_pay28 (inner X2 X3 X4 X7 X8 X9) X5 X10 (ix2 r l)
      = into (fun k => X2 (ix2 r k)) (fun k => X3 (ix2 r k)) (fun k => X4 (ix2 r k)) (fun k => X5 (ix2 r k))
          (fun k l => X7 (ix2 k l)) (fun k l => X8 (ix2 k l)) (fun k l => X9 (ix2 k l)) (fun k l => X10 (ix2 k l)) l := by
  pointwise [k0_pay28, k0_pay27, k0_pay24, k0_pay17, k0_pay12, k0_pay19, View.ld, k0_pay9, k0_pay11, k0_pay14, k0_pay16, k0_pay21, k0_pay23]
  rw [into, ← three fun k => X2 (ix2 r k) * X7 (ix2 k l), ← three fun k => X3 (ix2 r k) * X8 (ix2 k l)]
  exact regroup _ _ _ _ _ _ _ _

theorem dx_apply (D : FVec Ideal S256x1024 .f32) (r : Fin 256) (l : Fin 1024) :
    k0_pay31 X6 (k0_pay6 X0) (k0_pay7 X0) D X5 X10 X1 (ix2 r l)
      = (X1 (ix2 r l) + byMean (fun k => X0 (ix2 r k)) (fun k => k0_pay28 D X5 X10 (ix2 r k) * X6 (ix2 0 k)) l : EReal) := by
  pointwise [k0_pay31, k0_pay6, k0_pay7]
  rfl

/-- What the rows of the block add to the gradient of the gain. -/
def gain (D : FVec Ideal S256x1024 .f32) (y : S1x1024.Idx) : EReal :=
  ∑ r, k0_pay28 D X5 X10 (ix2 r (y 1)) * (X0 (ix2 r (y 1)) * scale fun k => X0 (ix2 r k))

theorem dg_apply (D : FVec Ideal S256x1024 .f32) (o : Vec Ideal S1x1024 .f32) (y : S1x1024.Idx) :
    k0_pay30 (k0_pay7 X0) D X5 X10 o y = (o y + gain X0 X5 X10 D y : EReal) := by
  pointwise [k0_pay30, k0_pay6, k0_pay7]
  rfl

theorem xn_apply (r : Fin 256) (l : Fin 1024) :
    k0_pay8 X6 X0 (ix2 r l) = (X0 (ix2 r l) * scale (fun k => X0 (ix2 r k)) * X6 (ix2 0 l) : EReal) := by
  pointwise [k0_pay8, k0_pay6, k0_pay7]
  rfl

/-- What the rows of the block add to a weight's gradient. -/
def adds {w : ℕ} (D : Vec Ideal ⟨2, ![256, w]⟩ .f32) (y : Shape.Idx ⟨2, ![1024, w]⟩) : EReal :=
  ∑ r : Fin 256, k0_pay8 (F := Ideal) X6 X0 (ix2 r (y 0)) * D (ix2 r (y 1))

theorem lane (P : Vec Ideal S1024x1536 .f32) (D : Vec Ideal S256x1536 .f32) (o : ℕ) (inb) (h : o + 512 ≤ 1536)
    (x : S1024x512.Idx) {v : EReal}
    (hv : v = P (ix2 (x 0) ⟨o + (x 1).val, Nat.lt_of_lt_of_le (Nat.add_lt_add_left (x 1).isLt o) h⟩)
      + ∑ r : Fin 256, k0_pay8 (F := Ideal) X6 X0 (ix2 r (x 0)) * D (ix2 r ⟨o + (x 1).val, Nat.lt_of_lt_of_le (Nat.add_lt_add_left (x 1).isLt o) h⟩)) :
    v = P ((Rect.unit (s := S1024x1536) ![0, o] ![1024, 512] inb).emb x) + adds X0 X6 D ((Rect.unit (s := S1024x1536) ![0, o] ![1024, 512] inb).emb x) := by
  have h1 : (Rect.unit (s := S1024x1536) ![0, o] ![1024, 512] inb).emb x
      = ix2 (x 0) ⟨o + (x 1).val, Nat.lt_of_lt_of_le (Nat.add_lt_add_left (x 1).isLt o) h⟩ :=
    funext fun a => Fin.ext ((Rect.idx_unit_val _ _ inb x a).trans (by fin_cases a <;> simp))
  rw [h1, hv]
  rfl

/-- Three stores side by side, each what was there plus its columns' sum, over any earlier stores. -/
theorem lanes (P : Vec Ideal S1024x1536 .f32) (D : Vec Ideal S256x1536 .f32) (L : List (View.Piece (Elt Ideal) S1024x1536 .f32))
    (p₂ p₁ p₀ : S1024x512.Idx → Elt Ideal .f32)
    (h₂ : ∀ x, p₂ x = (P (ix2 (x 0) ⟨1024 + (x 1).val, Nat.add_lt_add_left (x 1).isLt 1024⟩)
      + ∑ r : Fin 256, k0_pay8 (F := Ideal) X6 X0 (ix2 r (x 0)) * D (ix2 r ⟨1024 + (x 1).val, Nat.add_lt_add_left (x 1).isLt 1024⟩) : EReal))
    (h₁ : ∀ x, p₁ x = (P (ix2 (x 0) ⟨512 + (x 1).val, Nat.lt_of_lt_of_le (Nat.add_lt_add_left (x 1).isLt 512) (by decide)⟩)
      + ∑ r : Fin 256, k0_pay8 (F := Ideal) X6 X0 (ix2 r (x 0))
          * D (ix2 r ⟨512 + (x 1).val, Nat.lt_of_lt_of_le (Nat.add_lt_add_left (x 1).isLt 512) (by decide)⟩) : EReal))
    (h₀ : ∀ x, p₀ x = (P (ix2 (x 0) ⟨0 + (x 1).val, Nat.lt_of_lt_of_le (Nat.add_lt_add_left (x 1).isLt 0) (by decide)⟩)
      + ∑ r : Fin 256, k0_pay8 (F := Ideal) X6 X0 (ix2 r (x 0))
          * D (ix2 r ⟨0 + (x 1).val, Nat.lt_of_lt_of_le (Nat.add_lt_add_left (x 1).isLt 0) (by decide)⟩) : EReal))
    (y : S1024x1536.Idx) :
    View.canon (⟨Rect.unit ![0, 1024] ![1024, 512] inb_S1024x1536_S1024x512_0_1024, p₂⟩
        :: ⟨Rect.unit ![0, 512] ![1024, 512] inb_S1024x1536_S1024x512_0_512, p₁⟩
        :: ⟨Rect.unit ![0, 0] ![1024, 512] inb_S1024x1536_S1024x512_0_0, p₀⟩ :: L) y = (P y + adds X0 X6 D y : EReal) :=
  View.canon_append_of_piecesOf (Val := Elt Ideal) (e := .f32) (fun y => (P y + adds X0 X6 D y : EReal)) L
    [⟨Rect.unit ![0, 1024] ![1024, 512] inb_S1024x1536_S1024x512_0_1024, p₂⟩,
      ⟨Rect.unit ![0, 512] ![1024, 512] inb_S1024x1536_S1024x512_0_512, p₁⟩,
      ⟨Rect.unit ![0, 0] ![1024, 512] inb_S1024x1536_S1024x512_0_0, p₀⟩]
    ⟨fun x => lane X0 X6 P D 1024 inb_S1024x1536_S1024x512_0_1024 (by decide) x (h₂ x), fun x => lane X0 X6 P D 512 inb_S1024x1536_S1024x512_0_512 (by decide) x (h₁ x),
      fun x => lane X0 X6 P D 0 inb_S1024x1536_S1024x512_0_0 (by decide) x (h₀ x), trivial⟩ y (View.cover_of_tiled _ ![1024, 512] (by rfl) y)

end Block

variable (m : (ℓ : Loc nD τ sig) → Buf (Elt Ideal) ℓ) (c : Dev nD)

/-- The gradient at the normed rows of block `t`. -/
abbrev innerAt (t : Fin cfg0.N) : FVec Ideal S256x1024 .f32 :=
  inner (iblk m c 2 t) (iblk m c 3 t) (iblk m c 4 t) (iblk m c 7 t) (iblk m c 8 t) (iblk m c 9 t)

theorem dx_at (t : Fin cfg0.N) : (outsAt0 m c t.val t.isLt).1
    = k0_pay31 (iblk m c 6 t) (k0_pay6 (iblk m c 0 t)) (k0_pay7 (iblk m c 0 t)) (innerAt m c t) (iblk m c 5 t) (iblk m c 10 t) (iblk m c 1 t) := by
  by_cases h0 : t.val % 32 = 0
  · rw [outsAt0_A m c t h0 (by omega)]; frame_out
  · by_cases h1 : t.val % 32 = 31
    · rw [outsAt0_C m c t h0 h1]; frame_out
    · rw [outsAt0_B m c t h0 h1]; frame_out

/-- What block `t` adds to the gradient of the gain. -/
abbrev gainAt (t : Fin cfg0.N) : S1x1024.Idx → EReal := gain (iblk m c 0 t) (iblk m c 5 t) (iblk m c 10 t) (innerAt m c t)

theorem gain_first (t : Fin cfg0.N) (h0 : t.val % 32 = 0) (y : S1x1024.Idx) :
    (outsAt0 m c t.val t.isLt).2.1 y = (0 + gainAt m c t y : EReal) := by
  rw [outsAt0_A m c t h0 (by omega)]
  frame_out
  refine (dg_apply _ _ _ _ _ y).trans (congrArg (· + _) ?_)
  pointwise [k0_pay5]

theorem gain_next (t : Fin cfg0.N) (h0 : ¬t.val % 32 = 0) (y : S1x1024.Idx) :
    (outsAt0 m c t.val t.isLt).2.1 y
      = ((outsAt0 m c (t.val - 1) (Nat.lt_of_le_of_lt (Nat.sub_le _ _) t.isLt)).2.1 y + gainAt m c t y : EReal) := by
  by_cases h1 : t.val % 32 = 31
  · rw [outsAt0_C m c t h0 h1]; frame_out; exact dg_apply _ _ _ _ _ y
  · rw [outsAt0_B m c t h0 h1]; frame_out; exact dg_apply _ _ _ _ _ y

theorem acc0_first (t : Fin cfg0.N) (h0 : t.val % 32 = 0) (y : S1024x1536.Idx) :
    (outsAt0 m c t.val t.isLt).2.2.1 y = (0 + adds (iblk m c 0 t) (iblk m c 6 t) (iblk m c 2 t) y : EReal) := by
  rw [outsAt0_A m c t h0 (by omega)]
  frame_out [↓View.readCov_skip, ↓View.readCov_fill]
  refine (lanes _ _ (k0_pay1 (F := Ideal)) (iblk m c 2 t) [_] _ _ _ (fun x => ?_) (fun x => ?_) (fun x => ?_) y).trans (congrArg (· + _) ?_)
  · pointwise [k0_pay15, k0_pay14, k0_pay27, View.ld]
  · pointwise [k0_pay13, k0_pay11, k0_pay27, View.ld]
  · pointwise [k0_pay10, k0_pay9, k0_pay27, View.ld]
  · pointwise [k0_pay1]

theorem acc0_next (t : Fin cfg0.N) (h0 : ¬t.val % 32 = 0) (y : S1024x1536.Idx) :
    (outsAt0 m c t.val t.isLt).2.2.1 y
      = ((outsAt0 m c (t.val - 1) (Nat.lt_of_le_of_lt (Nat.sub_le _ _) t.isLt)).2.2.1 y
        + adds (iblk m c 0 t) (iblk m c 6 t) (iblk m c 2 t) y : EReal) := by
  generalize hP : (outsAt0 m c (t.val - 1) (Nat.lt_of_le_of_lt (Nat.sub_le _ _) t.isLt)).2.2.1 = P
  by_cases h1 : t.val % 32 = 31
  · rw [outsAt0_C m c t h0 h1]
    frame_out
    rw [hP, read_unread_whole]
    refine lanes _ _ P (iblk m c 2 t) [] _ _ _ (fun x => ?_) (fun x => ?_) (fun x => ?_) y
    · pointwise [k0_pay15, k0_pay14, k0_pay27, View.ld]
    · pointwise [k0_pay13, k0_pay11, k0_pay27, View.ld]
    · pointwise [k0_pay10, k0_pay9, k0_pay27, View.ld]
  · rw [outsAt0_B m c t h0 h1]
    frame_out
    rw [hP, read_unread_whole]
    refine lanes _ _ P (iblk m c 2 t) [] _ _ _ (fun x => ?_) (fun x => ?_) (fun x => ?_) y
    · pointwise [k0_pay15, k0_pay14, k0_pay27, View.ld]
    · pointwise [k0_pay13, k0_pay11, k0_pay27, View.ld]
    · pointwise [k0_pay10, k0_pay9, k0_pay27, View.ld]

theorem acc0_out (t : Fin cfg0.N) (h0 : ¬t.val % 32 = 0) (h1 : t.val % 32 = 31) :
    (outsAt0 m c t.val t.isLt).2.2.2.2.2.2.1 = (outsAt0 m c t.val t.isLt).2.2.1 := by
  rw [outsAt0_C m c t h0 h1]
  dsimp only
  unfold hbw0_C_0 kernelRun0_C
  dsimp only
  refine (View.write_whole_univ _ _ _).trans ?_
  frame_out
  exact View.read_writes_eq_canon _ _ _ (View.cover_of_tiled _ ![1024, 512] (by rfl))

theorem acc1_first (t : Fin cfg0.N) (h0 : t.val % 32 = 0) (y : S1024x1536.Idx) :
    (outsAt0 m c t.val t.isLt).2.2.2.1 y = (0 + adds (iblk m c 0 t) (iblk m c 6 t) (iblk m c 3 t) y : EReal) := by
  rw [outsAt0_A m c t h0 (by omega)]
  frame_out [↓View.readCov_skip, ↓View.readCov_fill]
  refine (lanes _ _ (k0_pay2 (F := Ideal)) (iblk m c 3 t) [_] _ _ _ (fun x => ?_) (fun x => ?_) (fun x => ?_) y).trans (congrArg (· + _) ?_)
  · pointwise [k0_pay22, k0_pay21, k0_pay27, View.ld]
  · pointwise [k0_pay20, k0_pay19, k0_pay27, View.ld]
  · pointwise [k0_pay18, k0_pay16, k0_pay27, View.ld]
  · pointwise [k0_pay2]

theorem acc1_next (t : Fin cfg0.N) (h0 : ¬t.val % 32 = 0) (y : S1024x1536.Idx) :
    (outsAt0 m c t.val t.isLt).2.2.2.1 y
      = ((outsAt0 m c (t.val - 1) (Nat.lt_of_le_of_lt (Nat.sub_le _ _) t.isLt)).2.2.2.1 y
        + adds (iblk m c 0 t) (iblk m c 6 t) (iblk m c 3 t) y : EReal) := by
  generalize hP : (outsAt0 m c (t.val - 1) (Nat.lt_of_le_of_lt (Nat.sub_le _ _) t.isLt)).2.2.2.1 = P
  by_cases h1 : t.val % 32 = 31
  · rw [outsAt0_C m c t h0 h1]
    frame_out
    rw [hP, read_unread_whole]
    refine lanes _ _ P (iblk m c 3 t) [] _ _ _ (fun x => ?_) (fun x => ?_) (fun x => ?_) y
    · pointwise [k0_pay22, k0_pay21, k0_pay27, View.ld]
    · pointwise [k0_pay20, k0_pay19, k0_pay27, View.ld]
    · pointwise [k0_pay18, k0_pay16, k0_pay27, View.ld]
  · rw [outsAt0_B m c t h0 h1]
    frame_out
    rw [hP, read_unread_whole]
    refine lanes _ _ P (iblk m c 3 t) [] _ _ _ (fun x => ?_) (fun x => ?_) (fun x => ?_) y
    · pointwise [k0_pay22, k0_pay21, k0_pay27, View.ld]
    · pointwise [k0_pay20, k0_pay19, k0_pay27, View.ld]
    · pointwise [k0_pay18, k0_pay16, k0_pay27, View.ld]

theorem acc1_out (t : Fin cfg0.N) (h0 : ¬t.val % 32 = 0) (h1 : t.val % 32 = 31) :
    (outsAt0 m c t.val t.isLt).2.2.2.2.2.2.2.1 = (outsAt0 m c t.val t.isLt).2.2.2.1 := by
  rw [outsAt0_C m c t h0 h1]
  dsimp only
  unfold hbw0_C_1 kernelRun0_C
  dsimp only
  refine (View.write_whole_univ _ _ _).trans ?_
  frame_out
  exact View.read_writes_eq_canon _ _ _ (View.cover_of_tiled _ ![1024, 512] (by rfl))

theorem acc2_first (t : Fin cfg0.N) (h0 : t.val % 32 = 0) (y : S1024x512.Idx) :
    (outsAt0 m c t.val t.isLt).2.2.2.2.1 y = (0 + adds (iblk m c 0 t) (iblk m c 6 t) (iblk m c 4 t) y : EReal) := by
  rw [outsAt0_A m c t h0 (by omega)]
  frame_out [↓View.readCov_skip, ↓View.readCov_fill]
  pointwise [adds, k0_pay3, k0_pay26, k0_pay25, k0_pay23, k0_pay27]

theorem acc2_next (t : Fin cfg0.N) (h0 : ¬t.val % 32 = 0) (y : S1024x512.Idx) :
    (outsAt0 m c t.val t.isLt).2.2.2.2.1 y
      = ((outsAt0 m c (t.val - 1) (Nat.lt_of_le_of_lt (Nat.sub_le _ _) t.isLt)).2.2.2.2.1 y
        + adds (iblk m c 0 t) (iblk m c 6 t) (iblk m c 4 t) y : EReal) := by
  generalize hP : (outsAt0 m c (t.val - 1) (Nat.lt_of_le_of_lt (Nat.sub_le _ _) t.isLt)).2.2.2.2.1 = P
  by_cases h1 : t.val % 32 = 31
  · rw [outsAt0_C m c t h0 h1]
    frame_out
    rw [hP, read_unread_whole]
    pointwise [adds, k0_pay26, k0_pay25, k0_pay23, k0_pay27]
  · rw [outsAt0_B m c t h0 h1]
    frame_out
    rw [hP, read_unread_whole]
    pointwise [adds, k0_pay26, k0_pay25, k0_pay23, k0_pay27]

theorem acc2_out (t : Fin cfg0.N) (h0 : ¬t.val % 32 = 0) (h1 : t.val % 32 = 31) :
    (outsAt0 m c t.val t.isLt).2.2.2.2.2.2.2.2.1 = (outsAt0 m c t.val t.isLt).2.2.2.2.1 := by
  rw [outsAt0_C m c t h0 h1]
  dsimp only
  unfold hbw0_C_2 kernelRun0_C
  dsimp only
  refine (View.write_whole_univ _ _ _).trans ?_
  frame_out
  refine (View.read_writes_eq_canon _ _ _ (View.cover_of_tiled _ ![1024, 512] (by rfl))).trans ?_
  frame_out

theorem acc3_first (t : Fin cfg0.N) (h0 : t.val % 32 = 0) (y : S1024x128.Idx) :
    (outsAt0 m c t.val t.isLt).2.2.2.2.2.1 y = (0 + adds (iblk m c 0 t) (iblk m c 6 t) (iblk m c 5 t) y : EReal) := by
  rw [outsAt0_A m c t h0 (by omega)]
  frame_out [↓View.readCov_skip, ↓View.readCov_fill]
  pointwise [adds, k0_pay4, k0_pay29, k0_pay27]

theorem acc3_next (t : Fin cfg0.N) (h0 : ¬t.val % 32 = 0) (y : S1024x128.Idx) :
    (outsAt0 m c t.val t.isLt).2.2.2.2.2.1 y
      = ((outsAt0 m c (t.val - 1) (Nat.lt_of_le_of_lt (Nat.sub_le _ _) t.isLt)).2.2.2.2.2.1 y
        + adds (iblk m c 0 t) (iblk m c 6 t) (iblk m c 5 t) y : EReal) := by
  generalize hP : (outsAt0 m c (t.val - 1) (Nat.lt_of_le_of_lt (Nat.sub_le _ _) t.isLt)).2.2.2.2.2.1 = P
  by_cases h1 : t.val % 32 = 31
  · rw [outsAt0_C m c t h0 h1]
    frame_out
    rw [hP, read_unread_whole]
    pointwise [adds, k0_pay29, k0_pay27]
  · rw [outsAt0_B m c t h0 h1]
    frame_out
    rw [hP, read_unread_whole]
    pointwise [adds, k0_pay29, k0_pay27]

theorem acc3_out (t : Fin cfg0.N) (h0 : ¬t.val % 32 = 0) (h1 : t.val % 32 = 31) :
    (outsAt0 m c t.val t.isLt).2.2.2.2.2.2.2.2.2 = (outsAt0 m c t.val t.isLt).2.2.2.2.2.1 := by
  rw [outsAt0_C m c t h0 h1]
  dsimp only
  unfold hbw0_C_3 kernelRun0_C
  dsimp only
  refine (View.write_whole_univ _ _ _).trans ?_
  frame_out
  refine (View.read_writes_eq_canon _ _ _ (View.cover_of_tiled _ ![1024, 128] (by rfl))).trans ?_
  frame_out

/-! ## From the blocks to the arrays -/

/-- What the call is given, device by device. -/
def args : Args where
  x := m ((c.tc : Thread nD τ).loc main_arg0)
  dh := m ((c.tc : Thread nD τ).loc main_arg1)
  a := m ((c.tc : Thread nD τ).loc main_arg2)
  q := m ((c.tc : Thread nD τ).loc main_arg3)
  z := m ((c.tc : Thread nD τ).loc main_arg4)
  l := m ((c.tc : Thread nD τ).loc main_arg5)
  g := m ((c.tc : Thread nD τ).loc main_arg6)
  wa := m ((c.tc : Thread nD τ).loc main_arg7)
  wq := m ((c.tc : Thread nD τ).loc main_arg8)
  wz := m ((c.tc : Thread nD τ).loc main_arg9)
  wl := m ((c.tc : Thread nD τ).loc main_arg10)

theorem hN : cfg0.N = 32 := N_0

/-- Row `r` of block `t`. -/
def rowOf (t : Fin cfg0.N) (r : Fin 256) : Fin 8192 := ⟨t.val * 256 + r.val, by have := lt_of_lt_of_eq t.isLt N_0; omega⟩

theorem idx_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0] := by
  decide +kernel

variable (t : Fin cfg0.N) (r : Fin 256)

theorem blk_x (k : Fin 1024) : iblk m c 0 t (ix2 r k) = (args m c).x (ix2 (rowOf t r) k) := by
  unfold args rowOf; blk_ext [iblk, V, idx_at t]
theorem blk_dh (k : Fin 1024) : iblk m c 1 t (ix2 r k) = (args m c).dh (ix2 (rowOf t r) k) := by
  unfold args rowOf; blk_ext [iblk, V, idx_at t]
theorem blk_a (k : Fin 1536) : iblk m c 2 t (ix2 r k) = (args m c).a (ix2 (rowOf t r) k) := by
  unfold args rowOf; blk_ext [iblk, V, idx_at t]
theorem blk_q (k : Fin 1536) : iblk m c 3 t (ix2 r k) = (args m c).q (ix2 (rowOf t r) k) := by
  unfold args rowOf; blk_ext [iblk, V, idx_at t]
theorem blk_z (k : Fin 512) : iblk m c 4 t (ix2 r k) = (args m c).z (ix2 (rowOf t r) k) := by
  unfold args rowOf; blk_ext [iblk, V, idx_at t]
theorem blk_l (k : Fin 128) : iblk m c 5 t (ix2 r k) = (args m c).l (ix2 (rowOf t r) k) := by
  unfold args rowOf; blk_ext [iblk, V, idx_at t]
theorem blk_g (k : Fin 1024) : iblk m c 6 t (ix2 0 k) = (args m c).g (ix2 0 k) := by
  unfold args; blk_ext [iblk, V, idx_at t]
theorem blk_wa (n : Fin 1536) (k : Fin 1024) : iblk m c 7 t (ix2 n k) = (args m c).wa (ix2 n k) := by
  unfold args; blk_ext [iblk, V, idx_at t]
theorem blk_wq (n : Fin 1536) (k : Fin 1024) : iblk m c 8 t (ix2 n k) = (args m c).wq (ix2 n k) := by
  unfold args; blk_ext [iblk, V, idx_at t]
theorem blk_wz (n : Fin 512) (k : Fin 1024) : iblk m c 9 t (ix2 n k) = (args m c).wz (ix2 n k) := by
  unfold args; blk_ext [iblk, V, idx_at t]
theorem blk_wl (n : Fin 128) (k : Fin 1024) : iblk m c 10 t (ix2 n k) = (args m c).wl (ix2 n k) := by
  unfold args; blk_ext [iblk, V, idx_at t]

theorem scale_at : (scale fun k => iblk m c 0 t (ix2 r k)) = scale (row (args m c).x (rowOf t r)) :=
  congrArg scale (funext fun k => blk_x m c t r k)

theorem inner_at (l : Fin 1024) :
    k0_pay28 (innerAt m c t) (iblk m c 5 t) (iblk m c 10 t) (ix2 r l) = (args m c).inner (rowOf t r) l := by
  rw [into_apply]
  simp only [blk_a, blk_q, blk_z, blk_l, blk_wa, blk_wq, blk_wz, blk_wl]
  rfl

/-- All points' rows are all rows. -/
theorem sum_rows (f : Fin 8192 → EReal) : ∑ t : Fin cfg0.N, ∑ r : Fin 256, f (rowOf t r) = ∑ r, f r :=
  Fin.sum_mul_add_fin cfg0.N 256 f (by rw [hN])

theorem sum_adds {w : ℕ} {D : Fin cfg0.N → Vec Ideal ⟨2, ![256, w]⟩ .f32} {d : Mat 8192 w} (y : Shape.Idx ⟨2, ![1024, w]⟩)
    (hD : ∀ t r k, D t (ix2 r k) = d (ix2 (rowOf t r) k)) :
    ∑ t, adds (iblk m c 0 t) (iblk m c 6 t) (D t) y = (args m c).dw d y := by
  refine Eq.trans (Finset.sum_congr rfl fun t _ => Finset.sum_congr rfl fun r _ => ?_)
    (sum_rows fun r => (args m c).x (ix2 r (y 0)) * scale (row (args m c).x r) * (args m c).g (ix2 0 (y 0)) * d (ix2 r (y 1)))
  exact congrArg₂ (α := EReal) (β := EReal) (· * ·) ((xn_apply _ _ r (y 0)).trans (congrArg₂ (α := EReal) (β := EReal) (· * ·)
    (congrArg₂ (α := EReal) (β := EReal) (· * ·) (blk_x m c t r (y 0)) (scale_at m c t r)) (blk_g m c t (y 0)))) (hD t r (y 1))

theorem out0_last (t : Fin cfg0.N) (ht : t.val = 31) : (outsAt0 m c t.val t.isLt).2.2.2.2.2.2.1 = (args m c).dw (args m c).a := by
  rw [acc0_out m c t (by omega) (by omega)]
  funext y
  refine (Pipeline.eq_sum_fin_of_reset_step_apply_last (M := EReal) (fun n h => (outsAt0 m c n h).2.2.1) 32 (fun _ => 0) _
    (acc0_first m c) (acc0_next m c) (le_of_eq hN) t (by rw [ht, hN]) y).trans ?_
  exact (zero_add _).trans (sum_adds m c y fun t => blk_a m c t)

theorem out1_last (t : Fin cfg0.N) (ht : t.val = 31) : (outsAt0 m c t.val t.isLt).2.2.2.2.2.2.2.1 = (args m c).dw (args m c).q := by
  rw [acc1_out m c t (by omega) (by omega)]
  funext y
  refine (Pipeline.eq_sum_fin_of_reset_step_apply_last (M := EReal) (fun n h => (outsAt0 m c n h).2.2.2.1) 32 (fun _ => 0) _
    (acc1_first m c) (acc1_next m c) (le_of_eq hN) t (by rw [ht, hN]) y).trans ?_
  exact (zero_add _).trans (sum_adds m c y fun t => blk_q m c t)

theorem out2_last (t : Fin cfg0.N) (ht : t.val = 31) : (outsAt0 m c t.val t.isLt).2.2.2.2.2.2.2.2.1 = (args m c).dw (args m c).z := by
  rw [acc2_out m c t (by omega) (by omega)]
  funext y
  refine (Pipeline.eq_sum_fin_of_reset_step_apply_last (M := EReal) (fun n h => (outsAt0 m c n h).2.2.2.2.1) 32 (fun _ => 0) _
    (acc2_first m c) (acc2_next m c) (le_of_eq hN) t (by rw [ht, hN]) y).trans ?_
  exact (zero_add _).trans (sum_adds m c y fun t => blk_z m c t)

theorem out3_last (t : Fin cfg0.N) (ht : t.val = 31) : (outsAt0 m c t.val t.isLt).2.2.2.2.2.2.2.2.2 = (args m c).dw (args m c).l := by
  rw [acc3_out m c t (by omega) (by omega)]
  funext y
  refine (Pipeline.eq_sum_fin_of_reset_step_apply_last (M := EReal) (fun n h => (outsAt0 m c n h).2.2.2.2.2.1) 32 (fun _ => 0) _
    (acc3_first m c) (acc3_next m c) (le_of_eq hN) t (by rw [ht, hN]) y).trans ?_
  exact (zero_add _).trans (sum_adds m c y fun t => blk_l m c t)

theorem gain_last (t : Fin cfg0.N) (ht : t.val = 31) : (outsAt0 m c t.val t.isLt).2.1 = (args m c).dg := by
  funext y
  refine (Pipeline.eq_sum_fin_of_reset_step_apply_last (M := EReal) (fun n h => (outsAt0 m c n h).2.1) 32 (fun _ => 0) _
    (gain_first m c) (gain_next m c) (le_of_eq hN) t (by rw [ht, hN]) y).trans ((zero_add _).trans ?_)
  refine Eq.trans (Finset.sum_congr rfl fun t _ => Finset.sum_congr rfl fun r _ => ?_)
    (sum_rows fun r => (args m c).inner r (y 1) * ((args m c).x (ix2 r (y 1)) * scale (row (args m c).x r)))
  exact congrArg₂ (α := EReal) (β := EReal) (· * ·) (inner_at m c t r (y 1)) (congrArg₂ (α := EReal) (β := EReal) (· * ·) (blk_x m c t r (y 1)) (scale_at m c t r))

theorem whole_last : ∃ t : Fin cfg0.N, t.val = 31 ∧ (cfg0.win 12).WholeAt t :=
  ⟨⟨31, lt_of_lt_of_eq (by decide) hN.symm⟩, rfl, by decide +kernel⟩

theorem final_dg : (dats m 0 c).arrAt 12 cfg0.N = (args m c).dg := by
  obtain ⟨t, ht, hw⟩ := whole_last
  refine (dats m 0 c).arrAt_eq_of_after_last 12 t hw _ fun y => ?_
  blk_simp
  rw [after0_12, gain_last m c t ht]

theorem final_dx : (dats m 0 c).arrAt 11 cfg0.N = (args m c).dx := by
  refine (dats m 0 c).arrAt_eq_of_covers 11 _ (by decide +kernel) fun t hf y => ?_
  blk_simp
  rw [after0_11, dx_at]
  have he : (win0_11.blk t).view.emb y = ix2 (rowOf t (y 0)) (y 1) :=
    funext fun a => Fin.ext (by unfold rowOf; fin_cases a <;> blk_simp [idx_at t] <;> simp)
  rw [he]
  obtain ⟨r, l, rfl⟩ : ∃ (r : Fin 256) (l : Fin 1024), y = ix2 r l := ⟨y 0, y 1, ValueIdx.eq_ix2 y⟩
  refine (dx_apply _ _ _ _ _ _ r l).trans ?_
  exact congrArg₂ (α := EReal) (β := EReal) (· + ·) (blk_dh m c t r l) (congrFun (congrArg₂ byMean (funext fun k => blk_x m c t r k)
    (funext fun k => congrArg₂ (α := EReal) (β := EReal) (· * ·) (inner_at m c t r k) (blk_g m c t k))) l)

theorem held0 (k : ℕ) (hk : k < cfg0.N) (h : k = 31) : (outsAt0 m c k hk).2.2.2.2.2.2.1 = (args m c).dw (args m c).a := out0_last m c ⟨k, hk⟩ h
theorem held1 (k : ℕ) (hk : k < cfg0.N) (h : k = 31) : (outsAt0 m c k hk).2.2.2.2.2.2.2.1 = (args m c).dw (args m c).q := out1_last m c ⟨k, hk⟩ h
theorem held2 (k : ℕ) (hk : k < cfg0.N) (h : k = 31) : (outsAt0 m c k hk).2.2.2.2.2.2.2.2.1 = (args m c).dw (args m c).z := out2_last m c ⟨k, hk⟩ h
theorem held3 (k : ℕ) (hk : k < cfg0.N) (h : k = 31) : (outsAt0 m c k hk).2.2.2.2.2.2.2.2.2 = (args m c).dw (args m c).l := out3_last m c ⟨k, hk⟩ h

theorem last_eq : (Fin.last cfg0.N).val - 1 = 31 := by rw [Fin.val_last, hN]

/-- The call ends with the gradients of the rows, of the four weights and of the gain; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v0_0) = (args m c).dx
    ∧ r.2.mem ((c.tc : Thread nD τ).loc main_v0_1) = (args m c).dw (args m c).a
    ∧ r.2.mem ((c.tc : Thread nD τ).loc main_v0_2) = (args m c).dw (args m c).q
    ∧ r.2.mem ((c.tc : Thread nD τ).loc main_v0_3) = (args m c).dw (args m c).z
    ∧ r.2.mem ((c.tc : Thread nD τ).loc main_v0_4) = (args m c).dw (args m c).l
    ∧ r.2.mem ((c.tc : Thread nD τ).loc main_v0_5) = (args m c).dg
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (Value.run_blocks m ρ)
  obtain ⟨hx, hg, h0, h1, h2, h3, h4, h5, h6, h7, h8, h9, h10, ha, hq, hz, hl⟩ := h c
  rw [final_dx] at hx
  rw [final_dg] at hg
  rw [held0 m c _ _ last_eq] at ha
  rw [held1 m c _ _ last_eq] at hq
  rw [held2 m c _ _ last_eq] at hz
  rw [held3 m c _ _ last_eq] at hl
  exact ⟨hx, ha, hq, hz, hl, hg, h0, h1, h2, h3, h4, h5, h6, h7, h8, h9, h10⟩

end Cert.Inward
end
-- ==== Proof.Derived.lean ====
/-
# The derivative of RMSNorm and the projection

What the derivative, taken operation by operation, comes to: each result is the closed form of `Proof/Rows.lean`.
-/
module

public import proofs.«01_k».proof.Proof.Gen.InprojReferenceIdeal.Run
public import proofs.«01_k».proof.Proof.Rows
public import Idealize.ShloMosaic.Lib.Pointwise

@[expose] public section

set_option maxRecDepth 16384

noncomputable section

namespace Cert.Derived

open Cert.Inward Cert.InprojReferenceIdeal
open Idealize.ShloMosaic
open Idealize.ShloMosaic.TcCoe Idealize.SL.Sem

variable (m : (ℓ : Loc nD τ sig) → Buf (Elt Ideal) ℓ) (c : Dev nD)

/-- What the reference is given. -/
def args : Args where
  x := m ((c.tc : Thread nD τ).loc main_arg0)
  dh := m ((c.tc : Thread nD τ).loc main_arg1)
  a := m ((c.tc : Thread nD τ).loc main_arg2)
  q := m ((c.tc : Thread nD τ).loc main_arg3)
  z := m ((c.tc : Thread nD τ).loc main_arg4)
  l := m ((c.tc : Thread nD τ).loc main_arg5)
  g := m ((c.tc : Thread nD τ).loc main_arg6)
  wa := m ((c.tc : Thread nD τ).loc main_arg7)
  wq := m ((c.tc : Thread nD τ).loc main_arg8)
  wz := m ((c.tc : Thread nD τ).loc main_arg9)
  wl := m ((c.tc : Thread nD τ).loc main_arg10)

theorem dx_eq : Value.res_main_v61 m c = (args m c).dx := by
  funext y
  obtain ⟨r, l, rfl⟩ : ∃ (r : Fin 8192) (l : Fin 1024), y = ix2 r l := ⟨y 0, y 1, ValueIdx.eq_ix2 y⟩
  refine Eq.trans ?_ (congrArg ((args m c).dh (ix2 r l) + ·) (byMean_eq_byRule _ _ _)).symm
  unfold Value.res_main_v61
  pointwise []
  rw [Fin.sum_univ_one]
  rfl

/-- The reference ends with the same closed forms; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v61) = (args m c).dx
    ∧ r.2.mem ((c.tc : Thread nD τ).loc main_v39) = (args m c).dw (args m c).a
    ∧ r.2.mem ((c.tc : Thread nD τ).loc main_v35) = (args m c).dw (args m c).q
    ∧ r.2.mem ((c.tc : Thread nD τ).loc main_v31) = (args m c).dw (args m c).z
    ∧ r.2.mem ((c.tc : Thread nD τ).loc main_v28) = (args m c).dw (args m c).l
    ∧ r.2.mem ((c.tc : Thread nD τ).loc main_v44) = (args m c).dg
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (Value.run m ρ)
  obtain ⟨hx, ha, hq, hz, hl, hg, hk⟩ := h c
  refine ⟨hx.trans (dx_eq m c), ha.trans (funext fun y => ?_), hq.trans (funext fun y => ?_), hz.trans (funext fun y => ?_),
    hl.trans (funext fun y => ?_), hg.trans (funext fun y => ?_), hk⟩
  all_goals
    clear hx ha hq hz hl hg hk
    pointwise []
    exact Finset.sum_congr rfl fun r _ => mul_comm (G := EReal) _ _

end Cert.Derived

end
-- ==== Proof.Forward.lean ====
/-
# The norm and the input projection

The call walks 16 blocks of 512 rows and writes their products with the four weights, the wide ones in three parts. Each
entry of the results is a sum over one row, which the reference takes the same way.
-/
module

public import proofs.«01_k».proof.Proof.Gen.ProjectIdeal.Value
public import proofs.«01_k».proof.Proof.Gen.ProjectReferenceIdeal.Run
public import proofs.«01_k».proof.Proof.Rows
public import Idealize.ShloMosaic.Lib.Pipeline.ValueKit.Acc
public import Idealize.ShloMosaic.Lib.Pipeline.ReadBack
public import Idealize.ShloMosaic.Lib.Pipeline.ValueKit.Point
public import Idealize.ShloMosaic.Lib.Pointwise

@[expose] public section

set_option maxRecDepth 16384

noncomputable section

namespace Cert.Forward

open Cert.ProjectIdeal Cert.ProjectIdeal.Gen Cert.Inward
open Idealize.ShloMosaic
open Idealize.ShloMosaic.TcCoe Idealize.SL.Sem

/-- The rows, normed and scaled by the gain, times a weight. -/
def times {h w : ℕ} (x : Mat h 1024) (g : Mat 1 1024) (v : Mat 1024 w) (y : Shape.Idx ⟨2, ![h, w]⟩) : EReal :=
  ∑ k, x (ix2 (y 0) k) * scale (row x (y 0)) * g (ix2 0 k) * v (ix2 k (y 1))

section Block

variable (X : Vec Ideal S512x1024 .f32) (G : Vec Ideal S1x1024 .f32)

theorem xn_apply (r : Fin 512) (k : Fin 1024) :
    k0_pay5 X G (ix2 r k) = (X (ix2 r k) * scale (fun k => X (ix2 r k)) * G (ix2 0 k) : EReal) := by
  pointwise [k0_pay5]
  rfl

theorem lane (W : Vec Ideal S1024x1536 .bf16) (o : ℕ) (inb) (h : o + 512 ≤ 1536) (x : S512x512.Idx) {v : EReal}
    (hv : v = ∑ k : Fin 1024, k0_pay5 (F := Ideal) X G (ix2 (x 0) k) * W (ix2 k ⟨o + (x 1).val, Nat.lt_of_lt_of_le (Nat.add_lt_add_left (x 1).isLt o) h⟩)) :
    v = times X G W ((Rect.unit (s := S512x1536) ![0, o] ![512, 512] inb).emb x) := by
  have h1 : (Rect.unit (s := S512x1536) ![0, o] ![512, 512] inb).emb x
      = ix2 (x 0) ⟨o + (x 1).val, Nat.lt_of_lt_of_le (Nat.add_lt_add_left (x 1).isLt o) h⟩ :=
    funext fun a => Fin.ext ((Rect.idx_unit_val _ _ inb x a).trans (by fin_cases a <;> simp))
  rw [h1, hv]
  exact Finset.sum_congr rfl fun k _ => congrArg (α := EReal) (· * _) (xn_apply X G (x 0) k)

/-- Three stores side by side, each its columns of the product. -/
theorem lanes (W : Vec Ideal S1024x1536 .bf16) (p₂ p₁ p₀ : S512x512.Idx → Elt Ideal .f32)
    (h₂ : ∀ x, p₂ x = (∑ k : Fin 1024, k0_pay5 (F := Ideal) X G (ix2 (x 0) k) * W (ix2 k ⟨1024 + (x 1).val, Nat.add_lt_add_left (x 1).isLt 1024⟩) : EReal))
    (h₁ : ∀ x, p₁ x = (∑ k : Fin 1024, k0_pay5 (F := Ideal) X G (ix2 (x 0) k)
      * W (ix2 k ⟨512 + (x 1).val, Nat.lt_of_lt_of_le (Nat.add_lt_add_left (x 1).isLt 512) (by decide)⟩) : EReal))
    (h₀ : ∀ x, p₀ x = (∑ k : Fin 1024, k0_pay5 (F := Ideal) X G (ix2 (x 0) k)
      * W (ix2 k ⟨0 + (x 1).val, Nat.lt_of_lt_of_le (Nat.add_lt_add_left (x 1).isLt 0) (by decide)⟩) : EReal)) (y : S512x1536.Idx) :
    View.canon [⟨Rect.unit ![0, 1024] ![512, 512] inb_S512x1536_S512x512_0_1024, p₂⟩,
        ⟨Rect.unit ![0, 512] ![512, 512] inb_S512x1536_S512x512_0_512, p₁⟩,
        ⟨Rect.unit ![0, 0] ![512, 512] inb_S512x1536_S512x512_0_0, p₀⟩] y = times X G W y :=
  View.canon_append_of_piecesOf (Val := Elt Ideal) (e := .f32) (times X G W) []
    [⟨Rect.unit ![0, 1024] ![512, 512] inb_S512x1536_S512x512_0_1024, p₂⟩,
      ⟨Rect.unit ![0, 512] ![512, 512] inb_S512x1536_S512x512_0_512, p₁⟩,
      ⟨Rect.unit ![0, 0] ![512, 512] inb_S512x1536_S512x512_0_0, p₀⟩]
    ⟨fun x => lane X G W 1024 inb_S512x1536_S512x512_0_1024 (by decide) x (h₂ x), fun x => lane X G W 512 inb_S512x1536_S512x512_0_512 (by decide) x (h₁ x),
      fun x => lane X G W 0 inb_S512x1536_S512x512_0_0 (by decide) x (h₀ x), trivial⟩ y (View.cover_of_tiled _ ![512, 512] (by rfl) y)

variable (W Q : Vec Ideal S1024x1536 .bf16) (Z : Vec Ideal S1024x512 .bf16) (L : Vec Ideal S1024x128 .bf16)

theorem whole_x : View.ld X r0_0 = X := funext fun y => by pointwise [View.ld]
theorem whole_g : View.ld G r0_1 = G := funext fun y => by
  pointwise [View.ld]
  exact congrArg G (funext fun a => by fin_cases a; exacts [Subsingleton.elim (α := Fin 1) _ _, rfl])

theorem out_a (y : S512x1536.Idx) : out0_6 X G W Q Z L y = times X G W y := by
  unfold_out out0_6
  refine lanes X G W _ _ _ (fun x => ?_) (fun x => ?_) (fun x => ?_) y
  · pointwise [k0_pay8, View.ld]
    rw [whole_x, whole_g]
  · pointwise [k0_pay7, View.ld]
    rw [whole_x, whole_g]
  · pointwise [k0_pay6, View.ld]
    rw [whole_x, whole_g]

theorem out_q (y : S512x1536.Idx) : out0_7 X G W Q Z L y = times X G Q y := by
  unfold_out out0_7
  refine lanes X G Q _ _ _ (fun x => ?_) (fun x => ?_) (fun x => ?_) y
  · pointwise [k0_pay2, View.ld]
    rw [whole_x, whole_g]
  · pointwise [k0_pay1, View.ld]
    rw [whole_x, whole_g]
  · pointwise [k0_pay9, View.ld]
    rw [whole_x, whole_g]

theorem out_z (y : S512x512.Idx) : out0_8 X G W Q Z L y = times X G Z y := by
  unfold_out out0_8
  frame_out
  pointwise [k0_pay3, k0_pay5, View.ld]
  rfl

theorem out_l (y : S512x128.Idx) : out0_9 X G W Q Z L y = times X G L y := by
  unfold_out out0_9
  frame_out
  pointwise [k0_pay4, k0_pay5, View.ld]
  rfl

end Block

/-! ## From the blocks to the arrays -/

variable (m : (ℓ : Loc nD τ sig) → Buf (Elt Ideal) ℓ) (c : Dev nD)

/-- Row `r` of block `t`. -/
def rowOf (t : Fin cfg0.N) (r : Fin 512) : Fin 8192 := ⟨t.val * 512 + r.val, by have := lt_of_lt_of_eq t.isLt N_0; omega⟩

theorem idx_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] := by
  decide +kernel

/-- The rows, the gain and the weights that the call is given. -/
abbrev x : Mat 8192 1024 := m ((c.tc : Thread nD τ).loc main_arg0)
abbrev g : Mat 1 1024 := m ((c.tc : Thread nD τ).loc main_arg1)
abbrev wa : Mat 1024 1536 := m ((c.tc : Thread nD τ).loc main_arg2)
abbrev wq : Mat 1024 1536 := m ((c.tc : Thread nD τ).loc main_arg3)
abbrev wz : Mat 1024 512 := m ((c.tc : Thread nD τ).loc main_arg4)
abbrev wl : Mat 1024 128 := m ((c.tc : Thread nD τ).loc main_arg5)

variable (t : Fin cfg0.N)

theorem blk_x (r : Fin 512) (k : Fin 1024) : iblk m c 0 t (ix2 r k) = x m c (ix2 (rowOf t r) k) := by
  unfold rowOf; blk_ext [iblk, V, idx_at t]
theorem blk_g (k : Fin 1024) : iblk m c 1 t (ix2 0 k) = g m c (ix2 0 k) := by
  blk_ext [iblk, V, idx_at t]
theorem blk_wa (n : Fin 1024) (k : Fin 1536) : iblk m c 2 t (ix2 n k) = wa m c (ix2 n k) := by
  blk_ext [iblk, V, idx_at t]
theorem blk_wq (n : Fin 1024) (k : Fin 1536) : iblk m c 3 t (ix2 n k) = wq m c (ix2 n k) := by
  blk_ext [iblk, V, idx_at t]
theorem blk_wz (n : Fin 1024) (k : Fin 512) : iblk m c 4 t (ix2 n k) = wz m c (ix2 n k) := by
  blk_ext [iblk, V, idx_at t]
theorem blk_wl (n : Fin 1024) (k : Fin 128) : iblk m c 5 t (ix2 n k) = wl m c (ix2 n k) := by
  blk_ext [iblk, V, idx_at t]

/-- A block's product is the whole product's rows. -/
theorem times_at {w : ℕ} {W : Vec Ideal ⟨2, ![1024, w]⟩ .bf16} {v : Mat 1024 w} (hW : ∀ n k, W (ix2 n k) = v (ix2 n k))
    (y : Shape.Idx ⟨2, ![512, w]⟩) :
    times (iblk m c 0 t) (iblk m c 1 t) W y = times (x m c) (g m c) v (ix2 (rowOf t (y 0)) (y 1)) :=
  Finset.sum_congr rfl fun k _ => congrArg₂ (α := EReal) (β := EReal) (· * ·) (congrArg₂ (α := EReal) (β := EReal) (· * ·)
    (congrArg₂ (α := EReal) (β := EReal) (· * ·) (blk_x m c t (y 0) k) (congrArg scale (funext fun k => blk_x m c t (y 0) k)))
    (blk_g m c t k)) (hW k (y 1))

theorem final_a : (dats m 0 c).arrAt 6 cfg0.N = times (x m c) (g m c) (wa m c) := by
  refine (dats m 0 c).arrAt_eq_of_covers 6 _ (by decide +kernel) fun t hf y => ?_
  blk_simp
  rw [after0_6, out_a]
  have he : (win0_6.blk t).view.emb y = ix2 (rowOf t (y 0)) (y 1) :=
    funext fun a => Fin.ext (by unfold rowOf; fin_cases a <;> blk_simp [idx_at t] <;> simp)
  rw [he]
  exact times_at m c t (blk_wa m c t) y

theorem final_q : (dats m 0 c).arrAt 7 cfg0.N = times (x m c) (g m c) (wq m c) := by
  refine (dats m 0 c).arrAt_eq_of_covers 7 _ (by decide +kernel) fun t hf y => ?_
  blk_simp
  rw [after0_7, out_q]
  have he : (win0_7.blk t).view.emb y = ix2 (rowOf t (y 0)) (y 1) :=
    funext fun a => Fin.ext (by unfold rowOf; fin_cases a <;> blk_simp [idx_at t] <;> simp)
  rw [he]
  exact times_at m c t (blk_wq m c t) y

theorem final_z : (dats m 0 c).arrAt 8 cfg0.N = times (x m c) (g m c) (wz m c) := by
  refine (dats m 0 c).arrAt_eq_of_covers 8 _ (by decide +kernel) fun t hf y => ?_
  blk_simp
  rw [after0_8, out_z]
  have he : (win0_8.blk t).view.emb y = ix2 (rowOf t (y 0)) (y 1) :=
    funext fun a => Fin.ext (by unfold rowOf; fin_cases a <;> blk_simp [idx_at t] <;> simp)
  rw [he]
  exact times_at m c t (blk_wz m c t) y

theorem final_l : (dats m 0 c).arrAt 9 cfg0.N = times (x m c) (g m c) (wl m c) := by
  refine (dats m 0 c).arrAt_eq_of_covers 9 _ (by decide +kernel) fun t hf y => ?_
  blk_simp
  rw [after0_9, out_l]
  have he : (win0_9.blk t).view.emb y = ix2 (rowOf t (y 0)) (y 1) :=
    funext fun a => Fin.ext (by unfold rowOf; fin_cases a <;> blk_simp [idx_at t] <;> simp)
  rw [he]
  exact times_at m c t (blk_wl m c t) y

/-- The call ends with the four products; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v0_0) = times (x m c) (g m c) (wa m c)
    ∧ r.2.mem ((c.tc : Thread nD τ).loc main_v0_1) = times (x m c) (g m c) (wq m c)
    ∧ r.2.mem ((c.tc : Thread nD τ).loc main_v0_2) = times (x m c) (g m c) (wz m c)
    ∧ r.2.mem ((c.tc : Thread nD τ).loc main_v0_3) = times (x m c) (g m c) (wl m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (Value.run_blocks m ρ)
  obtain ⟨ha, hq, hz, hl, hk⟩ := h c
  exact ⟨ha.trans (final_a m c), hq.trans (final_q m c), hz.trans (final_z m c), hl.trans (final_l m c), hk⟩

end Cert.Forward

namespace Cert.ForwardPlain

open Cert.ProjectReferenceIdeal Cert.Inward Cert.Forward
open Idealize.ShloMosaic
open Idealize.ShloMosaic.TcCoe Idealize.SL.Sem

variable (m : (ℓ : Loc nD τ sig) → Buf (Elt Ideal) ℓ)

/-- The reference ends with the four products; its arguments stay. -/
theorem run_main (ρ : Dev nD → PrngReg) : θ_run defs (onTc (τ := τ) (main (F := Ideal))) ⟨m, fun _ => 0, ρ⟩ fun r => ∀ c : Dev nD,
    (r.2.mem ((c.tc : Thread nD τ).loc main_v13)
        = times (h := 8192) (w := 1536) (m ((c.tc : Thread nD τ).loc main_arg0)) (m ((c.tc : Thread nD τ).loc main_arg1)) (m ((c.tc : Thread nD τ).loc main_arg2))
      ∧ r.2.mem ((c.tc : Thread nD τ).loc main_v15)
        = times (h := 8192) (w := 1536) (m ((c.tc : Thread nD τ).loc main_arg0)) (m ((c.tc : Thread nD τ).loc main_arg1)) (m ((c.tc : Thread nD τ).loc main_arg3))
      ∧ r.2.mem ((c.tc : Thread nD τ).loc main_v17)
        = times (h := 8192) (w := 512) (m ((c.tc : Thread nD τ).loc main_arg0)) (m ((c.tc : Thread nD τ).loc main_arg1)) (m ((c.tc : Thread nD τ).loc main_arg4))
      ∧ r.2.mem ((c.tc : Thread nD τ).loc main_v19)
        = times (h := 8192) (w := 128) (m ((c.tc : Thread nD τ).loc main_arg0)) (m ((c.tc : Thread nD τ).loc main_arg1)) (m ((c.tc : Thread nD τ).loc main_arg5)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (Value.run m ρ)
  obtain ⟨ha, hq, hz, hl, hk⟩ := h c
  refine ⟨⟨ha.trans (funext fun y => ?_), hq.trans (funext fun y => ?_), hz.trans (funext fun y => ?_), hl.trans (funext fun y => ?_)⟩, hk⟩
  all_goals
    clear ha hq hz hl hk
    pointwise []
    rfl

end Cert.ForwardPlain

end
-- ==== Proof.Gate.lean ====
/-
# The spatial gating

The call walks 16 blocks of 512 rows. A block holds four chunks of 128 rows, and the columns are four groups of 128, so it
stores 16 tiles. Each mixes the rows of its chunk, up to its own row, by the group's weights; the reference says the same
of the whole.
-/
module

public import proofs.«01_k».proof.Proof.Gen.GatingIdeal.Value
public import proofs.«01_k».proof.Proof.Gen.GatingReferenceIdeal.Run
public import proofs.«01_k».proof.Proof.Rows
public import Idealize.ShloMosaic.Lib.Pipeline.ValueKit.Acc
public import Idealize.ShloMosaic.Lib.Pipeline.ReadBack
public import Idealize.ShloMosaic.Lib.Pipeline.ValueKit.Point
public import Idealize.ShloMosaic.Lib.Pointwise

@[expose] public section

set_option maxRecDepth 16384

noncomputable section

namespace Cert.Gate

open Cert.Inward
open Idealize.ShloMosaic

/-! ## The mathematics -/

/-- The exact GELU. -/
def gelu (x : EReal) : EReal := Ideal.ofBits .f32 0x3F000000#32 * x * (1 + Ideal.erf (x * Ideal.ofBits .f32 0x3F3504F3#32))

/-- The mean of 128 numbers. -/
def mean (a : Fin 128 → EReal) : EReal := Ideal.div (∑ k, a k) (Ideal.ofBits .f32 0x43000000#32)

/-- A group's channels past the GELU, less their mean. -/
def centred (a : Fin 128 → EReal) (d : Fin 128) : EReal := gelu (a d) - mean fun k => gelu (a k)

/-- The same, divided by their deviation. -/
def normed (a : Fin 128 → EReal) (d : Fin 128) : EReal :=
  centred a d * Ideal.rsqrt (mean (fun k => centred a k * centred a k) + Ideal.ofBits .f32 0x358637BD#32)

/-- One entry: `u` past the GELU, times the mixed and biased rows `v`, times `z` past the SiLU. -/
def cell (u z bias : EReal) (v : Fin 128 → Fin 128 → EReal) (g l : EReal) (w : Fin 128 → EReal) (d : Fin 128) : EReal :=
  gelu u * ((∑ s, w s * (normed (v s) d * g + l)) + bias) * (z * Ideal.logistic z)

theorem cell_congr {u u' z z' bias bias' : EReal} {v v' : Fin 128 → Fin 128 → EReal} {g g' l l' : EReal} {w w' : Fin 128 → EReal}
    {d d' : Fin 128} (hu : u = u') (hz : z = z') (hb : bias = bias') (hv : ∀ s k, v s k = v' s k) (hg : g = g') (hl : l = l')
    (hw : ∀ s, w s = w' s) (hd : d = d') : cell u z bias v g l w d = cell u' z' bias' v' g' l' w' d' := by
  obtain rfl : v = v' := funext fun s => funext fun k => hv s k
  obtain rfl : w = w' := funext hw
  subst hu hz hb hg hl hd
  rfl

/-- The group of a column, its place in the group, the place of a row in its chunk, and the rows of that chunk. -/
def groupOf (k : Fin 512) : Fin 4 := ⟨k.val / 128, by omega⟩
def laneOf (k : Fin 512) : Fin 128 := ⟨k.val % 128, by omega⟩
def placeOf {h : ℕ} (r : Fin h) : Fin 128 := ⟨r.val % 128, by omega⟩
def mate {h : ℕ} (hd : 128 ∣ h) (r : Fin h) (s : Fin 128) : Fin h := ⟨r.val / 128 * 128 + s.val, by obtain ⟨n, rfl⟩ := hd; omega⟩
def colU (k : Fin 512) : Fin 1536 := ⟨k.val, by omega⟩
def colV (k : Fin 512) (d : Fin 128) : Fin 1536 := ⟨512 + k.val / 128 * 128 + d.val, by omega⟩
def colZ (k : Fin 512) : Fin 1536 := ⟨1024 + k.val, by omega⟩

/-- The weights of a row: those of later rows count as zero. -/
def causal (w : Fin 128 → EReal) (r s : Fin 128) : EReal := if s ≤ r then w s else 0

/-- The gating of the rows. -/
def gated {h : ℕ} (hd : 128 ∣ h) (x : Mat h 1536) (g l : Mat 1 512) (w : Shape.Idx ⟨3, ![4, 128, 128]⟩ → EReal) (b : Mat 128 4)
    (y : Shape.Idx ⟨2, ![h, 512]⟩) : EReal :=
  cell (x (ix2 (y 0) (colU (y 1)))) (x (ix2 (y 0) (colZ (y 1)))) (b (ix2 (placeOf (y 0)) (groupOf (y 1))))
    (fun s k => x (ix2 (mate hd (y 0) s) (colV (y 1) k))) (g (ix2 0 (y 1))) (l (ix2 0 (y 1)))
    (causal (fun s => w (ix3 (groupOf (y 1)) (placeOf (y 0)) s)) (placeOf (y 0))) (laneOf (y 1))

theorem later_bit : ∀ r s : Fin 128, IntOp.cmpi .sge (BitVec.ofNat 32 r.val) (BitVec.ofNat 32 s.val) = if s ≤ r then 1#1 else 0#1 := by
  decide +kernel

theorem select_mul (r s : Fin 128) (a b : EReal) :
    Scalar.select (IntOp.cmpi .sge (BitVec.ofNat 32 r.val) (BitVec.ofNat 32 s.val)) (a * b) 0 = (if s ≤ r then a else 0) * b := by
  rw [later_bit]
  split
  · rfl
  · exact (zero_mul b).symm

theorem ix2_ext {a b : ℕ} {r r' : Fin a} {k k' : Fin b} (hr : r.val = r'.val) (hk : k.val = k'.val) : ix2 r k = ix2 r' k' :=
  congrArg₂ ix2 (Fin.ext hr) (Fin.ext hk)

end Cert.Gate

namespace Cert.Gate

open Cert.GatingIdeal Cert.GatingIdeal.Gen Cert.Inward
open Idealize.ShloMosaic
open Idealize.ShloMosaic.TcCoe Idealize.SL.Sem

section Block

/-- A column of the bias, taken as a sum over a row that is one at its place. -/
theorem pick (B : Fin 4 → EReal) (j : Fin 4) :
    (∑ x, B x * FloatOps.sitofp (F := Ideal) .f32 (BitVec.setWidth 32 (IntOp.cmpi .eq (BitVec.ofNat 32 x.val) (BitVec.ofNat 32 j.val)))) = B j := by
  have h : ∀ x : Fin 4, FloatOps.sitofp (F := Ideal) .f32 (BitVec.setWidth 32 (IntOp.cmpi .eq (BitVec.ofNat 32 x.val) (BitVec.ofNat 32 j.val)))
      = if x = j then (1 : EReal) else 0 := by
    intro x
    have : BitVec.setWidth 32 (IntOp.cmpi .eq (BitVec.ofNat 32 x.val) (BitVec.ofNat 32 j.val)) = if x = j then 1#32 else 0#32 := by
      revert x j; decide
    rw [this]
    split <;> simp [FloatOps.sitofp]
  simp [h]

theorem bias_0 (B : Vec Ideal S128x4 .f32) (r : Fin 128) : k0_pay2 (F := Ideal) (View.ld B r0_3) (ix2 r 0) = B (ix2 r 0) := by
  pointwise [k0_pay2, View.ld]
  exact pick (fun x => B (ix2 r x)) 0

theorem bias_1 (B : Vec Ideal S128x4 .f32) (r : Fin 128) : k0_pay9 (F := Ideal) (View.ld B r0_3) k0_pay8 (ix2 r 0) = B (ix2 r 1) := by
  pointwise [k0_pay9, k0_pay8, View.ld]
  exact pick (fun x => B (ix2 r x)) 1

theorem bias_2 (B : Vec Ideal S128x4 .f32) (r : Fin 128) : k0_pay15 (F := Ideal) (View.ld B r0_3) (ix2 r 0) = B (ix2 r 2) := by
  pointwise [k0_pay15, View.ld]
  exact pick (fun x => B (ix2 r x)) 2

theorem bias_3 (B : Vec Ideal S128x4 .f32) (r : Fin 128) : k0_pay20 (F := Ideal) (View.ld B r0_3) (ix2 r 0) = B (ix2 r 3) := by
  pointwise [k0_pay20, View.ld]
  exact pick (fun x => B (ix2 r x)) 3

/-- What a tile is computed from. -/
def tileOf (u v z : Vec Ideal S128x128 .f32) (bias : FVec Ideal S128x1 .f32) (g l : Vec Ideal S1x128 .f32) (w : Vec Ideal S1x128x128 .f32) :
    FVec Ideal S128x128 .bf16 :=
  k0_pay7 z bias g l (k0_pay3 w) (k0_pay4 u) (k0_pay5 v) (k0_pay6 v) (Scalar.ofBits .f32 0x3F800000#32)

theorem tileOf_at (u v z : Vec Ideal S128x128 .f32) (bias : FVec Ideal S128x1 .f32) (g l : Vec Ideal S1x128 .f32)
    (w : Vec Ideal S1x128x128 .f32) (r d : Fin 128) :
    tileOf u v z bias g l w (ix2 r d) = cell (u (ix2 r d)) (z (ix2 r d)) (bias (ix2 r 0)) (fun s k => v (ix2 s k)) (g (ix2 0 d))
      (l (ix2 0 d)) (causal (fun s => w (ix3 0 r s)) r) d := by
  unfold tileOf
  pointwise [k0_pay7, k0_pay3, k0_pay4, k0_pay5, k0_pay6]
  simp only [select_mul]
  rfl

theorem tileOf_apply (u v z : Vec Ideal S128x128 .f32) (bias : FVec Ideal S128x1 .f32) (g l : Vec Ideal S1x128 .f32)
    (w : Vec Ideal S1x128x128 .f32) (x : S128x128.Idx) :
    tileOf u v z bias g l w x = cell (u (ix2 (x 0) (x 1))) (z (ix2 (x 0) (x 1))) (bias (ix2 (x 0) 0)) (fun s k => v (ix2 s k)) (g (ix2 0 (x 1)))
      (l (ix2 0 (x 1))) (causal (fun s => w (ix3 0 (x 0) s)) (x 0)) (x 1) :=
  (congrArg _ (eq_ix2 x)).trans (tileOf_at u v z bias g l w (x 0) (x 1))

/-- A rectangle's place in its array. -/
theorem unit_at {a b p q : ℕ} (o k : ℕ) (inb) (y : Shape.Idx ⟨2, ![p, q]⟩) (h₀ : o + (y 0).val < a) (h₁ : k + (y 1).val < b) :
    (Rect.unit (s := ⟨2, ![a, b]⟩) ![o, k] ![p, q] inb).emb y = ix2 ⟨o + (y 0).val, h₀⟩ ⟨k + (y 1).val, h₁⟩ :=
  funext fun i => Fin.ext ((Rect.idx_unit_val _ _ inb y i).trans (by fin_cases i <;> simp))

theorem unit_at3 {a b c p q r : ℕ} (o : ℕ) (inb) (y : Shape.Idx ⟨3, ![p, q, r]⟩) (h₀ : o + (y 0).val < a) (h₁ : (y 1).val < b) (h₂ : (y 2).val < c) :
    (Rect.unit (s := ⟨3, ![a, b, c]⟩) ![o, 0, 0] ![p, q, r] inb).emb y = ix3 ⟨o + (y 0).val, h₀⟩ ⟨(y 1).val, h₁⟩ ⟨(y 2).val, h₂⟩ :=
  funext fun i => Fin.ext ((Rect.idx_unit_val _ _ inb y i).trans (by fin_cases i <;> simp))

variable (X : Vec Ideal S512x1536 .f32) (G L : Vec Ideal S1x512 .f32) (W : Vec Ideal S4x128x128 .f32) (B : Vec Ideal S128x4 .f32)

/-- The tile of chunk `a` and group `j` holds its part of the gating. -/
theorem tile (a : ℕ) (ha : a < 4) (j : Fin 4) (o₀ o₁ o₂ o₃ j' : ℕ) (h₀ : o₀ = 128 * a) (h₁ : o₁ = 128 * j.val) (h₂ : o₂ = 512 + 128 * j.val)
    (h₃ : o₃ = 1024 + 128 * j.val) (hj : j' = j.val) (iu iv iz ig iw io) (bias : FVec Ideal S128x1 .f32) (hb : ∀ r : Fin 128, bias (ix2 r 0) = B (ix2 r j))
    (x : S128x128.Idx) :
    tileOf (View.ld X (Rect.unit (s := S512x1536) ![o₀, o₁] S128x128.size iu)) (View.ld X (Rect.unit (s := S512x1536) ![o₀, o₂] S128x128.size iv))
        (View.ld X (Rect.unit (s := S512x1536) ![o₀, o₃] S128x128.size iz)) bias (View.ld G (Rect.unit (s := S1x512) ![0, o₁] S1x128.size ig))
        (View.ld L (Rect.unit (s := S1x512) ![0, o₁] S1x128.size ig)) (View.ld W (Rect.unit (s := S4x128x128) ![j', 0, 0] S1x128x128.size iw)) x
      = gated (h := 512) (by decide) X G L W B ((Rect.unit (s := S512x512) ![o₀, o₁] S128x128.size io).emb x) := by
  have hr : (x 0).val < 128 := (x 0).isLt
  have hk : (x 1).val < 128 := (x 1).isLt
  have hjl := j.isLt
  have he : (Rect.unit (s := S512x512) ![o₀, o₁] S128x128.size io).emb x
      = ix2 ⟨o₀ + (x 0).val, by omega⟩ ⟨o₁ + (x 1).val, by omega⟩ := unit_at _ _ _ _ _ _
  rw [he, tileOf_apply]
  unfold gated
  refine cell_congr ?_ ?_ ?_ (fun s k => ?_) ?_ ?_ (fun s => ?_) ?_
  · exact congrArg X ((unit_at _ _ _ _ (by show o₀ + (x 0).val < _; omega) (by show o₁ + (x 1).val < _; omega)).trans (ix2_ext rfl rfl))
  · exact congrArg X ((unit_at _ _ _ _ (by show o₀ + (x 0).val < _; omega) (by show o₃ + (x 1).val < _; omega)).trans
      (ix2_ext rfl (by show o₃ + (x 1).val = 1024 + (o₁ + (x 1).val); omega)))
  · exact (hb (x 0)).trans (congrArg B (ix2_ext (by show _ = (o₀ + (x 0).val) % 128; omega) (by show _ = (o₁ + (x 1).val) / 128; omega)))
  · have := s.isLt
    have := k.isLt
    exact congrArg X ((unit_at _ _ _ _ (by show o₀ + s.val < _; omega) (by show o₂ + k.val < _; omega)).trans
      (ix2_ext (by show o₀ + s.val = (o₀ + (x 0).val) / 128 * 128 + s.val; omega) (by show o₂ + k.val = 512 + (o₁ + (x 1).val) / 128 * 128 + k.val; omega)))
  · exact congrArg G ((unit_at _ _ _ _ (by simp) (by show o₁ + (x 1).val < 512; omega)).trans (ix2_ext rfl rfl))
  · exact congrArg L ((unit_at _ _ _ _ (by simp) (by show o₁ + (x 1).val < 512; omega)).trans (ix2_ext rfl rfl))
  · have hp : placeOf (h := 512) ⟨o₀ + (x 0).val, by omega⟩ = x 0 := Fin.ext (by show (o₀ + (x 0).val) % 128 = (x 0).val; omega)
    show _ = causal (fun s => W (ix3 (groupOf ⟨o₁ + (x 1).val, by omega⟩) (placeOf (h := 512) ⟨o₀ + (x 0).val, by omega⟩) s)) (placeOf (h := 512) ⟨o₀ + (x 0).val, by omega⟩) s
    rw [hp]
    refine congrArg (fun w => causal w (x 0) s) (funext fun s => congrArg W ((unit_at3 _ _ _ (by show j' + 0 < 4; omega) hr s.isLt).trans ?_))
    exact funext fun i => Fin.ext (by fin_cases i; exacts [by show j' + 0 = (o₁ + (x 1).val) / 128; omega, rfl, rfl])
  · exact Fin.ext (by show _ = (o₁ + (x 1).val) % 128; omega)

theorem out_y (y : S512x512.Idx) : out0_5 X G L W B y = gated (h := 512) (by decide) X G L W B y := by
  unfold out0_5
  refine View.canon_append_of_piecesOf (Val := Elt Ideal) (e := .bf16) (gated (h := 512) (by decide) X G L W B) [] _ ?_ y (cover0_5 _ _ _ _ _ _ _ _ _ _ _ _ _ _ _ _ y)
  refine ⟨?_, ?_, ?_, ?_, ?_, ?_, ?_, ?_, ?_, ?_, ?_, ?_, ?_, ?_, ?_, ?_, trivial⟩
  · exact tile X G L W B 3 (by decide) 3 384 384 896 1408 3 rfl rfl rfl rfl rfl _ _ _ _ _ (by decide) _ (bias_3 B)
  · exact tile X G L W B 3 (by decide) 2 384 256 768 1280 2 rfl rfl rfl rfl rfl _ _ _ _ _ (by decide) _ (bias_2 B)
  · exact tile X G L W B 3 (by decide) 1 384 128 640 1152 1 rfl rfl rfl rfl rfl _ _ _ _ _ (by decide) _ (bias_1 B)
  · exact tile X G L W B 3 (by decide) 0 384 0 512 1024 0 rfl rfl rfl rfl rfl _ _ _ _ _ (by decide) _ (bias_0 B)
  · exact tile X G L W B 2 (by decide) 3 256 384 896 1408 3 rfl rfl rfl rfl rfl _ _ _ _ _ (by decide) _ (bias_3 B)
  · exact tile X G L W B 2 (by decide) 2 256 256 768 1280 2 rfl rfl rfl rfl rfl _ _ _ _ _ (by decide) _ (bias_2 B)
  · exact tile X G L W B 2 (by decide) 1 256 128 640 1152 1 rfl rfl rfl rfl rfl _ _ _ _ _ (by decide) _ (bias_1 B)
  · exact tile X G L W B 2 (by decide) 0 256 0 512 1024 0 rfl rfl rfl rfl rfl _ _ _ _ _ (by decide) _ (bias_0 B)
  · exact tile X G L W B 1 (by decide) 3 128 384 896 1408 3 rfl rfl rfl rfl rfl _ _ _ _ _ (by decide) _ (bias_3 B)
  · exact tile X G L W B 1 (by decide) 2 128 256 768 1280 2 rfl rfl rfl rfl rfl _ _ _ _ _ (by decide) _ (bias_2 B)
  · exact tile X G L W B 1 (by decide) 1 128 128 640 1152 1 rfl rfl rfl rfl rfl _ _ _ _ _ (by decide) _ (bias_1 B)
  · exact tile X G L W B 1 (by decide) 0 128 0 512 1024 0 rfl rfl rfl rfl rfl _ _ _ _ _ (by decide) _ (bias_0 B)
  · exact tile X G L W B 0 (by decide) 3 0 384 896 1408 3 rfl rfl rfl rfl rfl _ _ _ _ _ (by decide) _ (bias_3 B)
  · exact tile X G L W B 0 (by decide) 2 0 256 768 1280 2 rfl rfl rfl rfl rfl _ _ _ _ _ (by decide) _ (bias_2 B)
  · exact tile X G L W B 0 (by decide) 1 0 128 640 1152 1 rfl rfl rfl rfl rfl _ _ _ _ _ (by decide) _ (bias_1 B)
  · exact tile X G L W B 0 (by decide) 0 0 0 512 1024 0 rfl rfl rfl rfl rfl _ _ _ _ _ (by decide) _ (bias_0 B)

end Block

/-! ## From the blocks to the array -/

variable (m : (ℓ : Loc nD τ sig) → Buf (Elt Ideal) ℓ) (c : Dev nD)

/-- Row `r` of block `t`. -/
def rowOf (t : Fin cfg0.N) (r : Fin 512) : Fin 8192 := ⟨t.val * 512 + r.val, by have := lt_of_lt_of_eq t.isLt N_0; omega⟩

theorem idx_at : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] := by
  decide +kernel

/-- The rows, the norm's gain and offset, the weights and the bias that the call is given. -/
abbrev x : Mat 8192 1536 := m ((c.tc : Thread nD τ).loc main_arg0)
abbrev g : Mat 1 512 := m ((c.tc : Thread nD τ).loc main_arg1)
abbrev l : Mat 1 512 := m ((c.tc : Thread nD τ).loc main_arg2)
abbrev w : Shape.Idx ⟨3, ![4, 128, 128]⟩ → EReal := m ((c.tc : Thread nD τ).loc main_arg3)
abbrev b : Mat 128 4 := m ((c.tc : Thread nD τ).loc main_arg4)

variable (t : Fin cfg0.N)

theorem blk_x (r : Fin 512) (k : Fin 1536) : iblk m c 0 t (ix2 r k) = x m c (ix2 (rowOf t r) k) := by
  unfold rowOf; blk_ext [iblk, V, idx_at t]
theorem blk_g (k : Fin 512) : iblk m c 1 t (ix2 0 k) = g m c (ix2 0 k) := by
  blk_ext [iblk, V, idx_at t]
theorem blk_l (k : Fin 512) : iblk m c 2 t (ix2 0 k) = l m c (ix2 0 k) := by
  blk_ext [iblk, V, idx_at t]
theorem blk_w (j : Fin 4) (n k : Fin 128) : iblk m c 3 t (ix3 j n k) = w m c (ix3 j n k) := by
  blk_ext [iblk, V, idx_at t]
theorem blk_b (n : Fin 128) (k : Fin 4) : iblk m c 4 t (ix2 n k) = b m c (ix2 n k) := by
  blk_ext [iblk, V, idx_at t]

theorem final_y : (dats m 0 c).arrAt 5 cfg0.N = gated (h := 8192) (by decide) (x m c) (g m c) (l m c) (w m c) (b m c) := by
  refine (dats m 0 c).arrAt_eq_of_covers 5 _ (by decide +kernel) fun t hf y => ?_
  blk_simp
  rw [after0_5, out_y]
  have he : (win0_5.blk t).view.emb y = ix2 (rowOf t (y 0)) (y 1) :=
    funext fun a => Fin.ext (by unfold rowOf; fin_cases a <;> blk_simp [idx_at t] <;> simp)
  rw [he]
  have hp : placeOf (h := 8192) (rowOf t (y 0)) = placeOf (h := 512) (y 0) := Fin.ext (by show (t.val * 512 + (y 0).val) % 128 = (y 0).val % 128; omega)
  refine cell_congr (blk_x m c t _ _) (blk_x m c t _ _) ((blk_b m c t _ _).trans (congrArg (fun p => b m c (ix2 p _)) hp.symm))
    (fun s k => (blk_x m c t _ _).trans (congrArg (x m c) (ix2_ext ?_ rfl))) (blk_g m c t _) (blk_l m c t _) (fun s => ?_) rfl
  · show t.val * 512 + ((y 0).val / 128 * 128 + s.val) = (t.val * 512 + (y 0).val) / 128 * 128 + s.val
    omega
  · show _ = causal (fun s => w m c (ix3 (groupOf (y 1)) (placeOf (h := 8192) (rowOf t (y 0))) s)) (placeOf (h := 8192) (rowOf t (y 0))) s
    rw [hp]
    exact congrArg (fun w => causal w _ s) (funext fun s => blk_w m c t _ _ s)

/-- The call ends with the gating; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v0) = gated (h := 8192) (by decide) (x m c) (g m c) (l m c) (w m c) (b m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (Value.run_blocks m ρ)
  obtain ⟨hy, hk⟩ := h c
  exact ⟨hy.trans (final_y m c), hk⟩

end Cert.Gate

namespace Cert.GatePlain

open Cert.GatingReferenceIdeal Cert.GatingReferenceIdeal.Gen Cert.Inward Cert.Gate
open Idealize.ShloMosaic
open Idealize.ShloMosaic.TcCoe Idealize.SL.Sem

/-- The GELU of an array. -/
def past (x : FVec Ideal S8192x512 .f32) : FVec Ideal S8192x512 .f32 :=
  mulf (mulf (broadcastInDim S8192x512 ![] bcast_S_S8192x512 (constant S_ .f32 0x3F000000#32)) x)
    (Host.erfc (mulf (Host.negf x) (broadcastInDim S8192x512 ![] bcast_S_S8192x512 (constant S_ .f32 0x3F3504F3#32))))

/-- The mean over the last axis. -/
def means (v : FVec Ideal S64x128x4x128 .f32) : FVec Ideal S64x128x4x1 .f32 :=
  Host.divf (broadcastInDim S64x128x4x1 ![0, 1, 2] bcast_S64x128x4_S64x128x4x1_0_1_2
      (Host.reduceAdd v (constant S_ .f32 0x00000000#32) reducesTo_S64x128x4x128_S64x128x4_d3 h_S_))
    (broadcastInDim S64x128x4x1 ![] bcast_S_S64x128x4x1 (constant S_ .f32 0x43000000#32))

/-- Each mean at all the channels of its group. -/
def spread (v : FVec Ideal S64x128x4x1 .f32) : FVec Ideal S64x128x4x128 .f32 :=
  broadcastInDim S64x128x4x128 ![0, 1, 2, 3] bcast_S64x128x4x1_S64x128x4x128_0_1_2_3 v

/-- The channels less their mean. -/
def level (v : FVec Ideal S64x128x4x128 .f32) : FVec Ideal S64x128x4x128 .f32 := subf v (spread (means v))

/-- The same, divided by their deviation. -/
def even (v : FVec Ideal S64x128x4x128 .f32) : FVec Ideal S64x128x4x128 .f32 :=
  mulf (level v) (spread (Host.rsqrt (addf (means (mulf (level v) (level v)))
    (broadcastInDim S64x128x4x1 ![] bcast_S_S64x128x4x1 (constant S_ .f32 0x358637BD#32)))))

/-- A gain or an offset, at every row. -/
def wide (g : Vec Ideal S1x512 .f32) : FVec Ideal S64x128x4x128 .f32 :=
  broadcastInDim S64x128x4x128 ![0, 1, 2, 3] bcast_S1x1x4x128_S64x128x4x128_0_1_2_3
    (broadcastInDim S1x1x4x128 ![2, 3] bcast_S4x128_S1x1x4x128_2_3 (shapeCast S4x128 g shapeCasts_S1x512_S4x128))

/-- The weights, with zero for later rows. -/
def masked (w : Vec Ideal S4x128x128 .f32) : FVec Ideal S4x128x128 .f32 :=
  select (broadcastInDim S4x128x128 ![1, 2] bcast_S128x128_S4x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1))))
    w (broadcastInDim S4x128x128 ![] bcast_S_S4x128x128 (constant S_ .f32 0x00000000#32))

/-- The bias, at every chunk and channel. -/
def biases (b : Vec Ideal S128x4 .f32) : FVec Ideal S64x128x4x128 .f32 :=
  broadcastInDim S64x128x4x128 ![0, 1, 2, 3] bcast_S1x128x4x1_S64x128x4x128_0_1_2_3
    (broadcastInDim S1x128x4x1 ![1, 2, 3] bcast_S128x4x1_S1x128x4x1_1_2_3 (broadcastInDim S128x4x1 ![0, 1] bcast_S128x4_S128x4x1_0_1 b))

/-- The rows of each chunk, mixed by the weights. -/
def mixed (v : FVec Ideal S64x128x4x128 .f32) (w : FVec Ideal S4x128x128 .f32) : FVec Ideal S64x128x4x128 .f32 :=
  transpose S64x128x4x128 [1, 3, 0, 2] (Host.dotGeneral dot_S64x128x4x128_S4x128x128_S4x64x128x128_1_2_03_1_2_0 none v w)
    transposes_S4x64x128x128_S64x128x4x128_1_3_0_2

theorem past_at (x : FVec Ideal S8192x512 .f32) (y : S8192x512.Idx) : past x y = gelu (x y) := by
  pointwise [past]
  rw [neg_mul, Ideal.erfc_neg]
  rfl

theorem means_at (v : FVec Ideal S64x128x4x128 .f32) (n : Fin 64) (s : Fin 128) (j : Fin 4) :
    means v (ix4 n s j 0) = mean fun k => v (ix4 n s j k) := by
  pointwise [means]
  rfl

theorem level_at (v : FVec Ideal S64x128x4x128 .f32) (n : Fin 64) (s : Fin 128) (j : Fin 4) (d : Fin 128) :
    level v (ix4 n s j d) = v (ix4 n s j d) - mean fun k => v (ix4 n s j k) := by
  rw [← means_at]
  pointwise [level, spread]

theorem even_at (v : FVec Ideal S64x128x4x128 .f32) (n : Fin 64) (s : Fin 128) (j : Fin 4) (d : Fin 128) :
    even v (ix4 n s j d) = level v (ix4 n s j d) * Ideal.rsqrt (mean (fun k => level v (ix4 n s j k) * level v (ix4 n s j k)) + Ideal.ofBits .f32 0x358637BD#32) := by
  have h := means_at (mulf (level v) (level v)) n s j
  pointwise [even, spread]
  rw [h]
  rfl

theorem wide_at (g : Vec Ideal S1x512 .f32) (n : Fin 64) (s : Fin 128) (j : Fin 4) (d : Fin 128) :
    wide g (ix4 n s j d) = g (ix2 0 ⟨j.val * 128 + d.val, by omega⟩) := by
  pointwise [wide]

theorem masked_at (w : Vec Ideal S4x128x128 .f32) (j : Fin 4) (r s : Fin 128) :
    masked w (ix3 j r s) = causal (fun s => w (ix3 j r s)) r s := by
  have h : ∀ a b : EReal, Scalar.select (if s ≤ r then 1#1 else 0#1) a b = if s ≤ r then a else b := by
    intro a b
    split <;> rfl
  pointwise [masked]
  rw [show IntOp.addi (BitVec.ofNat 32 r.val) 0#32 = BitVec.ofNat 32 r.val from BitVec.add_zero _, later_bit]
  have h' : Scalar.select (if s ≤ r then 1#1 else 0#1) (1#1) (0#1) = if s ≤ r then 1#1 else 0#1 := by split <;> rfl
  rw [h', h]
  rfl

theorem biases_at (b : Vec Ideal S128x4 .f32) (n : Fin 64) (s : Fin 128) (j : Fin 4) (d : Fin 128) :
    biases b (ix4 n s j d) = b (ix2 s j) := by
  pointwise [biases]

theorem mixed_at (v : FVec Ideal S64x128x4x128 .f32) (w : FVec Ideal S4x128x128 .f32) (n : Fin 64) (r : Fin 128) (j : Fin 4) (d : Fin 128) :
    mixed v w (ix4 n r j d) = (∑ s, w (ix3 j r s) * v (ix4 n s j d) : EReal) := by
  pointwise [mixed]
  exact Finset.sum_congr rfl fun _ _ => mul_comm _ _

/-- The columns that are mixed, past the GELU, by chunk and group. -/
theorem rows_at (x : Vec Ideal S8192x1536 .f32) (n : Fin 64) (s : Fin 128) (j : Fin 4) (d : Fin 128) :
    shapeCast S64x128x4x128 (past (extractStridedSlice S8192x512 ![0, 512] x slices_S8192x1536_S8192x512_0_512)) shapeCasts_S8192x512_S64x128x4x128 (ix4 n s j d)
      = gelu (x (ix2 ⟨n.val * 128 + s.val, by omega⟩ ⟨512 + j.val * 128 + d.val, by omega⟩)) := by
  pointwise [past_at]
  exact congrArg (fun i => gelu (x i)) (ix2_ext rfl (Nat.add_assoc _ _ _).symm)

theorem normed_at (v : FVec Ideal S64x128x4x128 .f32) (a : Fin 128 → EReal) (n : Fin 64) (s : Fin 128) (j : Fin 4) (d : Fin 128)
    (h : ∀ k, v (ix4 n s j k) = gelu (a k)) : even v (ix4 n s j d) = normed a d := by
  rw [even_at]
  simp only [level_at, h]
  rfl

/-- The whole reference. -/
def whole (x : Vec Ideal S8192x1536 .f32) (g l : Vec Ideal S1x512 .f32) (w : Vec Ideal S4x128x128 .f32) (b : Vec Ideal S128x4 .f32) :
    FVec Ideal S8192x512 .bf16 :=
  have z := extractStridedSlice S8192x512 ![0, 1024] x slices_S8192x1536_S8192x512_0_1024
  truncf .bf16 (mulf (mulf (past (extractStridedSlice S8192x512 ![0, 0] x slices_S8192x1536_S8192x512_0_0)) (shapeCast S8192x512 (addf (mixed (addf (mulf (even
      (shapeCast S64x128x4x128 (past (extractStridedSlice S8192x512 ![0, 512] x slices_S8192x1536_S8192x512_0_512)) shapeCasts_S8192x512_S64x128x4x128)) (wide g)) (wide l)) (masked w)) (biases b))
      shapeCasts_S64x128x4x128_S8192x512))
    (mulf z (Host.divf (broadcastInDim S8192x512 ![] bcast_S_S8192x512 (constant S_ .f32 0x3F800000#32))
      (addf (broadcastInDim S8192x512 ![] bcast_S_S8192x512 (constant S_ .f32 0x3F800000#32)) (Host.exp (Host.negf z)))))) bitsLt_bf16_f32

/-- What the mixing gives, spelt out at each place. -/
theorem mixed_eq (x : Vec Ideal S8192x1536 .f32) (g l : Vec Ideal S1x512 .f32) (w : Vec Ideal S4x128x128 .f32)
    (n : Fin 64) (r : Fin 128) (j : Fin 4) (d : Fin 128) :
    mixed (addf (mulf (even (shapeCast S64x128x4x128 (past (extractStridedSlice S8192x512 ![0, 512] x slices_S8192x1536_S8192x512_0_512)) shapeCasts_S8192x512_S64x128x4x128))
        (wide g)) (wide l)) (masked w) (ix4 n r j d)
      = (∑ s, causal (fun s => w (ix3 j r s)) r s * (normed (fun k => x (ix2 ⟨n.val * 128 + s.val, by omega⟩ ⟨512 + j.val * 128 + k.val, by omega⟩)) d
          * g (ix2 0 ⟨j.val * 128 + d.val, by omega⟩) + l (ix2 0 ⟨j.val * 128 + d.val, by omega⟩)) : EReal) := by
  rw [mixed_at]
  refine Finset.sum_congr rfl fun s _ => ?_
  rw [masked_at]
  refine congrArg _ ?_
  show even _ (ix4 n s j d) * wide g (ix4 n s j d) + wide l (ix4 n s j d) = _
  rw [wide_at, wide_at, normed_at _ _ n s j d fun k => rows_at x n s j k]

theorem whole_at (x : Vec Ideal S8192x1536 .f32) (g l : Vec Ideal S1x512 .f32) (w : Vec Ideal S4x128x128 .f32) (b : Vec Ideal S128x4 .f32)
    (r : Fin 8192) (k : Fin 512) : whole x g l w b (ix2 r k) = gated (h := 8192) (by decide) x g l w b (ix2 r k) := by
  have hr := r.isLt
  have hk := k.isLt
  pointwise [whole, past_at]
  rw [mixed_eq, biases_at]
  have hd : k.val / 128 * 128 + k.val % 128 = k.val := by omega
  have hj : (⟨k.val / 128 * 128 + k.val % 128, by omega⟩ : Fin 512) = k := Fin.ext hd
  rw [hj]
  refine cell_congr rfl rfl rfl (fun _ _ => rfl) rfl rfl (fun _ => rfl) rfl

variable (m : (ℓ : Loc nD τ sig) → Buf (Elt Ideal) ℓ)

/-- The reference ends with the gating; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v56)
        = gated (h := 8192) (by decide) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (Value.run m ρ)
  obtain ⟨hy, hk⟩ := h c
  refine ⟨hy.trans ((show Value.res_out0 m c = whole _ _ _ _ _ from rfl).trans (funext fun y => ?_)), hk⟩
  have := whole_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (y 0) (y 1)
  rwa [← eq_ix2 y] at this

end Cert.GatePlain

end
-- ==== Proof.Ungate.lean ====
/-
# The spatial gating's backward call

The call walks 16 blocks of 512 rows. A block holds four chunks of 128 rows and four groups of 128 columns: 16 tiles. A tile
gives the gradients of its three parts of the rows, which are stored, and its share of the gradients of the norm's gain and
offset, of the group's weights and of its bias, which are added up over all the chunks. `Tile` holds what a tile is computed
from and says, entry by entry, what it gives; the kernel's tiles and the reference's arrays are both read off from it.
-/
module

public import proofs.«01_k».proof.Proof.Gen.UngateIdeal.Value
public import proofs.«01_k».proof.Proof.Gen.UngateReferenceIdeal.Run
public import proofs.«01_k».proof.Proof.Gate

@[expose] public section

set_option maxRecDepth 16384

noncomputable section

namespace Cert.Ungate

open Cert.Inward
open Cert.Gate (gelu mean centred normed causal groupOf laneOf placeOf later_bit ix2_ext unit_at unit_at3)
open Idealize.ShloMosaic

/-! ## The mathematics -/

abbrev half : EReal := Ideal.ofBits .f32 0x3F000000#32
abbrev root : EReal := Ideal.ofBits .f32 0x3F3504F3#32
abbrev bell : EReal := Ideal.ofBits .f32 0x3F906EBB#32

/-- The exact GELU's derivative at `x`, applied to `y`. -/
def slope (x y : EReal) : EReal :=
  bell * (half * x * y) * Ideal.exp (-(x * root * (x * root))) * root + half * (y * (1 + Ideal.erf (x * root)))

/-- A tile's rows `u`, `v`, `z`, the gradient `o` that arrives at it, its group's gain, offset and weights, and its bias. -/
@[ext] structure Tile where
  u : Fin 128 → Fin 128 → EReal
  v : Fin 128 → Fin 128 → EReal
  z : Fin 128 → Fin 128 → EReal
  o : Fin 128 → Fin 128 → EReal
  g : Fin 128 → EReal
  l : Fin 128 → EReal
  w : Fin 128 → Fin 128 → EReal
  b : Fin 128 → EReal

namespace Tile

variable (T : Tile)

/-- The normed rows, scaled and shifted. -/
def ln (s d : Fin 128) : EReal := normed (T.v s) d * T.g d + T.l d

/-- What the mixing gives. -/
def mix (r d : Fin 128) : EReal := (∑ s, causal (T.w r) r s * T.ln s d) + T.b r

/-- The gradient past the SiLU gate. -/
def past (r d : Fin 128) : EReal := T.o r d * (T.z r d * Ideal.logistic (T.z r d))

/-- The gradient that arrives at the mixing. -/
def ds (r d : Fin 128) : EReal := gelu (T.u r d) * T.past r d

/-- The gradient that arrives at the normed rows. -/
def dln (s d : Fin 128) : EReal := ∑ r, T.ds r d * causal (T.w r) r s

/-- The gradient of `u`. -/
def du (r d : Fin 128) : EReal := slope (T.u r d) (T.past r d * T.mix r d)

/-- The gradient of `z`. -/
def dz (r d : Fin 128) : EReal :=
  gelu (T.u r d) * T.mix r d * T.o r d * Ideal.logistic (T.z r d)
    + T.z r d * (gelu (T.u r d) * T.mix r d * T.o r d) * (Ideal.logistic (T.z r d) * (1 - Ideal.logistic (T.z r d)))

/-- The variance of a row, and a little more. -/
def spread (s : Fin 128) : EReal := mean (fun k => centred (T.v s) k * centred (T.v s) k) + Ideal.ofBits .f32 0x358637BD#32

/-- The gradient that reaches the deviation. -/
def pull (s : Fin 128) : EReal :=
  Ideal.div ((∑ d, centred (T.v s) d * (T.dln s d * T.g d))
    * (Ideal.ofBits .f32 0xBF000000#32 * Ideal.div (Ideal.rsqrt (T.spread s)) (T.spread s))) (Ideal.ofBits .f32 0x43000000#32)

/-- The gradient that reaches the centred rows. -/
def dxc (s d : Fin 128) : EReal :=
  T.dln s d * T.g d * Ideal.rsqrt (T.spread s) + centred (T.v s) d * T.pull s + T.pull s * centred (T.v s) d

/-- The gradient of `v`. -/
def dv (s d : Fin 128) : EReal := slope (T.v s d) (T.dxc s d + Ideal.div (∑ k, -T.dxc s k) (Ideal.ofBits .f32 0x43000000#32))

/-- The shares of the gradients of the offset, the gain, the weights and the bias. -/
def dl (d : Fin 128) : EReal := ∑ s, T.dln s d
def dg (d : Fin 128) : EReal := ∑ s, normed (T.v s) d * T.dln s d
def dw (r s : Fin 128) : EReal := if s ≤ r then ∑ d, T.ds r d * T.ln s d else 0
def db (r : Fin 128) : EReal := ∑ d, T.ds r d

end Tile

/-- The group, the place in its chunk or group, of a row or a column. -/
def grp (k : ℕ) : Fin 4 := Fin.ofNat 4 (k / 128)
def place (k : ℕ) : Fin 128 := Fin.ofNat 128 k

/-- Row `r` of chunk `n`, and column `d` of group `j` in part `p`. -/
def rowIn (h : ℕ) [NeZero h] (n : ℕ) (r : Fin 128) : Fin h := Fin.ofNat h (128 * n + r.val)
def colIn (p : Fin 3) (j : Fin 4) (d : Fin 128) : Fin 1536 := ⟨512 * p.val + 128 * j.val + d.val, by omega⟩
def laneIn (j : Fin 4) (d : Fin 128) : Fin 512 := ⟨128 * j.val + d.val, by omega⟩

/-- The tile of chunk `n` and group `j`. -/
def tiles {h : ℕ} [NeZero h] (X : Mat h 1536) (O : Mat h 512) (G L : Mat 1 512) (W : Shape.Idx ⟨3, ![4, 128, 128]⟩ → EReal) (B : Mat 128 4)
    (n : ℕ) (j : Fin 4) : Tile where
  u r d := X (ix2 (rowIn h n r) (colIn 0 j d))
  v r d := X (ix2 (rowIn h n r) (colIn 1 j d))
  z r d := X (ix2 (rowIn h n r) (colIn 2 j d))
  o r d := O (ix2 (rowIn h n r) (laneIn j d))
  g d := G (ix2 0 (laneIn j d))
  l d := L (ix2 0 (laneIn j d))
  w r s := W (ix3 j r s)
  b r := B (ix2 r j)

/-- The gradient of the rows. -/
def grads {h : ℕ} (T : ℕ → Fin 4 → Tile) (y : Shape.Idx ⟨2, ![h, 1536]⟩) : EReal :=
  if (y 1).val < 512 then (T ((y 0).val / 128) (grp (y 1).val)).du (place (y 0).val) (place (y 1).val)
  else if (y 1).val < 1024 then (T ((y 0).val / 128) (grp (y 1).val)).dv (place (y 0).val) (place (y 1).val)
  else (T ((y 0).val / 128) (grp (y 1).val)).dz (place (y 0).val) (place (y 1).val)

/-- The gradients of the gain, the offset, the weights and the bias: the chunks' shares, added up. -/
def gainSum (N : ℕ) (T : ℕ → Fin 4 → Tile) (y : Shape.Idx ⟨2, ![1, 512]⟩) : EReal := ∑ n : Fin N, (T n.val (grp (y 1).val)).dg (place (y 1).val)
def offsetSum (N : ℕ) (T : ℕ → Fin 4 → Tile) (y : Shape.Idx ⟨2, ![1, 512]⟩) : EReal := ∑ n : Fin N, (T n.val (grp (y 1).val)).dl (place (y 1).val)
def weightSum (N : ℕ) (T : ℕ → Fin 4 → Tile) (y : Shape.Idx ⟨3, ![4, 128, 128]⟩) : EReal := ∑ n : Fin N, (T n.val (y 0)).dw (y 1) (y 2)
def biasSum (N : ℕ) (T : ℕ → Fin 4 → Tile) (y : Shape.Idx ⟨2, ![128, 4]⟩) : EReal := ∑ n : Fin N, (T n.val (y 1)).db (y 0)

theorem four (p a b c d : EReal) (f : Fin 4 → EReal) (ha : a = f 0) (hb : b = f 1) (hc : c = f 2) (hd : d = f 3) :
    p + a + b + c + d = p + ∑ n, f n := by
  rw [Fin.sum_univ_four, ha, hb, hc, hd]
  simp only [add_assoc]

theorem select_later (r s : Fin 128) (a b : EReal) :
    Scalar.select (IntOp.cmpi .sge (BitVec.ofNat 32 r.val) (BitVec.ofNat 32 s.val)) a b = if s ≤ r then a else b := by
  rw [later_bit]
  split <;> rfl

end Cert.Ungate

namespace Cert.Ungate

open Cert.UngateIdeal Cert.UngateIdeal.Gen Cert.Inward
open Cert.Gate (gelu mean centred normed causal groupOf laneOf placeOf later_bit ix2_ext unit_at unit_at3)
open Idealize.ShloMosaic
open Idealize.ShloMosaic.TcCoe Idealize.SL.Sem

section Block

variable (u v z o : Vec Ideal S128x128 .f32) (bias : FVec Ideal S128x1 .f32) (g l : Vec Ideal S1x128 .f32) (w : Vec Ideal S1x128x128 .f32)

/-- The tile that these pieces make. -/
def tileOf : Tile where
  u r d := u (ix2 r d)
  v r d := v (ix2 r d)
  z r d := z (ix2 r d)
  o r d := o (ix2 r d)
  g d := g (ix2 0 d)
  l d := l (ix2 0 d)
  w r s := w (ix3 0 r s)
  b r := bias (ix2 r 0)

/-- `u` past the GELU. -/
def pastU : FVec Ideal S128x128 .f32 := k0_pay15 (k0_pay10 u) (k0_pay12 u) (Scalar.ofBits .f32 0x3F800000#32)

theorem pastU_at (r d : Fin 128) : pastU u (ix2 r d) = gelu (u (ix2 r d)) := by
  pointwise [pastU, k0_pay15, k0_pay10, k0_pay12, k0_pay14, k0_pay11]
  rfl

theorem masked_at (r s : Fin 128) : k0_pay9 (F := Ideal) w (ix2 r s) = causal ((tileOf u v z o bias g l w).w r) r s := by
  pointwise [k0_pay9, k0_pay8]
  exact select_later r s _ _

theorem centred_at (s d : Fin 128) : k0_pay20 (F := Ideal) v (ix2 s d) = centred ((tileOf u v z o bias g l w).v s) d := by
  pointwise [k0_pay20, k0_pay16, k0_pay19, k0_pay17]
  rfl

theorem spread_at (s : Fin 128) : k0_pay21 (F := Ideal) v (ix2 s 0) = (tileOf u v z o bias g l w).spread s := by
  have h := centred_at u v z o bias g l w
  generalize hv : tileOf u v z o bias g l w = T at *
  pointwise [k0_pay21]
  simp only [h]
  rfl

theorem normed_at (s d : Fin 128) : k0_pay24 (F := Ideal) v (ix2 s d) = normed ((tileOf u v z o bias g l w).v s) d := by
  have h := centred_at u v z o bias g l w s d
  have h' := spread_at u v z o bias g l w s
  generalize hv : tileOf u v z o bias g l w = T at *
  pointwise [k0_pay24, k0_pay22]
  rw [h, h']
  rfl

theorem ln_at (s d : Fin 128) : k0_pay26 (F := Ideal) v g l (ix2 s d) = (tileOf u v z o bias g l w).ln s d := by
  have h := normed_at u v z o bias g l w s d
  pointwise [k0_pay26]
  rw [h]
  rfl

theorem mix_at (r d : Fin 128) : k0_pay27 (F := Ideal) v bias g l (k0_pay9 w) (ix2 r d) = (tileOf u v z o bias g l w).mix r d := by
  have h := fun s => ln_at u v z o bias g l w s d
  have h' := masked_at u v z o bias g l w r
  generalize hm : k0_pay9 (F := Ideal) w = M at *
  pointwise [k0_pay27, k0_pay25]
  simp only [h, h']
  rfl

theorem past_at (r d : Fin 128) : k0_pay31 (F := Ideal) z (k0_pay29 z) o (ix2 r d) = (tileOf u v z o bias g l w).past r d := by
  pointwise [k0_pay31, k0_pay29]
  rfl

theorem ds_at (r d : Fin 128) : k0_pay33 (F := Ideal) z (pastU u) (k0_pay29 z) o (ix2 r d) = (tileOf u v z o bias g l w).ds r d := by
  have h := past_at u v z o bias g l w r d
  pointwise [k0_pay33, pastU_at]
  rw [h]
  rfl

theorem dln_at (s d : Fin 128) :
    k0_pay36 (F := Ideal) z (pastU u) (k0_pay25 (k0_pay9 w)) (k0_pay29 z) o (ix2 s d) = (tileOf u v z o bias g l w).dln s d := by
  have h := fun r => ds_at u v z o bias g l w r d
  have h' := fun r => masked_at u v z o bias g l w r s
  generalize hm : k0_pay9 (F := Ideal) w = M at *
  pointwise [k0_pay36, k0_pay25]
  simp only [h, h']
  rfl

/-- What a tile gives. -/
def duOf : FVec Ideal S128x128 .f32 :=
  k0_pay43 (k0_pay10 u) (k0_pay13 u) (k0_pay14 (k0_pay12 u) (Scalar.ofBits .f32 0x3F800000#32))
    (k0_pay34 z (k0_pay27 v bias g l (k0_pay9 w)) (k0_pay29 z) o)
def dxcOf : FVec Ideal S128x128 .f32 :=
  k0_pay40 z g (pastU u) (k0_pay20 v) (k0_pay22 v) (k0_pay23 v) (k0_pay25 (k0_pay9 w)) (k0_pay29 z) o
def dvOf : FVec Ideal S128x128 .f32 :=
  k0_pay42 (k0_pay16 v) (k0_pay18 v) (k0_pay19 v) (dxcOf u v z o g w)
    (k0_pay41 z g (pastU u) (k0_pay20 v) (k0_pay22 v) (k0_pay23 v) (k0_pay25 (k0_pay9 w)) (k0_pay29 z) o)
def dzOf : FVec Ideal S128x128 .f32 :=
  k0_pay32 z (k0_pay28 v bias g l (k0_pay9 w) (k0_pay10 u) (k0_pay12 u) (Scalar.ofBits .f32 0x3F800000#32)) (k0_pay29 z) (k0_pay30 z) o
def dlOf : FVec Ideal S1x128 .f32 := k0_pay38 z (pastU u) (k0_pay25 (k0_pay9 w)) (k0_pay29 z) o
def dgOf : FVec Ideal S1x128 .f32 := k0_pay39 z (pastU u) (k0_pay24 v) (k0_pay25 (k0_pay9 w)) (k0_pay29 z) o
def dwOf : FVec Ideal S128x128 .f32 := k0_pay44 k0_pay8 (k0_pay37 z (pastU u) (k0_pay26 v g l) (k0_pay29 z) o)
def dbOf : FVec Ideal S128x1 .f32 := k0_pay35 z (pastU u) (k0_pay29 z) o

theorem duOf_at (r d : Fin 128) : duOf u v z o bias g l w (ix2 r d) = (tileOf u v z o bias g l w).du r d := by
  have h := past_at u v z o bias g l w r d
  have h' := mix_at u v z o bias g l w r d
  unfold duOf
  pointwise [k0_pay43, k0_pay34, k0_pay14, k0_pay13, k0_pay12, k0_pay11, k0_pay10]
  rw [h, h']
  simp only [zero_sub]
  rfl

theorem dzOf_at (r d : Fin 128) : dzOf u v z o bias g l w (ix2 r d) = (tileOf u v z o bias g l w).dz r d := by
  have h' := mix_at u v z o bias g l w r d
  unfold dzOf
  pointwise [k0_pay32, k0_pay28, k0_pay30, k0_pay29, k0_pay15, k0_pay14, k0_pay12, k0_pay11, k0_pay10]
  rw [h']
  rfl

theorem dlOf_at (d : Fin 128) : dlOf u z o w (ix2 0 d) = (tileOf u v z o bias g l w).dl d := by
  have h := fun s => dln_at u v z o bias g l w s d
  unfold dlOf
  pointwise [k0_pay38]
  simp only [h]
  rfl

theorem dgOf_at (d : Fin 128) : dgOf u v z o w (ix2 0 d) = (tileOf u v z o bias g l w).dg d := by
  have h := fun s => dln_at u v z o bias g l w s d
  have h' := fun s => normed_at u v z o bias g l w s d
  unfold dgOf
  pointwise [k0_pay39]
  simp only [h, h']
  rfl

theorem dwOf_at (r s : Fin 128) : dwOf u v z o g l (ix2 r s) = (tileOf u v z o bias g l w).dw r s := by
  have h := fun d => ds_at u v z o bias g l w r d
  have h' := fun d => ln_at u v z o bias g l w s d
  unfold dwOf
  pointwise [k0_pay44, k0_pay8, k0_pay37]
  simp only [h, h']
  exact select_later r s _ _

theorem dbOf_at (r : Fin 128) : dbOf u z o (ix2 r 0) = (tileOf u v z o bias g l w).db r := by
  have h := fun d => ds_at u v z o bias g l w r d
  unfold dbOf
  pointwise [k0_pay35]
  simp only [h]
  rfl

theorem dxcOf_at (s d : Fin 128) : dxcOf u v z o g w (ix2 s d) = (tileOf u v z o bias g l w).dxc s d := by
  have h := fun d => dln_at u v z o bias g l w s d
  have h₁ := fun d => centred_at u v z o bias g l w s d
  have h₂ := spread_at u v z o bias g l w s
  unfold dxcOf
  pointwise [k0_pay40, k0_pay22, k0_pay23]
  simp only [Fin.sum_univ_one, h, h₁, h₂]
  rfl

theorem dvOf_at (s d : Fin 128) : dvOf u v z o g w (ix2 s d) = (tileOf u v z o bias g l w).dv s d := by
  have h := fun d => dxcOf_at u v z o bias g l w s d
  unfold dvOf
  have h' : ∀ d, k0_pay40 z g (pastU u) (k0_pay20 v) (k0_pay22 v) (k0_pay23 v) (k0_pay25 (k0_pay9 w)) (k0_pay29 z) o (ix2 s d) = _ := h
  pointwise [k0_pay42, k0_pay41, k0_pay16, k0_pay18, k0_pay19, k0_pay17]
  simp only [Fin.sum_univ_one, h, h', zero_sub]
  rfl

end Block

section Pieces

variable (X : Vec Ideal S512x1536 .f32) (O : Vec Ideal S512x512 .f32) (G L : Vec Ideal S1x512 .f32) (W : Vec Ideal S4x128x128 .f32) (B : Vec Ideal S128x4 .f32)

/-- The rectangles of chunk `a` and group `j`. -/
abbrev xu (a j p : ℕ) (ha : a < 4) (hj : j < 4) (hp : p < 3) : Rect S512x1536 :=
  Rect.unit (s := S512x1536) ![128 * a, 512 * p + 128 * j] S128x128.size
    (fun i => by fin_cases i; exacts [by show 128 * a + 128 ≤ 512; omega, by show 512 * p + 128 * j + 128 ≤ 1536; omega])
abbrev ou (a j : ℕ) (ha : a < 4) (hj : j < 4) : Rect S512x512 :=
  Rect.unit (s := S512x512) ![128 * a, 128 * j] S128x128.size
    (fun i => by fin_cases i; exacts [by show 128 * a + 128 ≤ 512; omega, by show 128 * j + 128 ≤ 512; omega])
abbrev gu (j : ℕ) (hj : j < 4) : Rect S1x512 :=
  Rect.unit (s := S1x512) ![0, 128 * j] S1x128.size
    (fun i => by fin_cases i; exacts [by show 0 + 1 ≤ 1; omega, by show 128 * j + 128 ≤ 512; omega])
abbrev wu (j : ℕ) (hj : j < 4) : Rect S4x128x128 :=
  Rect.unit (s := S4x128x128) ![j, 0, 0] S1x128x128.size
    (fun i => by fin_cases i; exacts [by show j + 1 ≤ 4; omega, by show 0 + 128 ≤ 128; omega, by show 0 + 128 ≤ 128; omega])

/-- Column `j` of the bias. -/
def biasOf (j : ℕ) : FVec Ideal S128x1 .f32 :=
  shapeCast S128x1 (multiReduction .add [1] S128 (mulf B (broadcastTo S128x4 (sitofp .f32 (extui 32 (cmpi .eq (iota .tc S1x4 32 [1] iota_S1x4_d1_w32)
    (broadcast S1x4 (BitVec.ofNat 32 j))) natLt_1_32)) broadcasts_S1x4_S128x4)) 0x00000000#32 reduces_S128x4_S128 (.inl rfl) rfl) shapeCasts_S128_S128x1

theorem biasOf_at (j : Fin 4) (r : Fin 128) : biasOf B j.val (ix2 r 0) = B (ix2 r j) := by
  pointwise [biasOf]
  exact Cert.Gate.pick (fun x => B (ix2 r x)) j

variable (a j : ℕ) (ha : a < 4) (hj : j < 4)

theorem tileOf_ld : tileOf (View.ld X (xu a j 0 ha hj (by decide))) (View.ld X (xu a j 1 ha hj (by decide))) (View.ld X (xu a j 2 ha hj (by decide)))
      (View.ld O (ou a j ha hj)) (biasOf B j) (View.ld G (gu j hj)) (View.ld L (gu j hj)) (View.ld W (wu j hj))
    = tiles (h := 512) X O G L W B a ⟨j, hj⟩ := by
  have hrow : ∀ r : Fin 128, (128 * a + r.val) % 512 = 128 * a + r.val := fun r => Nat.mod_eq_of_lt (by omega)
  have hx : ∀ (p : Fin 3) (r d : Fin 128), (xu a j p.val ha hj p.isLt).emb (ix2 r d) = ix2 (rowIn 512 a r) (colIn p ⟨j, hj⟩ d) := fun p r d =>
    (unit_at _ _ _ _ (by show 128 * a + r.val < 512; omega) (by show 512 * p.val + 128 * j + d.val < 1536; omega)).trans (ix2_ext (hrow r).symm rfl)
  refine Tile.ext (funext₂ fun r d => ?_) (funext₂ fun r d => ?_) (funext₂ fun r d => ?_) (funext₂ fun r d => ?_) (funext fun d => ?_) (funext fun d => ?_)
    (funext₂ fun r s => ?_) (funext fun r => ?_)
  · exact congrArg X (hx 0 r d)
  · exact congrArg X (hx 1 r d)
  · exact congrArg X (hx 2 r d)
  · exact congrArg O ((unit_at _ _ _ _ (by show 128 * a + r.val < 512; omega) (by show 128 * j + d.val < 512; omega)).trans (ix2_ext (hrow r).symm rfl))
  · exact congrArg G ((unit_at _ _ _ _ (by show 0 + 0 < 1; omega) (by show 128 * j + d.val < 512; omega)).trans (ix2_ext rfl rfl))
  · exact congrArg L ((unit_at _ _ _ _ (by show 0 + 0 < 1; omega) (by show 128 * j + d.val < 512; omega)).trans (ix2_ext rfl rfl))
  · exact congrArg W ((unit_at3 _ _ _ (by show j + 0 < 4; omega) r.isLt s.isLt).trans rfl)
  · exact biasOf_at B ⟨j, hj⟩ r

/-- What the tile of chunk `a` and group `j` gives. -/
def duT : FVec Ideal S128x128 .f32 :=
  duOf (View.ld X (xu a j 0 ha hj (by decide))) (View.ld X (xu a j 1 ha hj (by decide))) (View.ld X (xu a j 2 ha hj (by decide)))
    (View.ld O (ou a j ha hj)) (biasOf B j) (View.ld G (gu j hj)) (View.ld L (gu j hj)) (View.ld W (wu j hj))
def dvT : FVec Ideal S128x128 .f32 :=
  dvOf (View.ld X (xu a j 0 ha hj (by decide))) (View.ld X (xu a j 1 ha hj (by decide))) (View.ld X (xu a j 2 ha hj (by decide)))
    (View.ld O (ou a j ha hj)) (View.ld G (gu j hj)) (View.ld W (wu j hj))
def dzT : FVec Ideal S128x128 .f32 :=
  dzOf (View.ld X (xu a j 0 ha hj (by decide))) (View.ld X (xu a j 1 ha hj (by decide))) (View.ld X (xu a j 2 ha hj (by decide)))
    (View.ld O (ou a j ha hj)) (biasOf B j) (View.ld G (gu j hj)) (View.ld L (gu j hj)) (View.ld W (wu j hj))
def dlT : FVec Ideal S1x128 .f32 :=
  dlOf (View.ld X (xu a j 0 ha hj (by decide))) (View.ld X (xu a j 2 ha hj (by decide))) (View.ld O (ou a j ha hj)) (View.ld W (wu j hj))
def dgT : FVec Ideal S1x128 .f32 :=
  dgOf (View.ld X (xu a j 0 ha hj (by decide))) (View.ld X (xu a j 1 ha hj (by decide))) (View.ld X (xu a j 2 ha hj (by decide)))
    (View.ld O (ou a j ha hj)) (View.ld W (wu j hj))
def dwT : FVec Ideal S128x128 .f32 :=
  dwOf (View.ld X (xu a j 0 ha hj (by decide))) (View.ld X (xu a j 1 ha hj (by decide))) (View.ld X (xu a j 2 ha hj (by decide)))
    (View.ld O (ou a j ha hj)) (View.ld G (gu j hj)) (View.ld L (gu j hj))
def dbT : FVec Ideal S128x1 .f32 :=
  dbOf (View.ld X (xu a j 0 ha hj (by decide))) (View.ld X (xu a j 2 ha hj (by decide))) (View.ld O (ou a j ha hj))

theorem du_piece (x : S128x128.Idx) :
    duT X O G L W B a j ha hj x = grads (h := 512) (tiles (h := 512) X O G L W B) ((xu a j 0 ha hj (by decide)).emb x) := by
  have hr : (x 0).val < 128 := (x 0).isLt
  have hk : (x 1).val < 128 := (x 1).isLt
  refine (congrArg _ (eq_ix2 x)).trans ((duOf_at _ _ _ _ _ _ _ _ (x 0) (x 1)).trans ?_)
  rw [tileOf_ld X O G L W B a j ha hj, unit_at _ _ _ x (by omega) (by omega)]
  unfold grads
  rw [if_pos (by show 512 * 0 + 128 * j + (x 1).val < 512; omega)]
  have h₁ : (128 * a + (x 0).val) / 128 = a := by omega
  have h₂ : grp (512 * 0 + 128 * j + (x 1).val) = ⟨j, hj⟩ := Fin.ext (by show (512 * 0 + 128 * j + (x 1).val) / 128 % 4 = j; omega)
  have h₃ : place (128 * a + (x 0).val) = x 0 := Fin.ext (by show (128 * a + (x 0).val) % 128 = _; omega)
  have h₄ : place (512 * 0 + 128 * j + (x 1).val) = x 1 := Fin.ext (by show (512 * 0 + 128 * j + (x 1).val) % 128 = _; omega)
  show _ = (tiles (h := 512) X O G L W B ((128 * a + (x 0).val) / 128) (grp (512 * 0 + 128 * j + (x 1).val))).du (place (128 * a + (x 0).val)) (place (512 * 0 + 128 * j + (x 1).val))
  rw [h₁, h₂, h₃, h₄]

theorem dv_piece (x : S128x128.Idx) :
    dvT X O G W a j ha hj x = grads (h := 512) (tiles (h := 512) X O G L W B) ((xu a j 1 ha hj (by decide)).emb x) := by
  have hr : (x 0).val < 128 := (x 0).isLt
  have hk : (x 1).val < 128 := (x 1).isLt
  refine (congrArg _ (eq_ix2 x)).trans ((dvOf_at _ _ _ _ (biasOf B j) _ (View.ld L (gu j hj)) _ (x 0) (x 1)).trans ?_)
  rw [tileOf_ld X O G L W B a j ha hj, unit_at _ _ _ x (by omega) (by omega)]
  unfold grads
  rw [if_neg (by show ¬512 * 1 + 128 * j + (x 1).val < 512; omega), if_pos (by show 512 * 1 + 128 * j + (x 1).val < 1024; omega)]
  have h₁ : (128 * a + (x 0).val) / 128 = a := by omega
  have h₂ : grp (512 * 1 + 128 * j + (x 1).val) = ⟨j, hj⟩ := Fin.ext (by show (512 * 1 + 128 * j + (x 1).val) / 128 % 4 = j; omega)
  have h₃ : place (128 * a + (x 0).val) = x 0 := Fin.ext (by show (128 * a + (x 0).val) % 128 = _; omega)
  have h₄ : place (512 * 1 + 128 * j + (x 1).val) = x 1 := Fin.ext (by show (512 * 1 + 128 * j + (x 1).val) % 128 = _; omega)
  show _ = (tiles (h := 512) X O G L W B ((128 * a + (x 0).val) / 128) (grp (512 * 1 + 128 * j + (x 1).val))).dv (place (128 * a + (x 0).val)) (place (512 * 1 + 128 * j + (x 1).val))
  rw [h₁, h₂, h₃, h₄]

theorem dz_piece (x : S128x128.Idx) :
    dzT X O G L W B a j ha hj x = grads (h := 512) (tiles (h := 512) X O G L W B) ((xu a j 2 ha hj (by decide)).emb x) := by
  have hr : (x 0).val < 128 := (x 0).isLt
  have hk : (x 1).val < 128 := (x 1).isLt
  refine (congrArg _ (eq_ix2 x)).trans ((dzOf_at _ _ _ _ _ _ _ _ (x 0) (x 1)).trans ?_)
  rw [tileOf_ld X O G L W B a j ha hj, unit_at _ _ _ x (by omega) (by omega)]
  unfold grads
  rw [if_neg (by show ¬512 * 2 + 128 * j + (x 1).val < 512; omega), if_neg (by show ¬512 * 2 + 128 * j + (x 1).val < 1024; omega)]
  have h₁ : (128 * a + (x 0).val) / 128 = a := by omega
  have h₂ : grp (512 * 2 + 128 * j + (x 1).val) = ⟨j, hj⟩ := Fin.ext (by show (512 * 2 + 128 * j + (x 1).val) / 128 % 4 = j; omega)
  have h₃ : place (128 * a + (x 0).val) = x 0 := Fin.ext (by show (128 * a + (x 0).val) % 128 = _; omega)
  have h₄ : place (512 * 2 + 128 * j + (x 1).val) = x 1 := Fin.ext (by show (512 * 2 + 128 * j + (x 1).val) % 128 = _; omega)
  show _ = (tiles (h := 512) X O G L W B ((128 * a + (x 0).val) / 128) (grp (512 * 2 + 128 * j + (x 1).val))).dz (place (128 * a + (x 0).val)) (place (512 * 2 + 128 * j + (x 1).val))
  rw [h₁, h₂, h₃, h₄]

/-- A share added to what a row holds. -/
theorem add_row (d old : Vec Ideal S1x128 .f32) (x : S1x128.Idx) : k0_pay46 (F := Ideal) d old x = (old x + d x : EReal) := by
  pointwise [k0_pay46]

theorem gain_piece (P : Vec Ideal S1x512 .f32) (x : S1x128.Idx) :
    k0_pay46 (dgT X O W 3 j (by decide) hj) (k0_pay46 (dgT X O W 2 j (by decide) hj) (k0_pay46 (dgT X O W 1 j (by decide) hj)
        (k0_pay46 (dgT X O W 0 j (by decide) hj) (View.ld P (gu j hj))))) x
      = (P ((gu j hj).emb x) + gainSum 4 (tiles (h := 512) X O G L W B) ((gu j hj).emb x) : EReal) := by
  have hk : (x 1).val < 128 := (x 1).isLt
  have hg : grp (128 * j + (x 1).val) = ⟨j, hj⟩ := Fin.ext (by show (128 * j + (x 1).val) / 128 % 4 = j; omega)
  have hp : place (128 * j + (x 1).val) = x 1 := Fin.ext (by show (128 * j + (x 1).val) % 128 = _; omega)
  have hd : ∀ (a : ℕ) (ha : a < 4), dgT X O W a j ha hj x = (tiles (h := 512) X O G L W B a ⟨j, hj⟩).dg (x 1) := fun a ha => by
    refine (congrArg _ (eq_ix2 x)).trans ?_
    rw [← tileOf_ld X O G L W B a j ha hj, Fin.fin_one_eq_zero (x 0)]
    exact dgOf_at _ _ _ _ _ _ _ _ (x 1)
  rw [add_row, add_row, add_row, add_row, hd, hd, hd, hd]
  unfold gainSum
  show _ = (_ + ∑ n : Fin 4, (tiles (h := 512) X O G L W B n.val (grp ((gu j hj).emb x 1).val)).dg (place ((gu j hj).emb x 1).val) : EReal)
  rw [unit_at _ _ _ x (by have : (x 0).val < 1 := (x 0).isLt; omega) (by omega)]
  show _ = (_ + ∑ n : Fin 4, (tiles (h := 512) X O G L W B n.val (grp (128 * j + (x 1).val))).dg (place (128 * j + (x 1).val)) : EReal)
  rw [hg, hp]
  refine four _ _ _ _ _ (fun n => (tiles (h := 512) X O G L W B n.val ⟨j, hj⟩).dg (x 1)) rfl rfl rfl rfl |>.trans ?_
  exact congrArg (· + _) (congrArg P (unit_at _ _ _ x _ _))

theorem offset_piece (P : Vec Ideal S1x512 .f32) (x : S1x128.Idx) :
    k0_pay46 (dlT X O W 3 j (by decide) hj) (k0_pay46 (dlT X O W 2 j (by decide) hj) (k0_pay46 (dlT X O W 1 j (by decide) hj)
        (k0_pay46 (dlT X O W 0 j (by decide) hj) (View.ld P (gu j hj))))) x
      = (P ((gu j hj).emb x) + offsetSum 4 (tiles (h := 512) X O G L W B) ((gu j hj).emb x) : EReal) := by
  have hk : (x 1).val < 128 := (x 1).isLt
  have hg : grp (128 * j + (x 1).val) = ⟨j, hj⟩ := Fin.ext (by show (128 * j + (x 1).val) / 128 % 4 = j; omega)
  have hp : place (128 * j + (x 1).val) = x 1 := Fin.ext (by show (128 * j + (x 1).val) % 128 = _; omega)
  have hd : ∀ (a : ℕ) (ha : a < 4), dlT X O W a j ha hj x = (tiles (h := 512) X O G L W B a ⟨j, hj⟩).dl (x 1) := fun a ha => by
    refine (congrArg _ (eq_ix2 x)).trans ?_
    rw [← tileOf_ld X O G L W B a j ha hj, Fin.fin_one_eq_zero (x 0)]
    exact dlOf_at _ (View.ld X (xu a j 1 ha hj (by decide))) _ _ _ _ _ _ (x 1)
  rw [add_row, add_row, add_row, add_row, hd, hd, hd, hd]
  unfold offsetSum
  show _ = (_ + ∑ n : Fin 4, (tiles (h := 512) X O G L W B n.val (grp ((gu j hj).emb x 1).val)).dl (place ((gu j hj).emb x 1).val) : EReal)
  rw [unit_at _ _ _ x (by have : (x 0).val < 1 := (x 0).isLt; omega) (by omega)]
  show _ = (_ + ∑ n : Fin 4, (tiles (h := 512) X O G L W B n.val (grp (128 * j + (x 1).val))).dl (place (128 * j + (x 1).val)) : EReal)
  rw [hg, hp]
  refine four _ _ _ _ _ (fun n => (tiles (h := 512) X O G L W B n.val ⟨j, hj⟩).dl (x 1)) rfl rfl rfl rfl |>.trans ?_
  exact congrArg (· + _) (congrArg P (unit_at _ _ _ x _ _))

/-- A share added to what a group's weights hold. -/
theorem add_square (d : FVec Ideal S128x128 .f32) (old : Vec Ideal S1x128x128 .f32) (r s : Fin 128) :
    k0_pay47 (F := Ideal) d old (ix3 0 r s) = (old (ix3 0 r s) + d (ix2 r s) : EReal) := by
  pointwise [k0_pay47]

theorem weight_piece (P : Vec Ideal S4x128x128 .f32) (x : S1x128x128.Idx) :
    k0_pay47 (dwT X O G L 3 j (by decide) hj) (k0_pay47 (dwT X O G L 2 j (by decide) hj) (k0_pay47 (dwT X O G L 1 j (by decide) hj)
        (k0_pay47 (dwT X O G L 0 j (by decide) hj) (View.ld P (wu j hj))))) x
      = (P ((wu j hj).emb x) + weightSum 4 (tiles (h := 512) X O G L W B) ((wu j hj).emb x) : EReal) := by
  obtain ⟨p, q, rfl⟩ : ∃ p q : Fin 128, x = ix3 0 p q := ⟨x 1, x 2, funext fun i => by
    fin_cases i
    exacts [Fin.fin_one_eq_zero (x 0), rfl, rfl]⟩
  have he : (wu j hj).emb (ix3 0 p q) = ix3 ⟨j, hj⟩ p q :=
    (unit_at3 _ _ (ix3 0 p q) (by show j + 0 < 4; omega) p.isLt q.isLt).trans rfl
  have hd : ∀ (a : ℕ) (ha : a < 4), dwT X O G L a j ha hj (ix2 p q) = (tiles (h := 512) X O G L W B a ⟨j, hj⟩).dw p q := fun a ha => by
    rw [← tileOf_ld X O G L W B a j ha hj]
    exact dwOf_at _ _ _ _ _ _ _ _ p q
  rw [add_square, add_square, add_square, add_square, hd, hd, hd, hd]
  refine (four _ _ _ _ _ (fun n => (tiles (h := 512) X O G L W B n.val ⟨j, hj⟩).dw p q) rfl rfl rfl rfl).trans ?_
  rw [he]
  exact congrArg (· + _) (congrArg P he)

/-- A share added to column `j` of what the bias holds. -/
def addCol (j : ℕ) (d : FVec Ideal S128x1 .f32) (old : Vec Ideal S128x4 .f32) : FVec Ideal S128x4 .f32 :=
  addf (shapeCast S128x4 old shapeCasts_S128x4_S128x4) (mulf (broadcastTo S128x4 d broadcasts_S128x1_S128x4)
    (broadcastTo S128x4 (sitofp .f32 (extui 32 (cmpi .eq (iota .tc S1x4 32 [1] iota_S1x4_d1_w32) (broadcast S1x4 (BitVec.ofNat 32 j))) natLt_1_32))
      broadcasts_S1x4_S128x4))

theorem hot (k j : Fin 4) : FloatOps.sitofp (F := Ideal) .f32 (BitVec.setWidth 32 (IntOp.cmpi .eq (BitVec.ofNat 32 k.val) (BitVec.ofNat 32 j.val)))
    = if k = j then (1 : EReal) else 0 := by
  have : BitVec.setWidth 32 (IntOp.cmpi .eq (BitVec.ofNat 32 k.val) (BitVec.ofNat 32 j.val)) = if k = j then 1#32 else 0#32 := by
    revert k j; decide
  rw [this]
  split <;> simp [FloatOps.sitofp]

theorem addCol_at (j : Fin 4) (d : FVec Ideal S128x1 .f32) (old : Vec Ideal S128x4 .f32) (r : Fin 128) (k : Fin 4) :
    addCol j.val d old (ix2 r k) = (old (ix2 r k) + (if k = j then d (ix2 r 0) else 0) : EReal) := by
  pointwise [addCol]
  rw [hot]
  split <;> simp

/-- What a chunk does to what the bias holds. -/
def addCols (a : ℕ) (ha : a < 4) (old : Vec Ideal S128x4 .f32) : Vec Ideal S128x4 .f32 :=
  addCol 3 (dbT X O a 3 ha (by decide)) (addCol 2 (dbT X O a 2 ha (by decide)) (addCol 1 (dbT X O a 1 ha (by decide)) (addCol 0 (dbT X O a 0 ha (by decide)) old)))

theorem addCols_at (old : Vec Ideal S128x4 .f32) (r : Fin 128) (k : Fin 4) :
    addCols X O a ha old (ix2 r k) = (old (ix2 r k) + (tiles (h := 512) X O G L W B a k).db r : EReal) := by
  have hd : ∀ (j : ℕ) (hj : j < 4), dbT X O a j ha hj (ix2 r 0) = (tiles (h := 512) X O G L W B a ⟨j, hj⟩).db r := fun j hj => by
    rw [← tileOf_ld X O G L W B a j ha hj]
    exact dbOf_at _ _ _ _ _ _ _ _ r
  unfold addCols
  refine (addCol_at 3 _ _ r k).trans ?_
  rw [show addCol 2 _ _ (ix2 r k) = _ from addCol_at 2 _ _ r k, show addCol 1 _ _ (ix2 r k) = _ from addCol_at 1 _ _ r k,
    show addCol 0 _ _ (ix2 r k) = _ from addCol_at 0 _ _ r k, hd, hd, hd, hd]
  fin_cases k <;> simp

theorem bias_piece (P : Vec Ideal S128x4 .f32) (y : S128x4.Idx) :
    addCols X O 3 (by decide) (addCols X O 2 (by decide) (addCols X O 1 (by decide) (addCols X O 0 (by decide) P))) y
      = (P y + biasSum 4 (tiles (h := 512) X O G L W B) y : EReal) := by
  obtain ⟨r, k, rfl⟩ : ∃ (r : Fin 128) (k : Fin 4), y = ix2 r k := ⟨y 0, y 1, eq_ix2 y⟩
  rw [addCols_at X O G L W B, addCols_at X O G L W B, addCols_at X O G L W B, addCols_at X O G L W B]
  exact four _ _ _ _ _ (fun n => (tiles (h := 512) X O G L W B n.val k).db r) rfl rfl rfl rfl

end Pieces

/-! ## What a block leaves -/

variable (m : (ℓ : Loc nD τ sig) → Buf (Elt Ideal) ℓ) (c : Dev nD) (t : Fin cfg0.N)

/-- The tiles of block `t`. -/
abbrev blkTiles : ℕ → Fin 4 → Tile := tiles (h := 512) (iblk m c 0 t) (iblk m c 1 t) (iblk m c 2 t) (iblk m c 3 t) (iblk m c 4 t) (iblk m c 5 t)

theorem gain_first (h0 : t.val % 16 = 0) (y : S1x512.Idx) : (outsAt0 m c t.val t.isLt).2.1 y = (0 + gainSum 4 (blkTiles m c t) y : EReal) := by
  rw [outsAt0_A m c t h0]
  frame_out [↓View.readCov_skip, ↓View.readCov_fill, ↓View.readCov_cons_toLoadRect]
  refine (View.canon_append_of_piecesOf (Val := Elt Ideal) (e := .f32) (fun y => (k0_pay3 (F := Ideal) y + gainSum 4 (blkTiles m c t) y : EReal)) _ [_, _, _, _] ?_ y
    (View.cover_of_tiled _ ![1, 128] (by rfl) y)).trans (congrArg (· + _) (show k0_pay3 (F := Ideal) y = (0 : EReal) by pointwise [k0_pay3]))
  refine ⟨fun x => ?_, fun x => ?_, fun x => ?_, fun x => ?_, trivial⟩
  · exact gain_piece (iblk m c 0 t) (iblk m c 1 t) (iblk m c 2 t) (iblk m c 3 t) (iblk m c 4 t) (iblk m c 5 t) 3 (by decide) (k0_pay3 (F := Ideal)) x
  · exact gain_piece (iblk m c 0 t) (iblk m c 1 t) (iblk m c 2 t) (iblk m c 3 t) (iblk m c 4 t) (iblk m c 5 t) 2 (by decide) (k0_pay3 (F := Ideal)) x
  · exact gain_piece (iblk m c 0 t) (iblk m c 1 t) (iblk m c 2 t) (iblk m c 3 t) (iblk m c 4 t) (iblk m c 5 t) 1 (by decide) (k0_pay3 (F := Ideal)) x
  · exact gain_piece (iblk m c 0 t) (iblk m c 1 t) (iblk m c 2 t) (iblk m c 3 t) (iblk m c 4 t) (iblk m c 5 t) 0 (by decide) (k0_pay3 (F := Ideal)) x

theorem gain_next (h0 : ¬t.val % 16 = 0) (y : S1x512.Idx) : (outsAt0 m c t.val t.isLt).2.1 y
    = ((outsAt0 m c (t.val - 1) (Nat.lt_of_le_of_lt (Nat.sub_le _ _) t.isLt)).2.1 y + gainSum 4 (blkTiles m c t) y : EReal) := by
  generalize hP : (outsAt0 m c (t.val - 1) (Nat.lt_of_le_of_lt (Nat.sub_le _ _) t.isLt)).2.1 = P
  rw [outsAt0_B m c t h0]
  frame_out [↓View.readCov_skip, ↓View.readCov_fill, ↓View.readCov_cons_toLoadRect]
  rw [hP]
  refine View.canon_append_of_piecesOf (Val := Elt Ideal) (e := .f32) (fun y => (P y + gainSum 4 (blkTiles m c t) y : EReal)) _ [_, _, _, _] ?_ y
    (View.cover_of_tiled _ ![1, 128] (by rfl) y)
  refine ⟨fun x => ?_, fun x => ?_, fun x => ?_, fun x => ?_, trivial⟩
  · exact gain_piece (iblk m c 0 t) (iblk m c 1 t) (iblk m c 2 t) (iblk m c 3 t) (iblk m c 4 t) (iblk m c 5 t) 3 (by decide) P x
  · exact gain_piece (iblk m c 0 t) (iblk m c 1 t) (iblk m c 2 t) (iblk m c 3 t) (iblk m c 4 t) (iblk m c 5 t) 2 (by decide) P x
  · exact gain_piece (iblk m c 0 t) (iblk m c 1 t) (iblk m c 2 t) (iblk m c 3 t) (iblk m c 4 t) (iblk m c 5 t) 1 (by decide) P x
  · exact gain_piece (iblk m c 0 t) (iblk m c 1 t) (iblk m c 2 t) (iblk m c 3 t) (iblk m c 4 t) (iblk m c 5 t) 0 (by decide) P x

theorem offset_first (h0 : t.val % 16 = 0) (y : S1x512.Idx) : (outsAt0 m c t.val t.isLt).2.2.1 y = (0 + offsetSum 4 (blkTiles m c t) y : EReal) := by
  rw [outsAt0_A m c t h0]
  frame_out [↓View.readCov_skip, ↓View.readCov_fill, ↓View.readCov_cons_toLoadRect]
  refine (View.canon_append_of_piecesOf (Val := Elt Ideal) (e := .f32) (fun y => (k0_pay4 (F := Ideal) y + offsetSum 4 (blkTiles m c t) y : EReal)) _ [_, _, _, _] ?_ y
    (View.cover_of_tiled _ ![1, 128] (by rfl) y)).trans (congrArg (· + _) (show k0_pay4 (F := Ideal) y = (0 : EReal) by pointwise [k0_pay4]))
  refine ⟨fun x => ?_, fun x => ?_, fun x => ?_, fun x => ?_, trivial⟩
  · exact offset_piece (iblk m c 0 t) (iblk m c 1 t) (iblk m c 2 t) (iblk m c 3 t) (iblk m c 4 t) (iblk m c 5 t) 3 (by decide) (k0_pay4 (F := Ideal)) x
  · exact offset_piece (iblk m c 0 t) (iblk m c 1 t) (iblk m c 2 t) (iblk m c 3 t) (iblk m c 4 t) (iblk m c 5 t) 2 (by decide) (k0_pay4 (F := Ideal)) x
  · exact offset_piece (iblk m c 0 t) (iblk m c 1 t) (iblk m c 2 t) (iblk m c 3 t) (iblk m c 4 t) (iblk m c 5 t) 1 (by decide) (k0_pay4 (F := Ideal)) x
  · exact offset_piece (iblk m c 0 t) (iblk m c 1 t) (iblk m c 2 t) (iblk m c 3 t) (iblk m c 4 t) (iblk m c 5 t) 0 (by decide) (k0_pay4 (F := Ideal)) x

theorem offset_next (h0 : ¬t.val % 16 = 0) (y : S1x512.Idx) : (outsAt0 m c t.val t.isLt).2.2.1 y
    = ((outsAt0 m c (t.val - 1) (Nat.lt_of_le_of_lt (Nat.sub_le _ _) t.isLt)).2.2.1 y + offsetSum 4 (blkTiles m c t) y : EReal) := by
  generalize hP : (outsAt0 m c (t.val - 1) (Nat.lt_of_le_of_lt (Nat.sub_le _ _) t.isLt)).2.2.1 = P
  rw [outsAt0_B m c t h0]
  frame_out [↓View.readCov_skip, ↓View.readCov_fill, ↓View.readCov_cons_toLoadRect]
  rw [hP]
  refine View.canon_append_of_piecesOf (Val := Elt Ideal) (e := .f32) (fun y => (P y + offsetSum 4 (blkTiles m c t) y : EReal)) _ [_, _, _, _] ?_ y
    (View.cover_of_tiled _ ![1, 128] (by rfl) y)
  refine ⟨fun x => ?_, fun x => ?_, fun x => ?_, fun x => ?_, trivial⟩
  · exact offset_piece (iblk m c 0 t) (iblk m c 1 t) (iblk m c 2 t) (iblk m c 3 t) (iblk m c 4 t) (iblk m c 5 t) 3 (by decide) P x
  · exact offset_piece (iblk m c 0 t) (iblk m c 1 t) (iblk m c 2 t) (iblk m c 3 t) (iblk m c 4 t) (iblk m c 5 t) 2 (by decide) P x
  · exact offset_piece (iblk m c 0 t) (iblk m c 1 t) (iblk m c 2 t) (iblk m c 3 t) (iblk m c 4 t) (iblk m c 5 t) 1 (by decide) P x
  · exact offset_piece (iblk m c 0 t) (iblk m c 1 t) (iblk m c 2 t) (iblk m c 3 t) (iblk m c 4 t) (iblk m c 5 t) 0 (by decide) P x

theorem weight_first (h0 : t.val % 16 = 0) (y : S4x128x128.Idx) : (outsAt0 m c t.val t.isLt).2.2.2.1 y = (0 + weightSum 4 (blkTiles m c t) y : EReal) := by
  rw [outsAt0_A m c t h0]
  frame_out [↓View.readCov_skip, ↓View.readCov_fill, ↓View.readCov_cons_toLoadRect]
  refine (View.canon_append_of_piecesOf (Val := Elt Ideal) (e := .f32) (fun y => (k0_pay5 (F := Ideal) y + weightSum 4 (blkTiles m c t) y : EReal)) _ [_, _, _, _] ?_ y
    (View.cover_of_tiled _ ![1, 128, 128] (by rfl) y)).trans (congrArg (· + _) (show k0_pay5 (F := Ideal) y = (0 : EReal) by pointwise [k0_pay5]))
  refine ⟨fun x => ?_, fun x => ?_, fun x => ?_, fun x => ?_, trivial⟩
  · exact weight_piece (iblk m c 0 t) (iblk m c 1 t) (iblk m c 2 t) (iblk m c 3 t) (iblk m c 4 t) (iblk m c 5 t) 3 (by decide) (k0_pay5 (F := Ideal)) x
  · exact weight_piece (iblk m c 0 t) (iblk m c 1 t) (iblk m c 2 t) (iblk m c 3 t) (iblk m c 4 t) (iblk m c 5 t) 2 (by decide) (k0_pay5 (F := Ideal)) x
  · exact weight_piece (iblk m c 0 t) (iblk m c 1 t) (iblk m c 2 t) (iblk m c 3 t) (iblk m c 4 t) (iblk m c 5 t) 1 (by decide) (k0_pay5 (F := Ideal)) x
  · exact weight_piece (iblk m c 0 t) (iblk m c 1 t) (iblk m c 2 t) (iblk m c 3 t) (iblk m c 4 t) (iblk m c 5 t) 0 (by decide) (k0_pay5 (F := Ideal)) x

theorem weight_next (h0 : ¬t.val % 16 = 0) (y : S4x128x128.Idx) : (outsAt0 m c t.val t.isLt).2.2.2.1 y
    = ((outsAt0 m c (t.val - 1) (Nat.lt_of_le_of_lt (Nat.sub_le _ _) t.isLt)).2.2.2.1 y + weightSum 4 (blkTiles m c t) y : EReal) := by
  generalize hP : (outsAt0 m c (t.val - 1) (Nat.lt_of_le_of_lt (Nat.sub_le _ _) t.isLt)).2.2.2.1 = P
  rw [outsAt0_B m c t h0]
  frame_out [↓View.readCov_skip, ↓View.readCov_fill, ↓View.readCov_cons_toLoadRect]
  rw [hP]
  refine View.canon_append_of_piecesOf (Val := Elt Ideal) (e := .f32) (fun y => (P y + weightSum 4 (blkTiles m c t) y : EReal)) _ [_, _, _, _] ?_ y
    (View.cover_of_tiled _ ![1, 128, 128] (by rfl) y)
  refine ⟨fun x => ?_, fun x => ?_, fun x => ?_, fun x => ?_, trivial⟩
  · exact weight_piece (iblk m c 0 t) (iblk m c 1 t) (iblk m c 2 t) (iblk m c 3 t) (iblk m c 4 t) (iblk m c 5 t) 3 (by decide) P x
  · exact weight_piece (iblk m c 0 t) (iblk m c 1 t) (iblk m c 2 t) (iblk m c 3 t) (iblk m c 4 t) (iblk m c 5 t) 2 (by decide) P x
  · exact weight_piece (iblk m c 0 t) (iblk m c 1 t) (iblk m c 2 t) (iblk m c 3 t) (iblk m c 4 t) (iblk m c 5 t) 1 (by decide) P x
  · exact weight_piece (iblk m c 0 t) (iblk m c 1 t) (iblk m c 2 t) (iblk m c 3 t) (iblk m c 4 t) (iblk m c 5 t) 0 (by decide) P x

theorem bias_first (h0 : t.val % 16 = 0) (y : S128x4.Idx) : (outsAt0 m c t.val t.isLt).2.2.2.2 y = (0 + biasSum 4 (blkTiles m c t) y : EReal) := by
  rw [outsAt0_A m c t h0]
  frame_out [↓View.readCov_skip, ↓View.readCov_fill, ↓View.readCov_cons_toLoadRect]
  exact (bias_piece (iblk m c 0 t) (iblk m c 1 t) (iblk m c 2 t) (iblk m c 3 t) (iblk m c 4 t) (iblk m c 5 t) (k0_pay6 (F := Ideal)) y).trans (congrArg (· + _) (show k0_pay6 (F := Ideal) y = (0 : EReal) by pointwise [k0_pay6]))

theorem bias_next (h0 : ¬t.val % 16 = 0) (y : S128x4.Idx) : (outsAt0 m c t.val t.isLt).2.2.2.2 y
    = ((outsAt0 m c (t.val - 1) (Nat.lt_of_le_of_lt (Nat.sub_le _ _) t.isLt)).2.2.2.2 y + biasSum 4 (blkTiles m c t) y : EReal) := by
  generalize hP : (outsAt0 m c (t.val - 1) (Nat.lt_of_le_of_lt (Nat.sub_le _ _) t.isLt)).2.2.2.2 = P
  rw [outsAt0_B m c t h0]
  frame_out [↓View.readCov_skip, ↓View.readCov_fill, ↓View.readCov_cons_toLoadRect]
  rw [hP]
  exact bias_piece (iblk m c 0 t) (iblk m c 1 t) (iblk m c 2 t) (iblk m c 3 t) (iblk m c 4 t) (iblk m c 5 t) P y

/-- Stores that are all parts of `G` and cover the block leave `G`. -/
theorem canon_of_pieces (G : S512x1536.Idx → EReal) (L : List (View.Piece (Elt Ideal) S512x1536 .f32)) (h : View.PiecesOf (Val := Elt Ideal) (e := .f32) G L)
    (y : S512x1536.Idx) (hc : ∃ p ∈ L, y ∈ p.1.set) : View.canon L y = G y := by
  have := View.canon_append_of_piecesOf (Val := Elt Ideal) (e := .f32) G [] L h y hc
  rwa [List.append_nil] at this

theorem rows_at (y : S512x1536.Idx) : (outsAt0 m c t.val t.isLt).1 y = grads (h := 512) (blkTiles m c t) y := by
  by_cases h0 : t.val % 16 = 0
  · rw [outsAt0_A m c t h0]
    frame_out
    refine canon_of_pieces (grads (h := 512) (blkTiles m c t)) _ ?_ y (View.cover_of_tiledL _ ![128, 128] (by sl_kernel_rfl) y)
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · exact dz_piece (iblk m c 0 t) (iblk m c 1 t) (iblk m c 2 t) (iblk m c 3 t) (iblk m c 4 t) (iblk m c 5 t) 3 3 (by decide) (by decide) x
    · exact dv_piece (iblk m c 0 t) (iblk m c 1 t) (iblk m c 2 t) (iblk m c 3 t) (iblk m c 4 t) (iblk m c 5 t) 3 3 (by decide) (by decide) x
    · exact du_piece (iblk m c 0 t) (iblk m c 1 t) (iblk m c 2 t) (iblk m c 3 t) (iblk m c 4 t) (iblk m c 5 t) 3 3 (by decide) (by decide) x
    · exact dz_piece (iblk m c 0 t) (iblk m c 1 t) (iblk m c 2 t) (iblk m c 3 t) (iblk m c 4 t) (iblk m c 5 t) 3 2 (by decide) (by decide) x
    · exact dv_piece (iblk m c 0 t) (iblk m c 1 t) (iblk m c 2 t) (iblk m c 3 t) (iblk m c 4 t) (iblk m c 5 t) 3 2 (by decide) (by decide) x
    · exact du_piece (iblk m c 0 t) (iblk m c 1 t) (iblk m c 2 t) (iblk m c 3 t) (iblk m c 4 t) (iblk m c 5 t) 3 2 (by decide) (by decide) x
    · exact dz_piece (iblk m c 0 t) (iblk m c 1 t) (iblk m c 2 t) (iblk m c 3 t) (iblk m c 4 t) (iblk m c 5 t) 3 1 (by decide) (by decide) x
    · exact dv_piece (iblk m c 0 t) (iblk m c 1 t) (iblk m c 2 t) (iblk m c 3 t) (iblk m c 4 t) (iblk m c 5 t) 3 1 (by decide) (by decide) x
    · exact du_piece (iblk m c 0 t) (iblk m c 1 t) (iblk m c 2 t) (iblk m c 3 t) (iblk m c 4 t) (iblk m c 5 t) 3 1 (by decide) (by decide) x
    · exact dz_piece (iblk m c 0 t) (iblk m c 1 t) (iblk m c 2 t) (iblk m c 3 t) (iblk m c 4 t) (iblk m c 5 t) 3 0 (by decide) (by decide) x
    · exact dv_piece (iblk m c 0 t) (iblk m c 1 t) (iblk m c 2 t) (iblk m c 3 t) (iblk m c 4 t) (iblk m c 5 t) 3 0 (by decide) (by decide) x
    · exact du_piece (iblk m c 0 t) (iblk m c 1 t) (iblk m c 2 t) (iblk m c 3 t) (iblk m c 4 t) (iblk m c 5 t) 3 0 (by decide) (by decide) x
    · exact dz_piece (iblk m c 0 t) (iblk m c 1 t) (iblk m c 2 t) (iblk m c 3 t) (iblk m c 4 t) (iblk m c 5 t) 2 3 (by decide) (by decide) x
    · exact dv_piece (iblk m c 0 t) (iblk m c 1 t) (iblk m c 2 t) (iblk m c 3 t) (iblk m c 4 t) (iblk m c 5 t) 2 3 (by decide) (by decide) x
    · exact du_piece (iblk m c 0 t) (iblk m c 1 t) (iblk m c 2 t) (iblk m c 3 t) (iblk m c 4 t) (iblk m c 5 t) 2 3 (by decide) (by decide) x
    · exact dz_piece (iblk m c 0 t) (iblk m c 1 t) (iblk m c 2 t) (iblk m c 3 t) (iblk m c 4 t) (iblk m c 5 t) 2 2 (by decide) (by decide) x
    · exact dv_piece (iblk m c 0 t) (iblk m c 1 t) (iblk m c 2 t) (iblk m c 3 t) (iblk m c 4 t) (iblk m c 5 t) 2 2 (by decide) (by decide) x
    · exact du_piece (iblk m c 0 t) (iblk m c 1 t) (iblk m c 2 t) (iblk m c 3 t) (iblk m c 4 t) (iblk m c 5 t) 2 2 (by decide) (by decide) x
    · exact dz_piece (iblk m c 0 t) (iblk m c 1 t) (iblk m c 2 t) (iblk m c 3 t) (iblk m c 4 t) (iblk m c 5 t) 2 1 (by decide) (by decide) x
    · exact dv_piece (iblk m c 0 t) (iblk m c 1 t) (iblk m c 2 t) (iblk m c 3 t) (iblk m c 4 t) (iblk m c 5 t) 2 1 (by decide) (by decide) x
    · exact du_piece (iblk m c 0 t) (iblk m c 1 t) (iblk m c 2 t) (iblk m c 3 t) (iblk m c 4 t) (iblk m c 5 t) 2 1 (by decide) (by decide) x
    · exact dz_piece (iblk m c 0 t) (iblk m c 1 t) (iblk m c 2 t) (iblk m c 3 t) (iblk m c 4 t) (iblk m c 5 t) 2 0 (by decide) (by decide) x
    · exact dv_piece (iblk m c 0 t) (iblk m c 1 t) (iblk m c 2 t) (iblk m c 3 t) (iblk m c 4 t) (iblk m c 5 t) 2 0 (by decide) (by decide) x
    · exact du_piece (iblk m c 0 t) (iblk m c 1 t) (iblk m c 2 t) (iblk m c 3 t) (iblk m c 4 t) (iblk m c 5 t) 2 0 (by decide) (by decide) x
    · exact dz_piece (iblk m c 0 t) (iblk m c 1 t) (iblk m c 2 t) (iblk m c 3 t) (iblk m c 4 t) (iblk m c 5 t) 1 3 (by decide) (by decide) x
    · exact dv_piece (iblk m c 0 t) (iblk m c 1 t) (iblk m c 2 t) (iblk m c 3 t) (iblk m c 4 t) (iblk m c 5 t) 1 3 (by decide) (by decide) x
    · exact du_piece (iblk m c 0 t) (iblk m c 1 t) (iblk m c 2 t) (iblk m c 3 t) (iblk m c 4 t) (iblk m c 5 t) 1 3 (by decide) (by decide) x
    · exact dz_piece (iblk m c 0 t) (iblk m c 1 t) (iblk m c 2 t) (iblk m c 3 t) (iblk m c 4 t) (iblk m c 5 t) 1 2 (by decide) (by decide) x
    · exact dv_piece (iblk m c 0 t) (iblk m c 1 t) (iblk m c 2 t) (iblk m c 3 t) (iblk m c 4 t) (iblk m c 5 t) 1 2 (by decide) (by decide) x
    · exact du_piece (iblk m c 0 t) (iblk m c 1 t) (iblk m c 2 t) (iblk m c 3 t) (iblk m c 4 t) (iblk m c 5 t) 1 2 (by decide) (by decide) x
    · exact dz_piece (iblk m c 0 t) (iblk m c 1 t) (iblk m c 2 t) (iblk m c 3 t) (iblk m c 4 t) (iblk m c 5 t) 1 1 (by decide) (by decide) x
    · exact dv_piece (iblk m c 0 t) (iblk m c 1 t) (iblk m c 2 t) (iblk m c 3 t) (iblk m c 4 t) (iblk m c 5 t) 1 1 (by decide) (by decide) x
    · exact du_piece (iblk m c 0 t) (iblk m c 1 t) (iblk m c 2 t) (iblk m c 3 t) (iblk m c 4 t) (iblk m c 5 t) 1 1 (by decide) (by decide) x
    · exact dz_piece (iblk m c 0 t) (iblk m c 1 t) (iblk m c 2 t) (iblk m c 3 t) (iblk m c 4 t) (iblk m c 5 t) 1 0 (by decide) (by decide) x
    · exact dv_piece (iblk m c 0 t) (iblk m c 1 t) (iblk m c 2 t) (iblk m c 3 t) (iblk m c 4 t) (iblk m c 5 t) 1 0 (by decide) (by decide) x
    · exact du_piece (iblk m c 0 t) (iblk m c 1 t) (iblk m c 2 t) (iblk m c 3 t) (iblk m c 4 t) (iblk m c 5 t) 1 0 (by decide) (by decide) x
    · exact dz_piece (iblk m c 0 t) (iblk m c 1 t) (iblk m c 2 t) (iblk m c 3 t) (iblk m c 4 t) (iblk m c 5 t) 0 3 (by decide) (by decide) x
    · exact dv_piece (iblk m c 0 t) (iblk m c 1 t) (iblk m c 2 t) (iblk m c 3 t) (iblk m c 4 t) (iblk m c 5 t) 0 3 (by decide) (by decide) x
    · exact du_piece (iblk m c 0 t) (iblk m c 1 t) (iblk m c 2 t) (iblk m c 3 t) (iblk m c 4 t) (iblk m c 5 t) 0 3 (by decide) (by decide) x
    · exact dz_piece (iblk m c 0 t) (iblk m c 1 t) (iblk m c 2 t) (iblk m c 3 t) (iblk m c 4 t) (iblk m c 5 t) 0 2 (by decide) (by decide) x
    · exact dv_piece (iblk m c 0 t) (iblk m c 1 t) (iblk m c 2 t) (iblk m c 3 t) (iblk m c 4 t) (iblk m c 5 t) 0 2 (by decide) (by decide) x
    · exact du_piece (iblk m c 0 t) (iblk m c 1 t) (iblk m c 2 t) (iblk m c 3 t) (iblk m c 4 t) (iblk m c 5 t) 0 2 (by decide) (by decide) x
    · exact dz_piece (iblk m c 0 t) (iblk m c 1 t) (iblk m c 2 t) (iblk m c 3 t) (iblk m c 4 t) (iblk m c 5 t) 0 1 (by decide) (by decide) x
    · exact dv_piece (iblk m c 0 t) (iblk m c 1 t) (iblk m c 2 t) (iblk m c 3 t) (iblk m c 4 t) (iblk m c 5 t) 0 1 (by decide) (by decide) x
    · exact du_piece (iblk m c 0 t) (iblk m c 1 t) (iblk m c 2 t) (iblk m c 3 t) (iblk m c 4 t) (iblk m c 5 t) 0 1 (by decide) (by decide) x
    · exact dz_piece (iblk m c 0 t) (iblk m c 1 t) (iblk m c 2 t) (iblk m c 3 t) (iblk m c 4 t) (iblk m c 5 t) 0 0 (by decide) (by decide) x
    · exact dv_piece (iblk m c 0 t) (iblk m c 1 t) (iblk m c 2 t) (iblk m c 3 t) (iblk m c 4 t) (iblk m c 5 t) 0 0 (by decide) (by decide) x
    · exact du_piece (iblk m c 0 t) (iblk m c 1 t) (iblk m c 2 t) (iblk m c 3 t) (iblk m c 4 t) (iblk m c 5 t) 0 0 (by decide) (by decide) x
  · rw [outsAt0_B m c t h0]
    frame_out
    refine canon_of_pieces (grads (h := 512) (blkTiles m c t)) _ ?_ y (View.cover_of_tiledL _ ![128, 128] (by sl_kernel_rfl) y)
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · exact dz_piece (iblk m c 0 t) (iblk m c 1 t) (iblk m c 2 t) (iblk m c 3 t) (iblk m c 4 t) (iblk m c 5 t) 3 3 (by decide) (by decide) x
    · exact dv_piece (iblk m c 0 t) (iblk m c 1 t) (iblk m c 2 t) (iblk m c 3 t) (iblk m c 4 t) (iblk m c 5 t) 3 3 (by decide) (by decide) x
    · exact du_piece (iblk m c 0 t) (iblk m c 1 t) (iblk m c 2 t) (iblk m c 3 t) (iblk m c 4 t) (iblk m c 5 t) 3 3 (by decide) (by decide) x
    · exact dz_piece (iblk m c 0 t) (iblk m c 1 t) (iblk m c 2 t) (iblk m c 3 t) (iblk m c 4 t) (iblk m c 5 t) 3 2 (by decide) (by decide) x
    · exact dv_piece (iblk m c 0 t) (iblk m c 1 t) (iblk m c 2 t) (iblk m c 3 t) (iblk m c 4 t) (iblk m c 5 t) 3 2 (by decide) (by decide) x
    · exact du_piece (iblk m c 0 t) (iblk m c 1 t) (iblk m c 2 t) (iblk m c 3 t) (iblk m c 4 t) (iblk m c 5 t) 3 2 (by decide) (by decide) x
    · exact dz_piece (iblk m c 0 t) (iblk m c 1 t) (iblk m c 2 t) (iblk m c 3 t) (iblk m c 4 t) (iblk m c 5 t) 3 1 (by decide) (by decide) x
    · exact dv_piece (iblk m c 0 t) (iblk m c 1 t) (iblk m c 2 t) (iblk m c 3 t) (iblk m c 4 t) (iblk m c 5 t) 3 1 (by decide) (by decide) x
    · exact du_piece (iblk m c 0 t) (iblk m c 1 t) (iblk m c 2 t) (iblk m c 3 t) (iblk m c 4 t) (iblk m c 5 t) 3 1 (by decide) (by decide) x
    · exact dz_piece (iblk m c 0 t) (iblk m c 1 t) (iblk m c 2 t) (iblk m c 3 t) (iblk m c 4 t) (iblk m c 5 t) 3 0 (by decide) (by decide) x
    · exact dv_piece (iblk m c 0 t) (iblk m c 1 t) (iblk m c 2 t) (iblk m c 3 t) (iblk m c 4 t) (iblk m c 5 t) 3 0 (by decide) (by decide) x
    · exact du_piece (iblk m c 0 t) (iblk m c 1 t) (iblk m c 2 t) (iblk m c 3 t) (iblk m c 4 t) (iblk m c 5 t) 3 0 (by decide) (by decide) x
    · exact dz_piece (iblk m c 0 t) (iblk m c 1 t) (iblk m c 2 t) (iblk m c 3 t) (iblk m c 4 t) (iblk m c 5 t) 2 3 (by decide) (by decide) x
    · exact dv_piece (iblk m c 0 t) (iblk m c 1 t) (iblk m c 2 t) (iblk m c 3 t) (iblk m c 4 t) (iblk m c 5 t) 2 3 (by decide) (by decide) x
    · exact du_piece (iblk m c 0 t) (iblk m c 1 t) (iblk m c 2 t) (iblk m c 3 t) (iblk m c 4 t) (iblk m c 5 t) 2 3 (by decide) (by decide) x
    · exact dz_piece (iblk m c 0 t) (iblk m c 1 t) (iblk m c 2 t) (iblk m c 3 t) (iblk m c 4 t) (iblk m c 5 t) 2 2 (by decide) (by decide) x
    · exact dv_piece (iblk m c 0 t) (iblk m c 1 t) (iblk m c 2 t) (iblk m c 3 t) (iblk m c 4 t) (iblk m c 5 t) 2 2 (by decide) (by decide) x
    · exact du_piece (iblk m c 0 t) (iblk m c 1 t) (iblk m c 2 t) (iblk m c 3 t) (iblk m c 4 t) (iblk m c 5 t) 2 2 (by decide) (by decide) x
    · exact dz_piece (iblk m c 0 t) (iblk m c 1 t) (iblk m c 2 t) (iblk m c 3 t) (iblk m c 4 t) (iblk m c 5 t) 2 1 (by decide) (by decide) x
    · exact dv_piece (iblk m c 0 t) (iblk m c 1 t) (iblk m c 2 t) (iblk m c 3 t) (iblk m c 4 t) (iblk m c 5 t) 2 1 (by decide) (by decide) x
    · exact du_piece (iblk m c 0 t) (iblk m c 1 t) (iblk m c 2 t) (iblk m c 3 t) (iblk m c 4 t) (iblk m c 5 t) 2 1 (by decide) (by decide) x
    · exact dz_piece (iblk m c 0 t) (iblk m c 1 t) (iblk m c 2 t) (iblk m c 3 t) (iblk m c 4 t) (iblk m c 5 t) 2 0 (by decide) (by decide) x
    · exact dv_piece (iblk m c 0 t) (iblk m c 1 t) (iblk m c 2 t) (iblk m c 3 t) (iblk m c 4 t) (iblk m c 5 t) 2 0 (by decide) (by decide) x
    · exact du_piece (iblk m c 0 t) (iblk m c 1 t) (iblk m c 2 t) (iblk m c 3 t) (iblk m c 4 t) (iblk m c 5 t) 2 0 (by decide) (by decide) x
    · exact dz_piece (iblk m c 0 t) (iblk m c 1 t) (iblk m c 2 t) (iblk m c 3 t) (iblk m c 4 t) (iblk m c 5 t) 1 3 (by decide) (by decide) x
    · exact dv_piece (iblk m c 0 t) (iblk m c 1 t) (iblk m c 2 t) (iblk m c 3 t) (iblk m c 4 t) (iblk m c 5 t) 1 3 (by decide) (by decide) x
    · exact du_piece (iblk m c 0 t) (iblk m c 1 t) (iblk m c 2 t) (iblk m c 3 t) (iblk m c 4 t) (iblk m c 5 t) 1 3 (by decide) (by decide) x
    · exact dz_piece (iblk m c 0 t) (iblk m c 1 t) (iblk m c 2 t) (iblk m c 3 t) (iblk m c 4 t) (iblk m c 5 t) 1 2 (by decide) (by decide) x
    · exact dv_piece (iblk m c 0 t) (iblk m c 1 t) (iblk m c 2 t) (iblk m c 3 t) (iblk m c 4 t) (iblk m c 5 t) 1 2 (by decide) (by decide) x
    · exact du_piece (iblk m c 0 t) (iblk m c 1 t) (iblk m c 2 t) (iblk m c 3 t) (iblk m c 4 t) (iblk m c 5 t) 1 2 (by decide) (by decide) x
    · exact dz_piece (iblk m c 0 t) (iblk m c 1 t) (iblk m c 2 t) (iblk m c 3 t) (iblk m c 4 t) (iblk m c 5 t) 1 1 (by decide) (by decide) x
    · exact dv_piece (iblk m c 0 t) (iblk m c 1 t) (iblk m c 2 t) (iblk m c 3 t) (iblk m c 4 t) (iblk m c 5 t) 1 1 (by decide) (by decide) x
    · exact du_piece (iblk m c 0 t) (iblk m c 1 t) (iblk m c 2 t) (iblk m c 3 t) (iblk m c 4 t) (iblk m c 5 t) 1 1 (by decide) (by decide) x
    · exact dz_piece (iblk m c 0 t) (iblk m c 1 t) (iblk m c 2 t) (iblk m c 3 t) (iblk m c 4 t) (iblk m c 5 t) 1 0 (by decide) (by decide) x
    · exact dv_piece (iblk m c 0 t) (iblk m c 1 t) (iblk m c 2 t) (iblk m c 3 t) (iblk m c 4 t) (iblk m c 5 t) 1 0 (by decide) (by decide) x
    · exact du_piece (iblk m c 0 t) (iblk m c 1 t) (iblk m c 2 t) (iblk m c 3 t) (iblk m c 4 t) (iblk m c 5 t) 1 0 (by decide) (by decide) x
    · exact dz_piece (iblk m c 0 t) (iblk m c 1 t) (iblk m c 2 t) (iblk m c 3 t) (iblk m c 4 t) (iblk m c 5 t) 0 3 (by decide) (by decide) x
    · exact dv_piece (iblk m c 0 t) (iblk m c 1 t) (iblk m c 2 t) (iblk m c 3 t) (iblk m c 4 t) (iblk m c 5 t) 0 3 (by decide) (by decide) x
    · exact du_piece (iblk m c 0 t) (iblk m c 1 t) (iblk m c 2 t) (iblk m c 3 t) (iblk m c 4 t) (iblk m c 5 t) 0 3 (by decide) (by decide) x
    · exact dz_piece (iblk m c 0 t) (iblk m c 1 t) (iblk m c 2 t) (iblk m c 3 t) (iblk m c 4 t) (iblk m c 5 t) 0 2 (by decide) (by decide) x
    · exact dv_piece (iblk m c 0 t) (iblk m c 1 t) (iblk m c 2 t) (iblk m c 3 t) (iblk m c 4 t) (iblk m c 5 t) 0 2 (by decide) (by decide) x
    · exact du_piece (iblk m c 0 t) (iblk m c 1 t) (iblk m c 2 t) (iblk m c 3 t) (iblk m c 4 t) (iblk m c 5 t) 0 2 (by decide) (by decide) x
    · exact dz_piece (iblk m c 0 t) (iblk m c 1 t) (iblk m c 2 t) (iblk m c 3 t) (iblk m c 4 t) (iblk m c 5 t) 0 1 (by decide) (by decide) x
    · exact dv_piece (iblk m c 0 t) (iblk m c 1 t) (iblk m c 2 t) (iblk m c 3 t) (iblk m c 4 t) (iblk m c 5 t) 0 1 (by decide) (by decide) x
    · exact du_piece (iblk m c 0 t) (iblk m c 1 t) (iblk m c 2 t) (iblk m c 3 t) (iblk m c 4 t) (iblk m c 5 t) 0 1 (by decide) (by decide) x
    · exact dz_piece (iblk m c 0 t) (iblk m c 1 t) (iblk m c 2 t) (iblk m c 3 t) (iblk m c 4 t) (iblk m c 5 t) 0 0 (by decide) (by decide) x
    · exact dv_piece (iblk m c 0 t) (iblk m c 1 t) (iblk m c 2 t) (iblk m c 3 t) (iblk m c 4 t) (iblk m c 5 t) 0 0 (by decide) (by decide) x
    · exact du_piece (iblk m c 0 t) (iblk m c 1 t) (iblk m c 2 t) (iblk m c 3 t) (iblk m c 4 t) (iblk m c 5 t) 0 0 (by decide) (by decide) x

/-! ## From the blocks to the arrays -/

/-- Row `r` of block `t`. -/
def rowOf (t : Fin cfg0.N) (r : Fin 512) : Fin 8192 := ⟨t.val * 512 + r.val, by have := lt_of_lt_of_eq t.isLt N_0; omega⟩

theorem idx_at : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0] := by
  decide +kernel

/-- The rows, the gradient that arrives, the norm's gain and offset, the weights and the bias that the call is given. -/
abbrev x : Mat 8192 1536 := m ((c.tc : Thread nD τ).loc main_arg0)
abbrev o : Mat 8192 512 := m ((c.tc : Thread nD τ).loc main_arg1)
abbrev g : Mat 1 512 := m ((c.tc : Thread nD τ).loc main_arg2)
abbrev l : Mat 1 512 := m ((c.tc : Thread nD τ).loc main_arg3)
abbrev w : Shape.Idx ⟨3, ![4, 128, 128]⟩ → EReal := m ((c.tc : Thread nD τ).loc main_arg4)
abbrev b : Mat 128 4 := m ((c.tc : Thread nD τ).loc main_arg5)

theorem blk_x (r : Fin 512) (k : Fin 1536) : iblk m c 0 t (ix2 r k) = x m c (ix2 (rowOf t r) k) := by
  unfold rowOf; blk_ext [iblk, V, idx_at t]
theorem blk_o (r : Fin 512) (k : Fin 512) : iblk m c 1 t (ix2 r k) = o m c (ix2 (rowOf t r) k) := by
  unfold rowOf; blk_ext [iblk, V, idx_at t]
theorem blk_g (k : Fin 512) : iblk m c 2 t (ix2 0 k) = g m c (ix2 0 k) := by
  blk_ext [iblk, V, idx_at t]
theorem blk_l (k : Fin 512) : iblk m c 3 t (ix2 0 k) = l m c (ix2 0 k) := by
  blk_ext [iblk, V, idx_at t]
theorem blk_w (j : Fin 4) (n k : Fin 128) : iblk m c 4 t (ix3 j n k) = w m c (ix3 j n k) := by
  blk_ext [iblk, V, idx_at t]
theorem blk_b (n : Fin 128) (k : Fin 4) : iblk m c 5 t (ix2 n k) = b m c (ix2 n k) := by
  blk_ext [iblk, V, idx_at t]

/-- The tiles of the arrays. -/
abbrev allTiles : ℕ → Fin 4 → Tile := tiles (h := 8192) (x m c) (o m c) (g m c) (l m c) (w m c) (b m c)

theorem tile_at (a : ℕ) (ha : a < 4) (j : Fin 4) : blkTiles m c t a j = allTiles m c (t.val * 4 + a) j := by
  have ht := lt_of_lt_of_eq t.isLt N_0
  have hr : ∀ r, rowOf t (rowIn 512 a r) = rowIn 8192 (t.val * 4 + a) r := fun r =>
    Fin.ext (by show t.val * 512 + (128 * a + r.val) % 512 = (128 * (t.val * 4 + a) + r.val) % 8192; omega)
  refine Tile.ext (funext₂ fun r d => ?_) (funext₂ fun r d => ?_) (funext₂ fun r d => ?_) (funext₂ fun r d => ?_) (funext fun d => ?_) (funext fun d => ?_)
    (funext₂ fun r s => ?_) (funext fun r => ?_)
  · exact (blk_x m c t _ _).trans (congrArg (fun i => x m c (ix2 i _)) (hr r))
  · exact (blk_x m c t _ _).trans (congrArg (fun i => x m c (ix2 i _)) (hr r))
  · exact (blk_x m c t _ _).trans (congrArg (fun i => x m c (ix2 i _)) (hr r))
  · exact (blk_o m c t _ _).trans (congrArg (fun i => o m c (ix2 i _)) (hr r))
  · exact blk_g m c t _
  · exact blk_l m c t _
  · exact blk_w m c t _ _ _
  · exact blk_b m c t _ _

/-- All blocks' chunks are all chunks. -/
theorem sum_chunks (f : ℕ → EReal) : ∑ t : Fin cfg0.N, ∑ a : Fin 4, f (t.val * 4 + a.val) = ∑ n : Fin 64, f n.val :=
  Fin.sum_mul_add_fin (L := 64) cfg0.N 4 (fun n => f n.val) (by rw [show cfg0.N = 16 from N_0])

theorem final_rows : (dats m 0 c).arrAt 6 cfg0.N = grads (h := 8192) (allTiles m c) := by
  refine (dats m 0 c).arrAt_eq_of_covers 6 _ (by decide +kernel) fun t hf y => ?_
  blk_simp
  rw [after0_6, rows_at]
  have he : (win0_6.blk t).view.emb y = ix2 (rowOf t (y 0)) (y 1) :=
    funext fun a => Fin.ext (by unfold rowOf; fin_cases a <;> blk_simp [idx_at t] <;> simp)
  rw [he]
  have hy : (y 0).val < 512 := (y 0).isLt
  have h₁ : (t.val * 512 + (y 0).val) / 128 = t.val * 4 + (y 0).val / 128 := by omega
  have h₂ : place (t.val * 512 + (y 0).val) = place (y 0).val := Fin.ext (by show (t.val * 512 + (y 0).val) % 128 = (y 0).val % 128; omega)
  show _ = (if (y 1).val < 512 then (allTiles m c ((t.val * 512 + (y 0).val) / 128) (grp (y 1).val)).du (place (t.val * 512 + (y 0).val)) (place (y 1).val)
    else if (y 1).val < 1024 then (allTiles m c ((t.val * 512 + (y 0).val) / 128) (grp (y 1).val)).dv (place (t.val * 512 + (y 0).val)) (place (y 1).val)
    else (allTiles m c ((t.val * 512 + (y 0).val) / 128) (grp (y 1).val)).dz (place (t.val * 512 + (y 0).val)) (place (y 1).val) : EReal)
  rw [h₁, h₂, ← tile_at m c t ((y 0).val / 128) (by omega)]
  rfl

theorem final_gain : (dats m 0 c).arrAt 7 cfg0.N = gainSum 64 (allTiles m c) := by
  obtain ⟨t, ht, hw⟩ : ∃ t : Fin cfg0.N, t.val = 15 ∧ (cfg0.win 7).WholeAt t := ⟨⟨15, lt_of_lt_of_eq (by decide) N_0.symm⟩, rfl, by decide +kernel⟩
  refine (dats m 0 c).arrAt_eq_of_after_last 7 t hw _ fun y => ?_
  blk_simp
  rw [after0_7]
  refine (Pipeline.eq_sum_fin_of_reset_step_apply_last (M := EReal) (fun n h => (outsAt0 m c n h).2.1) 16 (fun _ => 0) _
    (gain_first m c) (gain_next m c) (le_of_eq N_0) t (by rw [ht]; exact N_0.symm) y).trans ((zero_add _).trans ?_)
  refine Eq.trans (Finset.sum_congr rfl fun t _ => Finset.sum_congr rfl fun a _ => ?_) (sum_chunks fun n => (allTiles m c n (grp (y 1).val)).dg (place (y 1).val))
  exact congrArg (fun T => Tile.dg T (place (y 1).val)) (tile_at m c t a.val a.isLt _)

theorem final_offset : (dats m 0 c).arrAt 8 cfg0.N = offsetSum 64 (allTiles m c) := by
  obtain ⟨t, ht, hw⟩ : ∃ t : Fin cfg0.N, t.val = 15 ∧ (cfg0.win 8).WholeAt t := ⟨⟨15, lt_of_lt_of_eq (by decide) N_0.symm⟩, rfl, by decide +kernel⟩
  refine (dats m 0 c).arrAt_eq_of_after_last 8 t hw _ fun y => ?_
  blk_simp
  rw [after0_8]
  refine (Pipeline.eq_sum_fin_of_reset_step_apply_last (M := EReal) (fun n h => (outsAt0 m c n h).2.2.1) 16 (fun _ => 0) _
    (offset_first m c) (offset_next m c) (le_of_eq N_0) t (by rw [ht]; exact N_0.symm) y).trans ((zero_add _).trans ?_)
  refine Eq.trans (Finset.sum_congr rfl fun t _ => Finset.sum_congr rfl fun a _ => ?_) (sum_chunks fun n => (allTiles m c n (grp (y 1).val)).dl (place (y 1).val))
  exact congrArg (fun T => Tile.dl T (place (y 1).val)) (tile_at m c t a.val a.isLt _)

theorem final_weight : (dats m 0 c).arrAt 9 cfg0.N = weightSum 64 (allTiles m c) := by
  obtain ⟨t, ht, hw⟩ : ∃ t : Fin cfg0.N, t.val = 15 ∧ (cfg0.win 9).WholeAt t := ⟨⟨15, lt_of_lt_of_eq (by decide) N_0.symm⟩, rfl, by decide +kernel⟩
  refine (dats m 0 c).arrAt_eq_of_after_last 9 t hw _ fun y => ?_
  blk_simp
  rw [after0_9]
  refine (Pipeline.eq_sum_fin_of_reset_step_apply_last (M := EReal) (fun n h => (outsAt0 m c n h).2.2.2.1) 16 (fun _ => 0) _
    (weight_first m c) (weight_next m c) (le_of_eq N_0) t (by rw [ht]; exact N_0.symm) y).trans ((zero_add _).trans ?_)
  refine Eq.trans (Finset.sum_congr rfl fun t _ => Finset.sum_congr rfl fun a _ => ?_) (sum_chunks fun n => (allTiles m c n (y 0)).dw (y 1) (y 2))
  exact congrArg (fun T => Tile.dw T (y 1) (y 2)) (tile_at m c t a.val a.isLt _)

theorem final_bias : (dats m 0 c).arrAt 10 cfg0.N = biasSum 64 (allTiles m c) := by
  obtain ⟨t, ht, hw⟩ : ∃ t : Fin cfg0.N, t.val = 15 ∧ (cfg0.win 10).WholeAt t := ⟨⟨15, lt_of_lt_of_eq (by decide) N_0.symm⟩, rfl, by decide +kernel⟩
  refine (dats m 0 c).arrAt_eq_of_after_last 10 t hw _ fun y => ?_
  blk_simp
  rw [after0_10]
  refine (Pipeline.eq_sum_fin_of_reset_step_apply_last (M := EReal) (fun n h => (outsAt0 m c n h).2.2.2.2) 16 (fun _ => 0) _
    (bias_first m c) (bias_next m c) (le_of_eq N_0) t (by rw [ht]; exact N_0.symm) y).trans ((zero_add _).trans ?_)
  refine Eq.trans (Finset.sum_congr rfl fun t _ => Finset.sum_congr rfl fun a _ => ?_) (sum_chunks fun n => (allTiles m c n (y 1)).db (y 0))
  exact congrArg (fun T => Tile.db T (y 0)) (tile_at m c t a.val a.isLt _)

/-- The call ends with the gradients of the rows, the gain, the offset, the weights and the bias; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v0_0) = grads (h := 8192) (allTiles m c)
    ∧ r.2.mem ((c.tc : Thread nD τ).loc main_v0_1) = gainSum 64 (allTiles m c)
    ∧ r.2.mem ((c.tc : Thread nD τ).loc main_v0_2) = offsetSum 64 (allTiles m c)
    ∧ r.2.mem ((c.tc : Thread nD τ).loc main_v0_3) = weightSum 64 (allTiles m c)
    ∧ r.2.mem ((c.tc : Thread nD τ).loc main_v0_4) = biasSum 64 (allTiles m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (Value.run_blocks m ρ)
  obtain ⟨hx, hg, hl, hw, hb, hk⟩ := h c
  exact ⟨hx.trans (final_rows m c), hg.trans (final_gain m c), hl.trans (final_offset m c), hw.trans (final_weight m c), hb.trans (final_bias m c), hk⟩

end Cert.Ungate

end
-- ==== Proof.UngatePlain.lean ====
/-
# The spatial gating's derivative, entry by entry

The reference differentiates the plain gating over all 64 chunks at once. Its arrays are read off here at a chunk, a group and
a place in each; what stands there is what `Tile` says of that chunk's and group's tile.
-/
module

public import proofs.«01_k».proof.Proof.Ungate

@[expose] public section

set_option maxRecDepth 16384

noncomputable section

namespace Cert.UngatePlain

open Cert.UngateReferenceIdeal Cert.UngateReferenceIdeal.Gen Cert.Inward Cert.Ungate
open Cert.Gate (gelu mean centred normed causal ix2_ext later_bit)
open Idealize.ShloMosaic
open Idealize.ShloMosaic.TcCoe Idealize.SL.Sem Idealize.ShloMosaic.StableHlo

/-! ## Rows and columns by chunk and group -/

theorem split_at (f : FVec Ideal S8192x512 .f32) (n : Fin 64) (r : Fin 128) (j : Fin 4) (d : Fin 128) :
    shapeCast S64x128x4x128 f shapeCasts_S8192x512_S64x128x4x128 (ix4 n r j d) = f (ix2 (rowIn 8192 n.val r) (laneIn j d)) := by
  pointwise []
  refine congrArg f (ix2_ext ?_ ?_)
  · show n.val * 128 + r.val = (128 * n.val + r.val) % 8192
    omega
  · show j.val * 128 + d.val = 128 * j.val + d.val
    omega

theorem join_at (f : FVec Ideal S64x128x4x128 .f32) (n : Fin 64) (r : Fin 128) (j : Fin 4) (d : Fin 128) :
    shapeCast S8192x512 f shapeCasts_S64x128x4x128_S8192x512 (ix2 (rowIn 8192 n.val r) (laneIn j d)) = f (ix4 n r j d) := by
  have hr : (rowIn 8192 n.val r).val = 128 * n.val + r.val := by show (128 * n.val + r.val) % 8192 = _; omega
  have hk : (laneIn j d).val = 128 * j.val + d.val := rfl
  pointwise [hr, hk]
  congr 1
  funext a
  fin_cases a <;> apply Fin.ext <;> simp <;> omega

/-! ## Sums over two axes -/

theorem heads_sum {a b c d : ℕ} (h : (⟨4, ![a, b, c, d]⟩ : Shape).ReducesTo [0, 1] ⟨2, ![c, d]⟩) (v : Shape.Idx ⟨4, ![a, b, c, d]⟩ → EReal) (i : Fin c) (j : Fin d) :
    Ideal.hostReduceAdd h v 0 (ix2 i j) = ∑ p, ∑ q, v (ix4 p q i j) := by
  refine (zero_add _).trans (Eq.trans ?_ (Fintype.sum_prod_type' fun p q => v (ix4 p q i j)))
  have hx : ∀ x : Shape.Idx ⟨4, ![a, b, c, d]⟩, h.drop x = ix2 i j → ix4 (x 0) (x 1) i j = x := fun x hx => by
    funext k
    fin_cases k
    exacts [rfl, rfl, (congrFun hx 0).symm, (congrFun hx 1).symm]
  refine Finset.sum_nbij' (fun x => (x 0, x 1)) (fun p => ix4 p.1 p.2 i j) (fun _ _ => Finset.mem_univ _) (fun p _ => ?_) (fun x hm => ?_) (fun _ _ => rfl) fun x hm => ?_
  · exact Finset.mem_filter.mpr ⟨Finset.mem_univ _, by funext k; fin_cases k <;> rfl⟩
  · exact hx x (Finset.mem_filter.mp hm).2
  · exact congrArg v (hx x (Finset.mem_filter.mp hm).2).symm

theorem ends_sum {a b c d : ℕ} (h : (⟨4, ![a, b, c, d]⟩ : Shape).ReducesTo [0, 3] ⟨2, ![b, c]⟩) (v : Shape.Idx ⟨4, ![a, b, c, d]⟩ → EReal) (i : Fin b) (j : Fin c) :
    Ideal.hostReduceAdd h v 0 (ix2 i j) = ∑ p, ∑ q, v (ix4 p i j q) := by
  refine (zero_add _).trans (Eq.trans ?_ (Fintype.sum_prod_type' fun p q => v (ix4 p i j q)))
  have hx : ∀ x : Shape.Idx ⟨4, ![a, b, c, d]⟩, h.drop x = ix2 i j → ix4 (x 0) i j (x 3) = x := fun x hx => by
    funext k
    fin_cases k
    exacts [rfl, (congrFun hx 0).symm, (congrFun hx 1).symm, rfl]
  refine Finset.sum_nbij' (fun x => (x 0, x 3)) (fun p => ix4 p.1 i j p.2) (fun _ _ => Finset.mem_univ _) (fun p _ => ?_) (fun x hm => ?_) (fun _ _ => rfl) fun x hm => ?_
  · exact Finset.mem_filter.mpr ⟨Finset.mem_univ _, by funext k; fin_cases k <;> rfl⟩
  · exact hx x (Finset.mem_filter.mp hm).2
  · exact congrArg v (hx x (Finset.mem_filter.mp hm).2).symm

section Tiles

variable (V₀ : Valuation τ sig (Elt Ideal))

/-- The tiles of the arrays that the reference is given. -/
abbrev T : ℕ → Fin 4 → Tile := tiles (h := 8192) (V₀ (Proc.devRef .tc main_arg0)) (V₀ (Proc.devRef .tc main_arg1))
  (V₀ (Proc.devRef .tc main_arg2)) (V₀ (Proc.devRef .tc main_arg3)) (V₀ (Proc.devRef .tc main_arg4)) (V₀ (Proc.devRef .tc main_arg5))

variable (n : Fin 64) (r s : Fin 128) (j : Fin 4) (d : Fin 128)

theorem u_at : Value.res_main_v0 V₀ (ix2 (rowIn 8192 n.val r) (laneIn j d)) = (T V₀ n j).u r d := by
  pointwise [Value.res_main_v0]
  exact congrArg (V₀ (Proc.devRef .tc main_arg0)) (ix2_ext rfl (by show 128 * j.val + d.val = 512 * 0 + 128 * j.val + d.val; omega))

theorem v_at : Value.res_main_v1 V₀ (ix2 (rowIn 8192 n.val r) (laneIn j d)) = (T V₀ n j).v r d := by
  pointwise [Value.res_main_v1]
  exact congrArg (V₀ (Proc.devRef .tc main_arg0)) (ix2_ext rfl (by show 512 + (128 * j.val + d.val) = 512 * 1 + 128 * j.val + d.val; omega))

theorem z_at : Value.res_main_v2 V₀ (ix2 (rowIn 8192 n.val r) (laneIn j d)) = (T V₀ n j).z r d := by
  pointwise [Value.res_main_v2]
  exact congrArg (V₀ (Proc.devRef .tc main_arg0)) (ix2_ext rfl (by show 1024 + (128 * j.val + d.val) = 512 * 2 + 128 * j.val + d.val; omega))

theorem o_at : (V₀ (Proc.devRef .tc main_arg1) : FVec Ideal S8192x512 .f32) (ix2 (rowIn 8192 n.val r) (laneIn j d)) = (T V₀ n j).o r d := rfl

theorem pastU_at : Value.res_main_v60 V₀ (ix2 (rowIn 8192 n.val r) (laneIn j d)) = gelu ((T V₀ n j).u r d) :=
  (Cert.GatePlain.past_at (Value.res_main_v0 V₀) _).trans (congrArg gelu (u_at V₀ n r j d))

theorem pastV_at : Value.res_main_v13 V₀ (ix4 n s j d) = gelu ((T V₀ n j).v s d) :=
  (split_at _ n s j d).trans ((Cert.GatePlain.past_at (Value.res_main_v1 V₀) _).trans (congrArg gelu (v_at V₀ n s j d)))

/-! ## The norm -/

theorem centred_at : Value.res_main_v19 V₀ (ix4 n s j d) = centred ((T V₀ n j).v s) d := by
  refine (Cert.GatePlain.level_at (Value.res_main_v13 V₀) n s j d).trans ?_
  simp only [pastV_at]
  rfl

theorem spread_at : Value.res_main_v26 V₀ (ix4 n s j 0) = (T V₀ n j).spread s := by
  have h := Cert.GatePlain.means_at (mulf (Value.res_main_v19 V₀) (Value.res_main_v19 V₀)) n s j
  refine (congrArg (· + Ideal.ofBits .f32 0x358637BD#32) h).trans ?_
  refine congrArg (fun f : Fin 128 → EReal => mean f + Ideal.ofBits .f32 0x358637BD#32) (funext fun k => ?_)
  exact congrArg₂ (· * ·) (centred_at V₀ n s j k) (centred_at V₀ n s j k)

theorem rate_at : Value.res_main_v27 V₀ (ix4 n s j 0) = Ideal.rsqrt ((T V₀ n j).spread s) :=
  congrArg Ideal.rsqrt (spread_at V₀ n s j)

theorem normed_at : Value.res_main_v32 V₀ (ix4 n s j d) = normed ((T V₀ n j).v s) d := by
  pointwise [Value.res_main_v32]
  rw [centred_at, rate_at]
  rfl

theorem gain_at : broadcastInDim S64x128x4x128 ![0, 1, 2, 3] bcast_S1x1x4x128_S64x128x4x128_0_1_2_3 (Value.res_main_v34 V₀) (ix4 n s j d) = (T V₀ n j).g d :=
  (Cert.GatePlain.wide_at (V₀ (Proc.devRef .tc main_arg2)) n s j d).trans
    (congrArg (V₀ (Proc.devRef .tc main_arg2)) (ix2_ext rfl (congrArg (· + d.val) (Nat.mul_comm _ _))))

theorem ln_at : Value.res_main_v40 V₀ (ix4 n s j d) = (T V₀ n j).ln s d := by
  have h := (Cert.GatePlain.wide_at (V₀ (Proc.devRef .tc main_arg3)) n s j d).trans
    (congrArg (V₀ (Proc.devRef .tc main_arg3)) (ix2_ext (r' := 0) (k' := laneIn j d) rfl (congrArg (· + d.val) (Nat.mul_comm _ _))))
  exact congrArg₂ (· + ·) (congrArg₂ (· * ·) (normed_at V₀ n s j d) (gain_at V₀ n s j d)) h

/-! ## The mixing -/

theorem masked_at : Value.res_main_v44_0 V₀ (ix3 j r s) = causal ((T V₀ n j).w r) r s :=
  Cert.GatePlain.masked_at (V₀ (Proc.devRef .tc main_arg4)) j r s

theorem mix_at : Value.res_main_v61 V₀ (ix2 (rowIn 8192 n.val r) (laneIn j d)) = (T V₀ n j).mix r d := by
  refine (join_at _ n r j d).trans ?_
  refine (congrArg₂ (· + ·) (Cert.GatePlain.mixed_at (Value.res_main_v40 V₀) (Value.res_main_v44_0 V₀) n r j d)
    (Cert.GatePlain.biases_at (V₀ (Proc.devRef .tc main_arg5)) n r j d)).trans ?_
  simp only [masked_at V₀ n, ln_at]
  rfl

theorem gate_at : Value.res_main_v63_2 V₀ (ix2 (rowIn 8192 n.val r) (laneIn j d)) = Ideal.logistic ((T V₀ n j).z r d) := by
  rw [← z_at]
  pointwise [Value.res_main_v63_2]
  rfl

theorem past_at : Value.res_main_v66 V₀ (ix2 (rowIn 8192 n.val r) (laneIn j d)) = (T V₀ n j).past r d :=
  congrArg₂ (· * ·) (o_at V₀ n r j d) (congrArg₂ (· * ·) (z_at V₀ n r j d) (gate_at V₀ n r j d))

theorem ds_at : Value.res_main_v70 V₀ (ix4 n r j d) = (T V₀ n j).ds r d :=
  (split_at _ n r j d).trans (congrArg₂ (· * ·) (pastU_at V₀ n r j d) (past_at V₀ n r j d))

theorem turned_at : Value.res_main_v87 V₀ (ix4 j n d r) = (T V₀ n j).ds r d := by
  rw [← ds_at]
  pointwise [Value.res_main_v87]

theorem dln_at : Value.res_main_v90 V₀ (ix4 n s j d) = (T V₀ n j).dln s d := by
  pointwise [Value.res_main_v90]
  simp only [turned_at, masked_at V₀ n]
  rfl

/-! ## Back through the norm -/

theorem dnorm_at : Value.res_main_v100 V₀ (ix4 n s j d) = (T V₀ n j).dln s d * (T V₀ n j).g d :=
  congrArg₂ (· * ·) (dln_at V₀ n s j d) (gain_at V₀ n s j d)

theorem pull_at : Value.res_main_v112 V₀ (ix4 n s j d) = (T V₀ n j).pull s := by
  pointwise [Value.res_main_v112]
  simp only [Fin.sum_univ_one, centred_at, dnorm_at, rate_at, spread_at]
  rfl

theorem dxc_at : Value.res_main_v116 V₀ (ix4 n s j d) = (T V₀ n j).dxc s d := by
  pointwise [Value.res_main_v116]
  rw [dnorm_at, rate_at, centred_at, pull_at]
  rfl

theorem dpast_at : Value.res_main_v125 V₀ (ix2 (rowIn 8192 n.val r) (laneIn j d))
    = (T V₀ n j).dxc r d + Ideal.div (∑ k, -(T V₀ n j).dxc r k) (Ideal.ofBits .f32 0x43000000#32) := by
  refine (join_at _ n r j d).trans ?_
  pointwise []
  simp only [Fin.sum_univ_one, dxc_at]

/-! ## The results -/

/-- The exact GELU's derivative as it comes out: `h` is half the argument, `y` the gradient, `v` the argument of `erfc`, `e` its value. -/
def slopes (h y v e : FVec Ideal S8192x512 .f32) : FVec Ideal S8192x512 .f32 :=
  have at_ := fun w : BitVec 32 => broadcastInDim S8192x512 ![] bcast_S_S8192x512 (constant (F := Ideal) S_ .f32 w)
  addf (Host.negf (mulf (mulf (mulf (at_ 0xBF906EBB#32) (mulf h y)) (Host.exp (Host.negf (mulf v v)))) (at_ 0x3F3504F3#32))) (mulf (at_ 0x3F000000#32) (mulf y e))

theorem slope_eq (x y : EReal) : -(Ideal.ofBits .f32 0xBF906EBB#32 * (half * x * y) * Ideal.exp (-(-x * root * (-x * root))) * root)
    + half * (y * Ideal.erfc (-x * root)) = slope x y := by
  have hb : Ideal.ofBits .f32 0xBF906EBB#32 = -bell := by
    simp [Ideal.ofBits, Ideal.ieee, -EReal.coe_mul, -EReal.coe_neg]
    norm_num
  rw [hb, neg_mul x root, neg_mul_neg, Ideal.erfc_neg]
  simp only [neg_mul, neg_neg]
  rfl

theorem slopes_at (x y : EReal) (h g v e : FVec Ideal S8192x512 .f32) (i : S8192x512.Idx) (hh : h i = half * x) (hg : g i = y)
    (hv : v i = -x * root) (he : e i = Ideal.erfc (-x * root)) : slopes h g v e i = slope x y := by
  rw [← slope_eq, ← hh, ← hg, ← he, ← hv]
  pointwise [slopes]

theorem du_at : slopes (Value.res_main_v52 V₀) (Value.res_main_v69 V₀) (Value.res_main_v55 V₀) (Value.res_main_v56 V₀)
    (ix2 (rowIn 8192 n.val r) (laneIn j d)) = (T V₀ n j).du r d :=
  have hv := congrArg (fun x : EReal => -x * root) (u_at V₀ n r j d)
  slopes_at _ _ _ _ _ _ _ (congrArg (half * ·) (u_at V₀ n r j d)) (congrArg₂ (· * ·) (past_at V₀ n r j d) (mix_at V₀ n r j d)) hv
    (congrArg Ideal.erfc hv)

theorem dv_at : slopes (Value.res_main_v4 V₀) (Value.res_main_v125 V₀) (Value.res_main_v7 V₀) (Value.res_main_v8 V₀)
    (ix2 (rowIn 8192 n.val r) (laneIn j d)) = (T V₀ n j).dv r d :=
  have hv := congrArg (fun x : EReal => -x * root) (v_at V₀ n r j d)
  slopes_at _ _ _ _ _ _ _ (congrArg (half * ·) (v_at V₀ n r j d)) (dpast_at V₀ n r j d) hv (congrArg Ideal.erfc hv)

/-- The gradient of the gate's rows. -/
def gateSlopes (z o a : FVec Ideal S8192x512 .f32) : FVec Ideal S8192x512 .f32 :=
  addf (mulf o a) (mulf (mulf z o) (mulf a (subf (broadcastInDim S8192x512 ![] bcast_S_S8192x512 (constant S_ .f32 0x3F800000#32)) a)))

theorem dz_at : gateSlopes (Value.res_main_v2 V₀) (Value.res_main_v65 V₀) (Value.res_main_v63_2 V₀)
    (ix2 (rowIn 8192 n.val r) (laneIn j d)) = (T V₀ n j).dz r d := by
  have h : Value.res_main_v65 V₀ (ix2 (rowIn 8192 n.val r) (laneIn j d)) = gelu ((T V₀ n j).u r d) * (T V₀ n j).mix r d * (T V₀ n j).o r d :=
    congrArg₂ (· * ·) (congrArg₂ (· * ·) (pastU_at V₀ n r j d) (mix_at V₀ n r j d)) (o_at V₀ n r j d)
  pointwise [gateSlopes]
  rw [h, z_at, gate_at]
  rfl

/-- The three parts stand side by side. -/
theorem beside (a b c : FVec Ideal S8192x512 .f32) (i : Fin 8192) (k : Fin 1536) (e : Fin 512) (he : e.val = k.val % 512) :
    (concatenate S8192x1536 1 [⟨S8192x512, a⟩, ⟨S8192x512, b⟩, ⟨S8192x512, c⟩] concatenates_S8192x512_S8192x512_S8192x512_S8192x1536_d1
      : FVec Ideal S8192x1536 .f32) (ix2 i k) = if k.val < 512 then a (ix2 i e) else if k.val < 1024 then b (ix2 i e) else c (ix2 i e) := by
  have hk := k.isLt
  pointwise []
  have h : ∀ (n : ℕ) (hn : n < 512), n = k.val % 512 → (⟨n, hn⟩ : Fin 512) = e := fun n hn hm => Fin.ext (hm.trans he.symm)
  split
  · rw [h k.val (by assumption) (by omega)]
  · by_cases h' : k.val < 1024
    · rw [dif_pos (by omega), if_pos h', h (k.val - 512) (by omega) (by omega)]
    · rw [dif_neg (by omega), if_neg h', h (k.val - 512 - 512) (by omega) (by omega)]

theorem rows_at (i : Fin 8192) (k : Fin 1536) :
    (concatenate S8192x1536 1
      [⟨S8192x512, slopes (Value.res_main_v52 V₀) (Value.res_main_v69 V₀) (Value.res_main_v55 V₀) (Value.res_main_v56 V₀)⟩,
        ⟨S8192x512, slopes (Value.res_main_v4 V₀) (Value.res_main_v125 V₀) (Value.res_main_v7 V₀) (Value.res_main_v8 V₀)⟩,
        ⟨S8192x512, gateSlopes (Value.res_main_v2 V₀) (Value.res_main_v65 V₀) (Value.res_main_v63_2 V₀)⟩]
      concatenates_S8192x512_S8192x512_S8192x512_S8192x1536_d1 : FVec Ideal S8192x1536 .f32) (ix2 i k) = grads (h := 8192) (T V₀) (ix2 i k) := by
  have hi : i = rowIn 8192 (i.val / 128) (place i.val) := Fin.ext (by show i.val = (128 * (i.val / 128) + i.val % 128) % 8192; omega)
  rw [beside _ _ _ i k (laneIn (grp k.val) (place k.val)) (by show 128 * (k.val / 128 % 4) + k.val % 128 = _; omega)]
  unfold grads
  refine if_congr Iff.rfl ?_ (if_congr Iff.rfl ?_ ?_)
  · exact (congrArg (fun i => slopes _ _ _ _ (ix2 i _)) hi).trans (du_at V₀ ⟨i.val / 128, by omega⟩ (place i.val) (grp k.val) (place k.val))
  · exact (congrArg (fun i => slopes _ _ _ _ (ix2 i _)) hi).trans (dv_at V₀ ⟨i.val / 128, by omega⟩ (place i.val) (grp k.val) (place k.val))
  · exact (congrArg (fun i => gateSlopes _ _ _ (ix2 i _)) hi).trans (dz_at V₀ ⟨i.val / 128, by omega⟩ (place i.val) (grp k.val) (place k.val))

theorem gain_total (k : Fin 512) : (∑ n : Fin 64, ∑ s, mulf (F := Ideal) (φ := .f32) (Value.res_main_v32 V₀) (Value.res_main_v90 V₀) (ix4 n s (grp k.val) (place k.val)) : EReal)
    = gainSum 64 (T V₀) (ix2 0 k) :=
  Finset.sum_congr rfl fun n _ => Finset.sum_congr rfl fun s _ => congrArg₂ (· * ·) (normed_at V₀ n s _ _) (dln_at V₀ n s _ _)

theorem offset_total (k : Fin 512) : (∑ n : Fin 64, ∑ s, (Value.res_main_v90 V₀ : FVec Ideal S64x128x4x128 .f32) (ix4 n s (grp k.val) (place k.val)) : EReal)
    = offsetSum 64 (T V₀) (ix2 0 k) :=
  Finset.sum_congr rfl fun n _ => Finset.sum_congr rfl fun s _ => dln_at V₀ n s _ _

theorem totals_at (f : FVec Ideal S64x128x4x128 .f32) (k : Fin 512) :
    shapeCast S1x512 (Host.reduceAdd (shapeCast S1x1x4x128 (Host.reduceAdd f (constant S_ .f32 0x00000000#32)
      reducesTo_S64x128x4x128_S4x128_d0_1 h_S_) shapeCasts_S4x128_S1x1x4x128) (constant S_ .f32 0x00000000#32) reducesTo_S1x1x4x128_S4x128_d0_1 h_S_)
      shapeCasts_S4x128_S1x512 (ix2 0 k) = (∑ n, ∑ s, f (ix4 n s (grp k.val) (place k.val)) : EReal) := by
  have hj : (⟨k.val / 128, by omega⟩ : Fin 4) = grp k.val := Fin.ext (Nat.mod_eq_of_lt (by omega)).symm
  pointwise [heads_sum]
  simp only [Fin.sum_univ_one]
  rw [hj]
  rfl

theorem weight_at (a : Fin 4) (b c : Fin 128) :
    select (Value.res_main_v44_1 V₀) (Host.dotGeneral (F := Ideal) (φ₁ := .f32) (φ₂ := .f32) dot_S4x64x128x128_S64x128x4x128_S4x128x128_12_03_3_1_0_2 none (Value.res_main_v87 V₀) (Value.res_main_v40 V₀))
      (broadcastInDim S4x128x128 ![] bcast_S_S4x128x128 (constant S_ .f32 0x00000000#32)) (ix3 a b c) = weightSum 64 (T V₀) (ix3 a b c) := by
  have h := Cert.GatePlain.masked_at (Host.dotGeneral (F := Ideal) (φ₁ := .f32) (φ₂ := .f32) dot_S4x64x128x128_S64x128x4x128_S4x128x128_12_03_3_1_0_2 none (Value.res_main_v87 V₀) (Value.res_main_v40 V₀)) a b c
  refine h.trans ?_
  unfold causal weightSum
  pointwise []
  simp only [turned_at, ln_at, Tile.dw]
  show _ = ∑ n : Fin 64, if c ≤ b then _ else _
  split
  · rfl
  · exact Finset.sum_const_zero.symm

theorem bias_at (a : Fin 128) (k : Fin 4) :
    Host.reduceAdd (broadcastInDim S128x4x1 ![0, 1] bcast_S128x4_S128x4x1_0_1 (Host.reduceAdd (shapeCast S1x128x4x1 (Host.reduceAdd (Value.res_main_v70 V₀)
      (constant S_ .f32 0x00000000#32) reducesTo_S64x128x4x128_S128x4_d0_3 h_S_) shapeCasts_S128x4_S1x128x4x1) (constant S_ .f32 0x00000000#32)
      reducesTo_S1x128x4x1_S128x4_d0_3 h_S_)) (constant S_ .f32 0x00000000#32) reducesTo_S128x4x1_S128x4_d2 h_S_ (ix2 a k) = biasSum 64 (T V₀) (ix2 a k) := by
  pointwise [ends_sum]
  simp only [Fin.sum_univ_one, ds_at]
  rfl

end Tiles

variable (m : (ℓ : Loc nD τ sig) → Buf (Elt Ideal) ℓ)

/-- The tiles of the arrays at the launch. -/
abbrev allTiles (c : Dev nD) : ℕ → Fin 4 → Tile :=
  tiles (h := 8192) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The reference ends with the gradients; its arguments stay. -/
theorem run_main (ρ : Dev nD → PrngReg) : θ_run defs (onTc (τ := τ) (main (F := Ideal))) ⟨m, fun _ => 0, ρ⟩ fun r => ∀ c : Dev nD,
    r.2.mem ((c.tc : Thread nD τ).loc main_v137) = grads (h := 8192) (allTiles m c)
    ∧ r.2.mem ((c.tc : Thread nD τ).loc main_v102) = gainSum 64 (allTiles m c)
    ∧ r.2.mem ((c.tc : Thread nD τ).loc main_v95) = offsetSum 64 (allTiles m c)
    ∧ r.2.mem ((c.tc : Thread nD τ).loc main_v91) = weightSum 64 (allTiles m c)
    ∧ r.2.mem ((c.tc : Thread nD τ).loc main_v86) = biasSum 64 (allTiles m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (Value.run m ρ)
  obtain ⟨hx, hg, hl, hw, hb, hk⟩ := h c
  refine ⟨hx.trans (funext fun y => ?_), hg.trans (funext fun y => ?_), hl.trans (funext fun y => ?_), hw.trans (funext fun y => ?_),
    hb.trans (funext fun y => ?_), hk⟩
  · obtain ⟨i, k, rfl⟩ : ∃ i k, y = ix2 i k := ⟨y 0, y 1, eq_ix2 y⟩
    exact rows_at (launchContents m c) i k
  · obtain ⟨i, k, rfl⟩ : ∃ i k, y = ix2 i k := ⟨y 0, y 1, eq_ix2 y⟩
    obtain rfl : i = 0 := Subsingleton.elim _ _
    exact (totals_at _ k).trans (gain_total (launchContents m c) k)
  · obtain ⟨i, k, rfl⟩ : ∃ i k, y = ix2 i k := ⟨y 0, y 1, eq_ix2 y⟩
    obtain rfl : i = 0 := Subsingleton.elim _ _
    exact (totals_at _ k).trans (offset_total (launchContents m c) k)
  · obtain ⟨i, j, k, rfl⟩ : ∃ i j k, y = ix3 i j k := ⟨y 0, y 1, y 2, eq_ix3 y⟩
    exact weight_at (launchContents m c) i j k
  · obtain ⟨i, k, rfl⟩ : ∃ i k, y = ix2 i k := ⟨y 0, y 1, eq_ix2 y⟩
    exact bias_at (launchContents m c) i k

end Cert.UngatePlain

end
-- ==== Proof.lean ====
/-
# The exchange of the gradients, the optimizer step, the gathering of the weights, the input projection and its gradients, the spatial gating and its gradients: the proof

Every device ends with the AdamW step taken on the sum of what its peers sent it (`Proof/Launch.lean`); the reference
adds up all devices' gradients and takes the step on the whole (`Proof/Total.lean`). In the second program every device
ends with the packs of all (`Proof/PackLaunch.lean`), which the reference cuts out of the whole (`Proof/Whole.lean`).
The third is the backward pass of the norm and the input projection, on one device (`Proof/Inward.lean`); its reference is
the derivative (`Proof/Derived.lean`). The fourth is the norm and the input projection themselves, with their reference
(`Proof/Forward.lean`). The fifth is the spatial gating, with its reference (`Proof/Gate.lean`). The sixth is its backward pass (`Proof/Ungate.lean`);
its reference is the derivative (`Proof/UngatePlain.lean`). Each pair says the same, so the claims follow.
-/
module

public import proofs.«01_k».proof.Proof.Gen.ReferenceIdeal.Run
public import proofs.«01_k».proof.Defs
public import proofs.«01_k».proof.Proof.Gen.GatherReferenceIdeal.Run
public import proofs.«01_k».proof.Proof.Gen.Kernel
public import proofs.«01_k».proof.Proof.Gen.GatherReference
public import proofs.«01_k».proof.Proof.Gen.Gather
public import proofs.«01_k».proof.Proof.Launch
public import proofs.«01_k».proof.Proof.Total
public import proofs.«01_k».proof.Proof.PackLaunch
public import proofs.«01_k».proof.Proof.Whole
public import proofs.«01_k».proof.Proof.Gen.Inproj
public import proofs.«01_k».proof.Proof.Inward
public import proofs.«01_k».proof.Proof.Derived
public import proofs.«01_k».proof.Proof.Gen.Project
public import proofs.«01_k».proof.Proof.Forward
public import proofs.«01_k».proof.Proof.Gen.Gating
public import proofs.«01_k».proof.Proof.Gate
public import proofs.«01_k».proof.Proof.Gen.Ungate
public import proofs.«01_k».proof.Proof.UngatePlain
public import Idealize.ShloMosaic.Lib.Quiescent

@[expose] public section

noncomputable section

namespace Cert.Proof

open Idealize.ShloMosaic Idealize.ShloMosaic.TcCoe Idealize.SL.Sem Cert.Exchange

/-- The kernel as printed and its idealization have the same text, so their body tables agree, at any floats. -/
theorem bodies {F : FTy → Type} [FloatOps F] : Cert.Kernel.defs₀ (F := F) = Cert.KernelIdeal.defs₀ (F := F) := by
  refine congrArg Defs.onTc ?_
  funext l a
  match l, a with
  | ⟨0, _⟩, (_, _) => rfl
  | ⟨1, _⟩, (_, _) => rfl

theorem tables {F : FTy → Type} [FloatOps F] : Cert.Kernel.defs (F := F) = Cert.KernelIdeal.defs (F := F) :=
  congrArg (Pipeline.defs Cert.KernelIdeal.pcfgs) bodies

theorem frame_kernel : Cert.quiescent_Kernel := fun m ρ _ =>
  (congrArg (fun d => θ_run d (onTc (τ := Cert.Kernel.τ) (Cert.KernelIdeal.main (F := Bits))) ⟨m, fun _ => 0, ρ⟩ _)
      (tables (F := Bits))).mpr
    ((θ_run Cert.KernelIdeal.defs _ _).mono (fun _ h => ⟨fun c => (h.1 c).2, h.2⟩) (run_main (F := Bits) m ρ))

theorem frame_ideal : Cert.quiescent_KernelIdeal := fun m ρ _ =>
  (θ_run Cert.KernelIdeal.defs _ _).mono (fun _ h => ⟨fun c => (h.1 c).2, h.2⟩) (run_main (F := Ideal) m ρ)

/-- The reference has no semaphores at all. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

theorem same : Cert.algebraic_KernelIdeal_ReferenceIdeal := by
  intro m ρ m' ρ' _ hm
  refine ⟨_, _, _, _, (θ_run Cert.KernelIdeal.defs _ _).mono
      (fun r h c => ⟨(h.1 c).1.1.trans ?_, (h.1 c).1.2.1.trans ?_, (h.1 c).1.2.2.1.trans ?_, (h.1 c).1.2.2.2.trans ?_, (h.1 c).2⟩)
      (run_main m ρ),
    (θ_run Cert.ReferenceIdeal.defs _ _).mono (fun r h => h 0) (Cert.ReferenceIdeal.Value.run m' ρ')⟩
  all_goals
    have hg : gradOf m c = blockOf (α := EReal) c (Host.reduceAdd _ (constant (F := Ideal) Cert.ReferenceIdeal.S_ .f32 0x00000000#32) _ _) (by decide) :=
      (congrArg sum8 (funext fun j => funext fun y => congrFun (hm j).1 (at3 c y))).trans
        (total_block (m' (((0 : Dev Cert.ReferenceIdeal.nD) : Thread Cert.ReferenceIdeal.nD Cert.ReferenceIdeal.τ).loc Cert.ReferenceIdeal.main_arg0)) c
          Cert.ReferenceIdeal.Gen.facts.1.shapeCasts_S64x6656x128_S8x53248x128 Cert.ReferenceIdeal.Gen.facts.1.reducesTo_S8x53248x128_S53248x128_d0 Cert.ReferenceIdeal.Gen.facts.1.h_S_ (by decide) (by decide)).symm
    have hM := congrArg₂ (newM (F := Ideal) (s := Cert.KernelIdeal.S6656x128)) hg (hm c).2.2.1
    have hV := congrArg₂ (newV (F := Ideal) (s := Cert.KernelIdeal.S6656x128)) hg (hm c).2.2.2
    have hD := congr (congrArg₂ (delta (F := Ideal) (s := Cert.KernelIdeal.S6656x128)) hM hV) (hm c).2.1
  · exact hg
  · exact hD
  · exact hM
  · exact hV

/-! ## The gathering of the weights -/

theorem frame_gather : Cert.quiescent_Gather := fun m ρ _ =>
  (θ_run Cert.GatherIdeal.defs _ _).mono (fun _ h => ⟨fun c => (h.1 c).2, h.2⟩) (Cert.Weights.run_main (F := Bits) m ρ)

theorem frame_gather_ideal : Cert.quiescent_GatherIdeal := fun m ρ _ =>
  (θ_run Cert.GatherIdeal.defs _ _).mono (fun _ h => ⟨fun c => (h.1 c).2, h.2⟩) (Cert.Weights.run_main (F := Ideal) m ρ)

theorem frame_gather_ref : Cert.quiescent_GatherReferenceIdeal := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)

theorem frame_gather_ref_bits : Cert.quiescent_GatherReference := fun m ρ _ =>
  (θ_run Cert.GatherReferenceIdeal.defs _ _).mono (fun r h => ⟨fun c => (h c).2, sem_eq_zero_of_no_sems (by decide) r.2⟩)
    (Cert.GatherReferenceIdeal.Value.run (F := Bits) m ρ)

/-- Device by device the gathering ends with the reference's result, at any floats: it only moves data. -/
theorem gathered_whole {F : FTy → Type} [FloatOps F]
    (m : (ℓ : Loc Cert.GatherIdeal.nD Cert.GatherIdeal.τ Cert.GatherIdeal.sig) → Buf (Elt F) ℓ)
    (x : Cert.GatherReferenceIdeal.S47360x128.Idx → Elt F .bf16)
    (hm : ∀ c, Cert.Weights.packOf m c = Layout.block ⟨2, ![5920, 128]⟩ ⟨2, ![47360, 128]⟩ 0 8 c x) :
    Cert.Weights.gathered m
      = shapeCast _ x Cert.GatherReferenceIdeal.Gen.shapeCasts_S47360x128_S8x5920x128 :=
  funext fun i => (congrFun (hm (slotIx i)) (restIx i)).trans (Cert.Weights.whole_block _ _ _ i)

theorem same_gather : Cert.algebraic_GatherIdeal_GatherReferenceIdeal := fun m ρ m' ρ' _ hm =>
  ⟨_, (θ_run Cert.GatherIdeal.defs _ _).mono (fun _ h c => ⟨(h.1 c).1.trans (gathered_whole m _ hm), (h.1 c).2⟩)
      (Cert.Weights.run_main (F := Ideal) m ρ),
    (θ_run Cert.GatherReferenceIdeal.defs _ _).mono (fun _ h => h 0) (Cert.GatherReferenceIdeal.Value.run (F := Ideal) m' ρ')⟩

theorem same_gather_bits : Cert.bitexact_Gather_GatherReference := fun m ρ m' ρ' _ hm =>
  ⟨_, (θ_run Cert.GatherIdeal.defs _ _).mono (fun _ h c => ⟨(h.1 c).1.trans (gathered_whole m _ hm), (h.1 c).2⟩)
      (Cert.Weights.run_main (F := Bits) m ρ),
    (θ_run Cert.GatherReferenceIdeal.defs _ _).mono (fun _ h => h 0) (Cert.GatherReferenceIdeal.Value.run (F := Bits) m' ρ')⟩

/-! ## The backward pass of the norm and the input projection -/

theorem inward_bodies {F : FTy → Type} [FloatOps F] : Cert.Inproj.defs₀ (F := F) = Cert.InprojIdeal.defs₀ (F := F) := by
  refine congrArg Defs.onTc ?_
  funext l a
  match l, a with
  | ⟨0, _⟩, (_, _) => rfl

theorem inward_tables {F : FTy → Type} [FloatOps F] : Cert.Inproj.defs (F := F) = Cert.InprojIdeal.defs (F := F) :=
  congrArg (Pipeline.defs Cert.InprojIdeal.pcfgs) inward_bodies

theorem frame_inward : Cert.quiescent_Inproj := fun m ρ _ =>
  (congrArg (fun d => θ_run d (onTc (τ := Cert.Inproj.τ) (Cert.InprojIdeal.main (F := Bits))) ⟨m, fun _ => 0, ρ⟩ _)
      (inward_tables (F := Bits))).mpr (Cert.InprojIdeal.Gen.frame (F := Bits) m ρ)

theorem frame_inward_ideal : Cert.quiescent_InprojIdeal := fun m ρ _ => Cert.InprojIdeal.Gen.frame (F := Ideal) m ρ

theorem frame_inward_ref : Cert.quiescent_InprojReferenceIdeal := fun m ρ _ =>
  (θ_run Cert.InprojReferenceIdeal.defs _ _).mono
    (fun r h => ⟨fun c => (h c).2.2.2.2.2.2, sem_eq_zero_of_no_sems (by decide) r.2⟩) (Cert.Derived.run_main m ρ)

theorem same_inward : Cert.algebraic_InprojIdeal_InprojReferenceIdeal := by
  intro m ρ m' ρ' _ hm
  have hA : ∀ c, Cert.Derived.args m' c = Cert.Inward.args m c := fun c => by
    obtain ⟨h0, h1, h2, h3, h4, h5, h6, h7, h8, h9, h10⟩ := hm c
    unfold Cert.Derived.args Cert.Inward.args
    rw [h0, h1, h2, h3, h4, h5, h6, h7, h8, h9, h10]
  refine ⟨_, _, _, _, _, _, Cert.Inward.run_main m ρ, (θ_run Cert.InprojReferenceIdeal.defs _ _).mono (fun r h c => ?_) (Cert.Derived.run_main m' ρ')⟩
  have := h c
  rw [hA c] at this
  exact this

/-! ## The norm and the input projection -/

theorem forward_bodies {F : FTy → Type} [FloatOps F] : Cert.Project.defs₀ (F := F) = Cert.ProjectIdeal.defs₀ (F := F) := by
  refine congrArg Defs.onTc ?_
  funext l a
  match l, a with
  | ⟨0, _⟩, (_, _) => rfl

theorem forward_tables {F : FTy → Type} [FloatOps F] : Cert.Project.defs (F := F) = Cert.ProjectIdeal.defs (F := F) :=
  congrArg (Pipeline.defs Cert.ProjectIdeal.pcfgs) forward_bodies

theorem frame_forward : Cert.quiescent_Project := fun m ρ _ =>
  (congrArg (fun d => θ_run d (onTc (τ := Cert.Project.τ) (Cert.ProjectIdeal.main (F := Bits))) ⟨m, fun _ => 0, ρ⟩ _)
      (forward_tables (F := Bits))).mpr (Cert.ProjectIdeal.Gen.frame (F := Bits) m ρ)

theorem frame_forward_ideal : Cert.quiescent_ProjectIdeal := fun m ρ _ => Cert.ProjectIdeal.Gen.frame (F := Ideal) m ρ

theorem frame_forward_ref : Cert.quiescent_ProjectReferenceIdeal := fun m ρ _ =>
  (θ_run Cert.ProjectReferenceIdeal.defs _ _).mono
    (fun r h => ⟨fun c => (h c).2, sem_eq_zero_of_no_sems (by decide) r.2⟩) (Cert.ForwardPlain.run_main m ρ)

theorem same_forward : Cert.algebraic_ProjectIdeal_ProjectReferenceIdeal := by
  intro m ρ m' ρ' _ hm
  refine ⟨_, _, _, _, Cert.Forward.run_main m ρ, (θ_run Cert.ProjectReferenceIdeal.defs _ _).mono (fun r h c => ?_) (Cert.ForwardPlain.run_main m' ρ')⟩
  obtain ⟨h0, h1, h2, h3, h4, h5⟩ := hm c
  have := h c
  refine ⟨this.1.1.trans ?_, this.1.2.1.trans ?_, this.1.2.2.1.trans ?_, this.1.2.2.2.trans ?_, this.2⟩
  all_goals rw [h0, h1]
  · rw [h2]
  · rw [h3]
  · rw [h4]
  · rw [h5]

/-! ## The spatial gating -/

theorem gate_bodies {F : FTy → Type} [FloatOps F] : Cert.Gating.defs₀ (F := F) = Cert.GatingIdeal.defs₀ (F := F) := by
  refine congrArg Defs.onTc ?_
  funext l a
  match l, a with
  | ⟨0, _⟩, (_, _) => rfl

theorem gate_tables {F : FTy → Type} [FloatOps F] : Cert.Gating.defs (F := F) = Cert.GatingIdeal.defs (F := F) :=
  congrArg (Pipeline.defs Cert.GatingIdeal.pcfgs) gate_bodies

theorem frame_gate : Cert.quiescent_Gating := fun m ρ _ =>
  (congrArg (fun d => θ_run d (onTc (τ := Cert.Gating.τ) (Cert.GatingIdeal.main (F := Bits))) ⟨m, fun _ => 0, ρ⟩ _)
      (gate_tables (F := Bits))).mpr (Cert.GatingIdeal.Gen.frame (F := Bits) m ρ)

theorem frame_gate_ideal : Cert.quiescent_GatingIdeal := fun m ρ _ => Cert.GatingIdeal.Gen.frame (F := Ideal) m ρ

theorem frame_gate_ref : Cert.quiescent_GatingReferenceIdeal := fun m ρ _ =>
  (θ_run Cert.GatingReferenceIdeal.defs _ _).mono
    (fun r h => ⟨fun c => (h c).2, sem_eq_zero_of_no_sems (by decide) r.2⟩) (Cert.GatePlain.run_main m ρ)

theorem same_gate : Cert.algebraic_GatingIdeal_GatingReferenceIdeal := by
  intro m ρ m' ρ' _ hm
  refine ⟨_, Cert.Gate.run_main m ρ, (θ_run Cert.GatingReferenceIdeal.defs _ _).mono (fun r h c => ?_) (Cert.GatePlain.run_main m' ρ')⟩
  obtain ⟨h0, h1, h2, h3, h4⟩ := hm c
  have := h c
  refine ⟨this.1.trans ?_, this.2⟩
  rw [h0, h1, h2, h3, h4]

/-! ## The spatial gating's backward call -/

theorem ungate_bodies {F : FTy → Type} [FloatOps F] : Cert.Ungate.defs₀ (F := F) = Cert.UngateIdeal.defs₀ (F := F) := by
  refine congrArg Defs.onTc ?_
  funext l a
  match l, a with
  | ⟨0, _⟩, (_, _) => rfl

theorem ungate_tables {F : FTy → Type} [FloatOps F] : Cert.Ungate.defs (F := F) = Cert.UngateIdeal.defs (F := F) :=
  congrArg (Pipeline.defs Cert.UngateIdeal.pcfgs) ungate_bodies

theorem frame_ungate : Cert.quiescent_Ungate := fun m ρ _ =>
  (congrArg (fun d => θ_run d (onTc (τ := Cert.Ungate.τ) (Cert.UngateIdeal.main (F := Bits))) ⟨m, fun _ => 0, ρ⟩ _)
      (ungate_tables (F := Bits))).mpr (Cert.UngateIdeal.Gen.frame (F := Bits) m ρ)

theorem frame_ungate_ideal : Cert.quiescent_UngateIdeal := fun m ρ _ => Cert.UngateIdeal.Gen.frame (F := Ideal) m ρ

theorem frame_ungate_ref : Cert.quiescent_UngateReferenceIdeal := fun m ρ _ =>
  (θ_run Cert.UngateReferenceIdeal.defs _ _).mono
    (fun r h => ⟨fun c => (h c).2.2.2.2.2, sem_eq_zero_of_no_sems (by decide) r.2⟩) (Cert.UngatePlain.run_main m ρ)

theorem same_ungate : Cert.algebraic_UngateIdeal_UngateReferenceIdeal := by
  intro m ρ m' ρ' _ hm
  refine ⟨_, _, _, _, _, Cert.Ungate.run_main m ρ,
    (θ_run Cert.UngateReferenceIdeal.defs _ _).mono (fun r h c => ?_) (Cert.UngatePlain.run_main m' ρ')⟩
  obtain ⟨h0, h1, h2, h3, h4, h5⟩ := hm c
  have ht : Cert.UngatePlain.allTiles m' c = Cert.Ungate.allTiles m c := by
    unfold Cert.UngatePlain.allTiles
    rw [h0, h1, h2, h3, h4, h5]
  obtain ⟨hx, hg, hl, hw, hb, hk⟩ := h c
  exact ⟨hx.trans (congrArg _ ht), hg.trans (congrArg _ ht), hl.trans (congrArg _ ht), hw.trans (congrArg _ ht), hb.trans (congrArg _ ht), hk⟩

theorem claim : Cert.Claim :=
  ⟨Cert.Kernel.Gen.facts, Cert.KernelIdeal.Gen.facts, Cert.ReferenceIdeal.Gen.facts,
    Cert.Gather.Gen.facts, Cert.GatherIdeal.Gen.facts, Cert.GatherReferenceIdeal.Gen.facts, Cert.GatherReference.Gen.facts,
    Cert.Inproj.Gen.facts, Cert.InprojIdeal.Gen.facts, Cert.InprojReferenceIdeal.Gen.facts,
    Cert.Project.Gen.facts, Cert.ProjectIdeal.Gen.facts, Cert.ProjectReferenceIdeal.Gen.facts,
    Cert.Gating.Gen.facts, Cert.GatingIdeal.Gen.facts, Cert.GatingReferenceIdeal.Gen.facts,
    Cert.Ungate.Gen.facts, Cert.UngateIdeal.Gen.facts, Cert.UngateReferenceIdeal.Gen.facts,
    frame_kernel, frame_ideal, frame_ref, frame_gather, frame_gather_ideal, frame_gather_ref, frame_gather_ref_bits,
    frame_inward, frame_inward_ideal, frame_inward_ref,
    frame_forward, frame_forward_ideal, frame_forward_ref,
    frame_gate, frame_gate_ideal, frame_gate_ref,
    frame_ungate, frame_ungate_ideal, frame_ungate_ref,
    trivial, same, trivial, same_gather, same_gather_bits, trivial, same_inward, trivial, same_forward, trivial, same_gate, trivial, same_ungate⟩

end Cert.Proof

end
